-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_fit [hPre_scales_fit : Cert.Pre_scales_fit.Facts] (m : (ℓ : Loc Cert.KernelIdeal.nD Cert.KernelIdeal.τ Cert.KernelIdeal.sig) → Buf (Elt Ideal) ℓ) : Prop :=
  ∀ c : Dev Cert.KernelIdeal.nD,
    (Cert.Pre_scales_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_fit [hPre_scales_fit : Cert.Pre_scales_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_fit [hKernelIdeal : Cert.KernelIdeal.Facts] [hPre_scales_fit : Cert.Pre_scales_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_fit [hReferenceIdeal : Cert.ReferenceIdeal.Facts] [hPre_scales_fit : Cert.Pre_scales_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scales_fit [hKernelIdeal : Cert.KernelIdeal.Facts] [hReferenceIdeal : Cert.ReferenceIdeal.Facts] [hPre_scales_fit : Cert.Pre_scales_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_fit : Cert.Pre_scales_fit.Facts),
    quiescent_Kernel (hKernel := hKernel)
    ∧ quiescent_KernelIdeal (hKernelIdeal := hKernelIdeal)
    ∧ quiescent_KernelIdeal_pre_scales_fit (hKernelIdeal := hKernelIdeal) (hPre_scales_fit := hPre_scales_fit)
    ∧ quiescent_ReferenceIdeal (hReferenceIdeal := hReferenceIdeal)
    ∧ quiescent_ReferenceIdeal_pre_scales_fit (hReferenceIdeal := hReferenceIdeal) (hPre_scales_fit := hPre_scales_fit)
    ∧ preserves_Kernel_KernelIdeal
    ∧ algebraic_KernelIdeal_ReferenceIdeal_pre_scales_fit (hKernelIdeal := hKernelIdeal) (hReferenceIdeal := hReferenceIdeal) (hPre_scales_fit := hPre_scales_fit)
-- ==== Pre_scales_fit.lean ====
abbrev S32x1x4096 : Shape := ⟨3, ![32, 1, 4096]⟩
abbrev S4096x92544 : Shape := ⟨2, ![4096, 92544]⟩
abbrev S32x723 : Shape := ⟨2, ![32, 723]⟩
abbrev S32x2892 : Shape := ⟨2, ![32, 2892]⟩
abbrev S32x1x60 : Shape := ⟨3, ![32, 1, 60]⟩
abbrev S_ : Shape := ⟨0, ![]⟩
abbrev S32x1 : Shape := ⟨2, ![32, 1]⟩

class Facts : Prop where
  bitsLt_bf16_f32 : FTy.bits .bf16 < FTy.bits .f32
  reducesTo_S32x1x4096_S32x1_d2 : S32x1x4096.ReducesTo [2] S32x1
  h_S_ : 0 < S_.numel
  bcast_S_S32x1 : S_.BroadcastsInDim S32x1 (![] : Fin 0 → Fin S32x1.rank)
  reducesTo_S32x1_S_d0_1 : S32x1.ReducesTo [0, 1] S_

variable [Facts]

def fn {F : FTy → Type} [FloatOps F] (main_arg0 : FVec F S32x1x4096 .bf16) (main_arg1 : FVec F S4096x92544 .fp8e4m3) (main_arg2 : FVec F S32x723 .f32) (main_arg3 : IVec S32x2892 32) (main_arg4 : IVec S32x1x60 32) : IVec S_ 1 :=
  let main_v0 : FVec F S32x1x4096 .f32 := (extf .f32 · bitsLt_bf16_f32) main_arg0
  let main_v1 : FVec F S32x1x4096 .f32 := Host.absf main_v0
  let main_cst : FVec F S_ .f32 := constant S_ .f32 0xFF800000#32
  let main_v2 : FVec F S32x1 .f32 := (fun x v => Host.reduce FloatOps.maximumf x v reducesTo_S32x1x4096_S32x1_d2 h_S_) main_v1 main_cst
  let main_cst_0 : FVec F S_ .f32 := constant S_ .f32 0x00000000#32
  let main_v3 : FVec F S32x1 .f32 := broadcastInDim S32x1 ![] bcast_S_S32x1 main_cst_0
  let main_v4 : IVec S32x1 1 := cmpf .oeq main_v2 main_v3
  let main_cst_1 : FVec F S_ .f32 := constant S_ .f32 0x04800000#32
  let main_v5 : FVec F S32x1 .f32 := broadcastInDim S32x1 ![] bcast_S_S32x1 main_cst_1
  let main_v6 : IVec S32x1 1 := cmpf .oge main_v2 main_v5
  let main_cst_2 : FVec F S_ .f32 := constant S_ .f32 0x7F7F0000#32
  let main_v7 : FVec F S32x1 .f32 := broadcastInDim S32x1 ![] bcast_S_S32x1 main_cst_2
  let main_v8 : IVec S32x1 1 := cmpf .ole main_v2 main_v7
  let main_v9 : IVec S32x1 1 := andi main_v6 main_v8
  let main_v10 : IVec S32x1 1 := ori main_v4 main_v9
  let main_c : IVec S_ 1 := constantI S_ 1 1#1
  let main_v11 : IVec S_ 1 := (fun x v => Host.reduce IntOp.andi x v reducesTo_S32x1_S_d0_1 h_S_) main_v10 main_c
  main_v11
-- ==== Kernel.lean ====
abbrev S32x1x4096 : Shape := ⟨3, ![32, 1, 4096]⟩
abbrev S4096x92544 : Shape := ⟨2, ![4096, 92544]⟩
abbrev S32x723 : Shape := ⟨2, ![32, 723]⟩
abbrev S32x2892 : Shape := ⟨2, ![32, 2892]⟩
abbrev S32x1x60 : Shape := ⟨3, ![32, 1, 60]⟩
abbrev S32x4096 : Shape := ⟨2, ![32, 4096]⟩
abbrev S32x60 : Shape := ⟨2, ![32, 60]⟩
abbrev S32x92544 : Shape := ⟨2, ![32, 92544]⟩
abbrev S32x1 : Shape := ⟨2, ![32, 1]⟩
abbrev S4096x2048 : Shape := ⟨2, ![4096, 2048]⟩
abbrev S32x2048 : Shape := ⟨2, ![32, 2048]⟩
abbrev S32x128 : Shape := ⟨2, ![32, 128]⟩
abbrev S32x2944 : Shape := ⟨2, ![32, 2944]⟩
abbrev S32x768 : Shape := ⟨2, ![32, 768]⟩
abbrev S2x32x128 : Shape := ⟨3, ![2, 32, 128]⟩
abbrev S32 : Shape := ⟨1, ![32]⟩
abbrev S32x256 : Shape := ⟨2, ![32, 256]⟩
abbrev S32x128x1 : Shape := ⟨3, ![32, 128, 1]⟩
abbrev S1x32x128 : Shape := ⟨3, ![1, 32, 128]⟩
abbrev S1x1x128 : Shape := ⟨3, ![1, 1, 128]⟩
abbrev S1x128 : Shape := ⟨2, ![1, 128]⟩
abbrev S64x4096 : Shape := ⟨2, ![64, 4096]⟩
abbrev S4096x256 : Shape := ⟨2, ![4096, 256]⟩
abbrev S64x256 : Shape := ⟨2, ![64, 256]⟩

abbrev nBuf : Space → Nat
  | .hbm => 12
  | .vmem => 21
  | .smem => 0
  | _ => 0

abbrev bufTy : (tb : Table) → Fin (tcTables nBuf tb) → BufTy
  | .hbm, ⟨0, _⟩ => ⟨S32x1x4096, .bf16⟩
  | .hbm, ⟨1, _⟩ => ⟨S4096x92544, .fp8e4m3⟩
  | .hbm, ⟨2, _⟩ => ⟨S32x723, .f32⟩
  | .hbm, ⟨3, _⟩ => ⟨S32x2892, .i32⟩
  | .hbm, ⟨4, _⟩ => ⟨S32x1x60, .i32⟩
  | .hbm, ⟨5, _⟩ => ⟨S32x4096, .bf16⟩
  | .hbm, ⟨6, _⟩ => ⟨S32x60, .i32⟩
  | .hbm, ⟨7, _⟩ => ⟨S32x92544, .f32⟩
  | .hbm, ⟨8, _⟩ => ⟨S32x1, .f32⟩
  | .hbm, ⟨9, _⟩ => ⟨S32x60, .f32⟩
  | .hbm, ⟨10, _⟩ => ⟨S32x4096, .fp8e4m3⟩
  | .hbm, ⟨11, _⟩ => ⟨S32x1, .f32⟩
  | .local _ .vmem, ⟨0, _⟩ => ⟨S32x4096, .bf16⟩
  | .local _ .vmem, ⟨1, _⟩ => ⟨S4096x2048, .fp8e4m3⟩
  | .local _ .vmem, ⟨2, _⟩ => ⟨S4096x2048, .fp8e4m3⟩
  | .local _ .vmem, ⟨3, _⟩ => ⟨S32x723, .f32⟩
  | .local _ .vmem, ⟨4, _⟩ => ⟨S32x2892, .i32⟩
  | .local _ .vmem, ⟨5, _⟩ => ⟨S32x60, .i32⟩
  | .local _ .vmem, ⟨6, _⟩ => ⟨S32x2048, .f32⟩
  | .local _ .vmem, ⟨7, _⟩ => ⟨S32x2048, .f32⟩
  | .local _ .vmem, ⟨8, _⟩ => ⟨S32x1, .f32⟩
  | .local _ .vmem, ⟨9, _⟩ => ⟨S32x60, .f32⟩
  | .local _ .vmem, ⟨10, _⟩ => ⟨S32x4096, .fp8e4m3⟩
  | .local _ .vmem, ⟨11, _⟩ => ⟨S32x1, .f32⟩
  | .local _ .vmem, ⟨12, _⟩ => ⟨S32x4096, .bf16⟩
  | .local _ .vmem, ⟨13, _⟩ => ⟨S32x128, .f32⟩
  | .local _ .vmem, ⟨14, _⟩ => ⟨S32x2944, .i32⟩
  | .local _ .vmem, ⟨15, _⟩ => ⟨S32x768, .f32⟩
  | .local _ .vmem, ⟨16, _⟩ => ⟨S2x32x128, .f32⟩
  | .local _ .vmem, ⟨17, _⟩ => ⟨S32x128, .f32⟩
  | .local _ .vmem, ⟨18, _⟩ => ⟨S32x128, .f32⟩
  | .local _ .vmem, ⟨19, _⟩ => ⟨S32x128, .i32⟩
  | .local _ .vmem, ⟨20, _⟩ => ⟨S32x128, .f32⟩
  | _, _ => ⟨S32x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![46], ![false]⟩

def k0_mult1 (i : grid0.Coords) : BitVec 32 :=
  let arg0 : BitVec 32 := BitVec.ofNat 32 (i 0).val
  let c16_i32 : BitVec 32 := 16#32
  let v13 : BitVec 32 := Scalar.muli arg0 c16_i32
  let c0_i32_10 : BitVec 32 := 0#32
  let v14 : BitVec 32 := Scalar.addi v13 c0_i32_10
  let c0_i32_11 : BitVec 32 := 0#32
  let v15 : BitVec 32 := Scalar.addi v14 c0_i32_11
  let c722_i32 : BitVec 32 := 722#32
  let v16 : BitVec 32 := Scalar.minsi v15 c722_i32
  let c0_i32_12 : BitVec 32 := 0#32
  let v18 : BitVec 1 := Scalar.cmpi .sgt v16 c0_i32_12
  let v19 : BitVec 32 := Scalar.extui v18
  let c0_i32_13 : BitVec 32 := 0#32
  let v20 : BitVec 1 := Scalar.cmpi .slt v16 c0_i32_13
  let v21 : BitVec 32 := Scalar.extui v20
  let v22 : BitVec 32 := Scalar.subi v19 v21
  let c128_i32 : BitVec 32 := 128#32
  let c0_i32_14 : BitVec 32 := 0#32
  let v23 : BitVec 1 := Scalar.cmpi .sgt c128_i32 c0_i32_14
  let v24 : BitVec 32 := Scalar.extui v23
  let c0_i32_15 : BitVec 32 := 0#32
  let v25 : BitVec 1 := Scalar.cmpi .slt c128_i32 c0_i32_15
  let v26 : BitVec 32 := Scalar.extui v25
  let v27 : BitVec 32 := Scalar.subi v24 v26
  let v28 : BitVec 1 := Scalar.cmpi .ne v22 v27
  let v29 : BitVec 32 := Scalar.remsi v16 c128_i32
  let c0_i32_16 : BitVec 32 := 0#32
  let v30 : BitVec 1 := Scalar.cmpi .ne v29 c0_i32_16
  let v31 : BitVec 1 := Scalar.andi v28 v30
  let v17 : BitVec 32 := Scalar.divsi v16 c128_i32
  let c1_i32 : BitVec 32 := 1#32
  let v32 : BitVec 32 := Scalar.subi v17 c1_i32
  let v33 : BitVec 32 := Scalar.select v31 v32 v17
  let c128_i32_17 : BitVec 32 := 128#32
  let v34 : BitVec 32 := Scalar.muli v33 c128_i32_17
  v34
def k0_off1 (i : grid0.Coords) (c0_i32_10 : BitVec 32) (c0_i32_11 : BitVec 32) : Fin 2 → Nat :=
  let c0_24 : Index := 0#32
  let arg0 : BitVec 32 := BitVec.ofNat 32 (i 0).val
  let c16_i32 : BitVec 32 := 16#32
  let v13 : BitVec 32 := Scalar.muli arg0 c16_i32
  let v14 : BitVec 32 := Scalar.addi v13 c0_i32_10
  let v15 : BitVec 32 := Scalar.addi v14 c0_i32_11
  let c722_i32 : BitVec 32 := 722#32
  let v16 : BitVec 32 := Scalar.minsi v15 c722_i32
  let c0_i32_12 : BitVec 32 := 0#32
  let v18 : BitVec 1 := Scalar.cmpi .sgt v16 c0_i32_12
  let v19 : BitVec 32 := Scalar.extui v18
  let c0_i32_13 : BitVec 32 := 0#32
  let v20 : BitVec 1 := Scalar.cmpi .slt v16 c0_i32_13
  let v21 : BitVec 32 := Scalar.extui v20
  let v22 : BitVec 32 := Scalar.subi v19 v21
  let c128_i32 : BitVec 32 := 128#32
  let c0_i32_14 : BitVec 32 := 0#32
  let v23 : BitVec 1 := Scalar.cmpi .sgt c128_i32 c0_i32_14
  let v24 : BitVec 32 := Scalar.extui v23
  let c0_i32_15 : BitVec 32 := 0#32
  let v25 : BitVec 1 := Scalar.cmpi .slt c128_i32 c0_i32_15
  let v26 : BitVec 32 := Scalar.extui v25
  let v27 : BitVec 32 := Scalar.subi v24 v26
  let v28 : BitVec 1 := Scalar.cmpi .ne v22 v27
  let v29 : BitVec 32 := Scalar.remsi v16 c128_i32
  let c0_i32_16 : BitVec 32 := 0#32
  let v30 : BitVec 1 := Scalar.cmpi .ne v29 c0_i32_16
  let v31 : BitVec 1 := Scalar.andi v28 v30
  let v17 : BitVec 32 := Scalar.divsi v16 c128_i32
  let c1_i32 : BitVec 32 := 1#32
  let v32 : BitVec 32 := Scalar.subi v17 c1_i32
  let v33 : BitVec 32 := Scalar.select v31 v32 v17
  let c128_i32_17 : BitVec 32 := 128#32
  let v34 : BitVec 32 := Scalar.muli v33 c128_i32_17
  let v35 : BitVec 32 := v34
  let v47 : Index := Scalar.indexCast v35
  ![0, v47.toNat]
def k0_mult2 (i : grid0.Coords) : BitVec 32 :=
  let arg0 : BitVec 32 := BitVec.ofNat 32 (i 0).val
  let c16_i32_128 : BitVec 32 := 16#32
  let v285 : BitVec 32 := Scalar.muli arg0 c16_i32_128
  let c0_i32_129 : BitVec 32 := 0#32
  let v286 : BitVec 32 := Scalar.addi v285 c0_i32_129
  let c1_i32_130 : BitVec 32 := 1#32
  let v287 : BitVec 32 := Scalar.addi v286 c1_i32_130
  let c722_i32_131 : BitVec 32 := 722#32
  let v288 : BitVec 32 := Scalar.minsi v287 c722_i32_131
  let c0_i32_133 : BitVec 32 := 0#32
  let v290 : BitVec 1 := Scalar.cmpi .sgt v288 c0_i32_133
  let v291 : BitVec 32 := Scalar.extui v290
  let c0_i32_134 : BitVec 32 := 0#32
  let v292 : BitVec 1 := Scalar.cmpi .slt v288 c0_i32_134
  let v293 : BitVec 32 := Scalar.extui v292
  let v294 : BitVec 32 := Scalar.subi v291 v293
  let c128_i32_132 : BitVec 32 := 128#32
  let c0_i32_135 : BitVec 32 := 0#32
  let v295 : BitVec 1 := Scalar.cmpi .sgt c128_i32_132 c0_i32_135
  let v296 : BitVec 32 := Scalar.extui v295
  let c0_i32_136 : BitVec 32 := 0#32
  let v297 : BitVec 1 := Scalar.cmpi .slt c128_i32_132 c0_i32_136
  let v298 : BitVec 32 := Scalar.extui v297
  let v299 : BitVec 32 := Scalar.subi v296 v298
  let v300 : BitVec 1 := Scalar.cmpi .ne v294 v299
  let v301 : BitVec 32 := Scalar.remsi v288 c128_i32_132
  let c0_i32_137 : BitVec 32 := 0#32
  let v302 : BitVec 1 := Scalar.cmpi .ne v301 c0_i32_137
  let v303 : BitVec 1 := Scalar.andi v300 v302
  let v289 : BitVec 32 := Scalar.divsi v288 c128_i32_132
  let c1_i32_138 : BitVec 32 := 1#32
  let v304 : BitVec 32 := Scalar.subi v289 c1_i32_138
  let v305 : BitVec 32 := Scalar.select v303 v304 v289
  let c128_i32_139 : BitVec 32 := 128#32
  let v306 : BitVec 32 := Scalar.muli v305 c128_i32_139
  v306
def k0_mult3 (i : grid0.Coords) : BitVec 32 :=
  let arg0 : BitVec 32 := BitVec.ofNat 32 (i 0).val
  let c16_i32_314 : BitVec 32 := 16#32
  let v560 : BitVec 32 := Scalar.muli arg0 c16_i32_314
  let c0_i32_315 : BitVec 32 := 0#32
  let v561 : BitVec 32 := Scalar.addi v560 c0_i32_315
  let c723_i32 : BitVec 32 := 723#32
  let v564 : BitVec 32 := Scalar.minsi v561 c723_i32
  let c4_i32 : BitVec 32 := 4#32
  let v565 : BitVec 32 := Scalar.muli v564 c4_i32
  let c0_i32_317 : BitVec 32 := 0#32
  let v567 : BitVec 1 := Scalar.cmpi .sgt v565 c0_i32_317
  let v568 : BitVec 32 := Scalar.extui v567
  let c0_i32_318 : BitVec 32 := 0#32
  let v569 : BitVec 1 := Scalar.cmpi .slt v565 c0_i32_318
  let v570 : BitVec 32 := Scalar.extui v569
  let v571 : BitVec 32 := Scalar.subi v568 v570
  let c128_i32_316 : BitVec 32 := 128#32
  let c0_i32_319 : BitVec 32 := 0#32
  let v572 : BitVec 1 := Scalar.cmpi .sgt c128_i32_316 c0_i32_319
  let v573 : BitVec 32 := Scalar.extui v572
  let c0_i32_320 : BitVec 32 := 0#32
  let v574 : BitVec 1 := Scalar.cmpi .slt c128_i32_316 c0_i32_320
  let v575 : BitVec 32 := Scalar.extui v574
  let v576 : BitVec 32 := Scalar.subi v573 v575
  let v577 : BitVec 1 := Scalar.cmpi .ne v571 v576
  let v578 : BitVec 32 := Scalar.remsi v565 c128_i32_316
  let c0_i32_321 : BitVec 32 := 0#32
  let v579 : BitVec 1 := Scalar.cmpi .ne v578 c0_i32_321
  let v580 : BitVec 1 := Scalar.andi v577 v579
  let v566 : BitVec 32 := Scalar.divsi v565 c128_i32_316
  let c1_i32_322 : BitVec 32 := 1#32
  let v581 : BitVec 32 := Scalar.subi v566 c1_i32_322
  let v582 : BitVec 32 := Scalar.select v580 v581 v566
  let c128_i32_323 : BitVec 32 := 128#32
  let v583 : BitVec 32 := Scalar.muli v582 c128_i32_323
  v583
def k0_off2 (i : grid0.Coords) (c0_i32_315 : BitVec 32) : Fin 2 → Nat :=
  let c0_324 : Index := 0#32
  let arg0 : BitVec 32 := BitVec.ofNat 32 (i 0).val
  let c16_i32_314 : BitVec 32 := 16#32
  let v560 : BitVec 32 := Scalar.muli arg0 c16_i32_314
  let v561 : BitVec 32 := Scalar.addi v560 c0_i32_315
  let c723_i32 : BitVec 32 := 723#32
  let v564 : BitVec 32 := Scalar.minsi v561 c723_i32
  let c4_i32 : BitVec 32 := 4#32
  let v565 : BitVec 32 := Scalar.muli v564 c4_i32
  let c0_i32_317 : BitVec 32 := 0#32
  let v567 : BitVec 1 := Scalar.cmpi .sgt v565 c0_i32_317
  let v568 : BitVec 32 := Scalar.extui v567
  let c0_i32_318 : BitVec 32 := 0#32
  let v569 : BitVec 1 := Scalar.cmpi .slt v565 c0_i32_318
  let v570 : BitVec 32 := Scalar.extui v569
  let v571 : BitVec 32 := Scalar.subi v568 v570
  let c128_i32_316 : BitVec 32 := 128#32
  let c0_i32_319 : BitVec 32 := 0#32
  let v572 : BitVec 1 := Scalar.cmpi .sgt c128_i32_316 c0_i32_319
  let v573 : BitVec 32 := Scalar.extui v572
  let c0_i32_320 : BitVec 32 := 0#32
  let v574 : BitVec 1 := Scalar.cmpi .slt c128_i32_316 c0_i32_320
  let v575 : BitVec 32 := Scalar.extui v574
  let v576 : BitVec 32 := Scalar.subi v573 v575
  let v577 : BitVec 1 := Scalar.cmpi .ne v571 v576
  let v578 : BitVec 32 := Scalar.remsi v565 c128_i32_316
  let c0_i32_321 : BitVec 32 := 0#32
  let v579 : BitVec 1 := Scalar.cmpi .ne v578 c0_i32_321
  let v580 : BitVec 1 := Scalar.andi v577 v579
  let v566 : BitVec 32 := Scalar.divsi v565 c128_i32_316
  let c1_i32_322 : BitVec 32 := 1#32
  let v581 : BitVec 32 := Scalar.subi v566 c1_i32_322
  let v582 : BitVec 32 := Scalar.select v580 v581 v566
  let c128_i32_323 : BitVec 32 := 128#32
  let v583 : BitVec 32 := Scalar.muli v582 c128_i32_323
  let v584 : BitVec 32 := v583
  let v585 : Index := Scalar.indexCast v584
  ![0, v585.toNat]
def k0_mult4 (i : grid0.Coords) : BitVec 32 :=
  let arg0 : BitVec 32 := BitVec.ofNat 32 (i 0).val
  let c16_i32_341 : BitVec 32 := 16#32
  let v632 : BitVec 32 := Scalar.muli arg0 c16_i32_341
  let c1_i32_342 : BitVec 32 := 1#32
  let v633 : BitVec 32 := Scalar.addi v632 c1_i32_342
  let c723_i32_343 : BitVec 32 := 723#32
  let v636 : BitVec 32 := Scalar.minsi v633 c723_i32_343
  let c4_i32_344 : BitVec 32 := 4#32
  let v637 : BitVec 32 := Scalar.muli v636 c4_i32_344
  let c0_i32_346 : BitVec 32 := 0#32
  let v639 : BitVec 1 := Scalar.cmpi .sgt v637 c0_i32_346
  let v640 : BitVec 32 := Scalar.extui v639
  let c0_i32_347 : BitVec 32 := 0#32
  let v641 : BitVec 1 := Scalar.cmpi .slt v637 c0_i32_347
  let v642 : BitVec 32 := Scalar.extui v641
  let v643 : BitVec 32 := Scalar.subi v640 v642
  let c128_i32_345 : BitVec 32 := 128#32
  let c0_i32_348 : BitVec 32 := 0#32
  let v644 : BitVec 1 := Scalar.cmpi .sgt c128_i32_345 c0_i32_348
  let v645 : BitVec 32 := Scalar.extui v644
  let c0_i32_349 : BitVec 32 := 0#32
  let v646 : BitVec 1 := Scalar.cmpi .slt c128_i32_345 c0_i32_349
  let v647 : BitVec 32 := Scalar.extui v646
  let v648 : BitVec 32 := Scalar.subi v645 v647
  let v649 : BitVec 1 := Scalar.cmpi .ne v643 v648
  let v650 : BitVec 32 := Scalar.remsi v637 c128_i32_345
  let c0_i32_350 : BitVec 32 := 0#32
  let v651 : BitVec 1 := Scalar.cmpi .ne v650 c0_i32_350
  let v652 : BitVec 1 := Scalar.andi v649 v651
  let v638 : BitVec 32 := Scalar.divsi v637 c128_i32_345
  let c1_i32_351 : BitVec 32 := 1#32
  let v653 : BitVec 32 := Scalar.subi v638 c1_i32_351
  let v654 : BitVec 32 := Scalar.select v652 v653 v638
  let c128_i32_352 : BitVec 32 := 128#32
  let v655 : BitVec 32 := Scalar.muli v654 c128_i32_352
  v655
def k0_mult5 (i : grid0.Coords) : BitVec 32 :=
  let arg0 : BitVec 32 := BitVec.ofNat 32 (i 0).val
  let c16_i32_372 : BitVec 32 := 16#32
  let v715 : BitVec 32 := Scalar.muli arg0 c16_i32_372
  let c2_i32 : BitVec 32 := 2#32
  let v716 : BitVec 32 := Scalar.addi v715 c2_i32
  let c0_i32_373 : BitVec 32 := 0#32
  let v717 : BitVec 32 := Scalar.addi v716 c0_i32_373
  let c722_i32_374 : BitVec 32 := 722#32
  let v718 : BitVec 32 := Scalar.minsi v717 c722_i32_374
  let c0_i32_376 : BitVec 32 := 0#32
  let v720 : BitVec 1 := Scalar.cmpi .sgt v718 c0_i32_376
  let v721 : BitVec 32 := Scalar.extui v720
  let c0_i32_377 : BitVec 32 := 0#32
  let v722 : BitVec 1 := Scalar.cmpi .slt v718 c0_i32_377
  let v723 : BitVec 32 := Scalar.extui v722
  let v724 : BitVec 32 := Scalar.subi v721 v723
  let c128_i32_375 : BitVec 32 := 128#32
  let c0_i32_378 : BitVec 32 := 0#32
  let v725 : BitVec 1 := Scalar.cmpi .sgt c128_i32_375 c0_i32_378
  let v726 : BitVec 32 := Scalar.extui v725
  let c0_i32_379 : BitVec 32 := 0#32
  let v727 : BitVec 1 := Scalar.cmpi .slt c128_i32_375 c0_i32_379
  let v728 : BitVec 32 := Scalar.extui v727
  let v729 : BitVec 32 := Scalar.subi v726 v728
  let v730 : BitVec 1 := Scalar.cmpi .ne v724 v729
  let v731 : BitVec 32 := Scalar.remsi v718 c128_i32_375
  let c0_i32_380 : BitVec 32 := 0#32
  let v732 : BitVec 1 := Scalar.cmpi .ne v731 c0_i32_380
  let v733 : BitVec 1 := Scalar.andi v730 v732
  let v719 : BitVec 32 := Scalar.divsi v718 c128_i32_375
  let c1_i32_381 : BitVec 32 := 1#32
  let v734 : BitVec 32 := Scalar.subi v719 c1_i32_381
  let v735 : BitVec 32 := Scalar.select v733 v734 v719
  let c128_i32_382 : BitVec 32 := 128#32
  let v736 : BitVec 32 := Scalar.muli v735 c128_i32_382
  v736
def k0_mult6 (i : grid0.Coords) : BitVec 32 :=
  let arg0 : BitVec 32 := BitVec.ofNat 32 (i 0).val
  let c16_i32_555 : BitVec 32 := 16#32
  let v987 : BitVec 32 := Scalar.muli arg0 c16_i32_555
  let c2_i32_556 : BitVec 32 := 2#32
  let v988 : BitVec 32 := Scalar.addi v987 c2_i32_556
  let c1_i32_557 : BitVec 32 := 1#32
  let v989 : BitVec 32 := Scalar.addi v988 c1_i32_557
  let c722_i32_558 : BitVec 32 := 722#32
  let v990 : BitVec 32 := Scalar.minsi v989 c722_i32_558
  let c0_i32_560 : BitVec 32 := 0#32
  let v992 : BitVec 1 := Scalar.cmpi .sgt v990 c0_i32_560
  let v993 : BitVec 32 := Scalar.extui v992
  let c0_i32_561 : BitVec 32 := 0#32
  let v994 : BitVec 1 := Scalar.cmpi .slt v990 c0_i32_561
  let v995 : BitVec 32 := Scalar.extui v994
  let v996 : BitVec 32 := Scalar.subi v993 v995
  let c128_i32_559 : BitVec 32 := 128#32
  let c0_i32_562 : BitVec 32 := 0#32
  let v997 : BitVec 1 := Scalar.cmpi .sgt c128_i32_559 c0_i32_562
  let v998 : BitVec 32 := Scalar.extui v997
  let c0_i32_563 : BitVec 32 := 0#32
  let v999 : BitVec 1 := Scalar.cmpi .slt c128_i32_559 c0_i32_563
  let v1000 : BitVec 32 := Scalar.extui v999
  let v1001 : BitVec 32 := Scalar.subi v998 v1000
  let v1002 : BitVec 1 := Scalar.cmpi .ne v996 v1001
  let v1003 : BitVec 32 := Scalar.remsi v990 c128_i32_559
  let c0_i32_564 : BitVec 32 := 0#32
  let v1004 : BitVec 1 := Scalar.cmpi .ne v1003 c0_i32_564
  let v1005 : BitVec 1 := Scalar.andi v1002 v1004
  let v991 : BitVec 32 := Scalar.divsi v990 c128_i32_559
  let c1_i32_565 : BitVec 32 := 1#32
  let v1006 : BitVec 32 := Scalar.subi v991 c1_i32_565
  let v1007 : BitVec 32 := Scalar.select v1005 v1006 v991
  let c128_i32_566 : BitVec 32 := 128#32
  let v1008 : BitVec 32 := Scalar.muli v1007 c128_i32_566
  v1008
def k0_mult7 (i : grid0.Coords) : BitVec 32 :=
  let arg0 : BitVec 32 := BitVec.ofNat 32 (i 0).val
  let c16_i32_742 : BitVec 32 := 16#32
  let v1262 : BitVec 32 := Scalar.muli arg0 c16_i32_742
  let c2_i32_743 : BitVec 32 := 2#32
  let v1263 : BitVec 32 := Scalar.addi v1262 c2_i32_743
  let c723_i32_744 : BitVec 32 := 723#32
  let v1266 : BitVec 32 := Scalar.minsi v1263 c723_i32_744
  let c4_i32_745 : BitVec 32 := 4#32
  let v1267 : BitVec 32 := Scalar.muli v1266 c4_i32_745
  let c0_i32_747 : BitVec 32 := 0#32
  let v1269 : BitVec 1 := Scalar.cmpi .sgt v1267 c0_i32_747
  let v1270 : BitVec 32 := Scalar.extui v1269
  let c0_i32_748 : BitVec 32 := 0#32
  let v1271 : BitVec 1 := Scalar.cmpi .slt v1267 c0_i32_748
  let v1272 : BitVec 32 := Scalar.extui v1271
  let v1273 : BitVec 32 := Scalar.subi v1270 v1272
  let c128_i32_746 : BitVec 32 := 128#32
  let c0_i32_749 : BitVec 32 := 0#32
  let v1274 : BitVec 1 := Scalar.cmpi .sgt c128_i32_746 c0_i32_749
  let v1275 : BitVec 32 := Scalar.extui v1274
  let c0_i32_750 : BitVec 32 := 0#32
  let v1276 : BitVec 1 := Scalar.cmpi .slt c128_i32_746 c0_i32_750
  let v1277 : BitVec 32 := Scalar.extui v1276
  let v1278 : BitVec 32 := Scalar.subi v1275 v1277
  let v1279 : BitVec 1 := Scalar.cmpi .ne v1273 v1278
  let v1280 : BitVec 32 := Scalar.remsi v1267 c128_i32_746
  let c0_i32_751 : BitVec 32 := 0#32
  let v1281 : BitVec 1 := Scalar.cmpi .ne v1280 c0_i32_751
  let v1282 : BitVec 1 := Scalar.andi v1279 v1281
  let v1268 : BitVec 32 := Scalar.divsi v1267 c128_i32_746
  let c1_i32_752 : BitVec 32 := 1#32
  let v1283 : BitVec 32 := Scalar.subi v1268 c1_i32_752
  let v1284 : BitVec 32 := Scalar.select v1282 v1283 v1268
  let c128_i32_753 : BitVec 32 := 128#32
  let v1285 : BitVec 32 := Scalar.muli v1284 c128_i32_753
  v1285
def k0_mult8 (i : grid0.Coords) : BitVec 32 :=
  let arg0 : BitVec 32 := BitVec.ofNat 32 (i 0).val
  let c16_i32_773 : BitVec 32 := 16#32
  let v1334 : BitVec 32 := Scalar.muli arg0 c16_i32_773
  let c3_i32 : BitVec 32 := 3#32
  let v1335 : BitVec 32 := Scalar.addi v1334 c3_i32
  let c723_i32_774 : BitVec 32 := 723#32
  let v1338 : BitVec 32 := Scalar.minsi v1335 c723_i32_774
  let c4_i32_775 : BitVec 32 := 4#32
  let v1339 : BitVec 32 := Scalar.muli v1338 c4_i32_775
  let c0_i32_777 : BitVec 32 := 0#32
  let v1341 : BitVec 1 := Scalar.cmpi .sgt v1339 c0_i32_777
  let v1342 : BitVec 32 := Scalar.extui v1341
  let c0_i32_778 : BitVec 32 := 0#32
  let v1343 : BitVec 1 := Scalar.cmpi .slt v1339 c0_i32_778
  let v1344 : BitVec 32 := Scalar.extui v1343
  let v1345 : BitVec 32 := Scalar.subi v1342 v1344
  let c128_i32_776 : BitVec 32 := 128#32
  let c0_i32_779 : BitVec 32 := 0#32
  let v1346 : BitVec 1 := Scalar.cmpi .sgt c128_i32_776 c0_i32_779
  let v1347 : BitVec 32 := Scalar.extui v1346
  let c0_i32_780 : BitVec 32 := 0#32
  let v1348 : BitVec 1 := Scalar.cmpi .slt c128_i32_776 c0_i32_780
  let v1349 : BitVec 32 := Scalar.extui v1348
  let v1350 : BitVec 32 := Scalar.subi v1347 v1349
  let v1351 : BitVec 1 := Scalar.cmpi .ne v1345 v1350
  let v1352 : BitVec 32 := Scalar.remsi v1339 c128_i32_776
  let c0_i32_781 : BitVec 32 := 0#32
  let v1353 : BitVec 1 := Scalar.cmpi .ne v1352 c0_i32_781
  let v1354 : BitVec 1 := Scalar.andi v1351 v1353
  let v1340 : BitVec 32 := Scalar.divsi v1339 c128_i32_776
  let c1_i32_782 : BitVec 32 := 1#32
  let v1355 : BitVec 32 := Scalar.subi v1340 c1_i32_782
  let v1356 : BitVec 32 := Scalar.select v1354 v1355 v1340
  let c128_i32_783 : BitVec 32 := 128#32
  let v1357 : BitVec 32 := Scalar.muli v1356 c128_i32_783
  v1357
def k0_mult9 (i : grid0.Coords) : BitVec 32 :=
  let arg0 : BitVec 32 := BitVec.ofNat 32 (i 0).val
  let c16_i32_803 : BitVec 32 := 16#32
  let v1417 : BitVec 32 := Scalar.muli arg0 c16_i32_803
  let c4_i32_804 : BitVec 32 := 4#32
  let v1418 : BitVec 32 := Scalar.addi v1417 c4_i32_804
  let c0_i32_805 : BitVec 32 := 0#32
  let v1419 : BitVec 32 := Scalar.addi v1418 c0_i32_805
  let c722_i32_806 : BitVec 32 := 722#32
  let v1420 : BitVec 32 := Scalar.minsi v1419 c722_i32_806
  let c0_i32_808 : BitVec 32 := 0#32
  let v1422 : BitVec 1 := Scalar.cmpi .sgt v1420 c0_i32_808
  let v1423 : BitVec 32 := Scalar.extui v1422
  let c0_i32_809 : BitVec 32 := 0#32
  let v1424 : BitVec 1 := Scalar.cmpi .slt v1420 c0_i32_809
  let v1425 : BitVec 32 := Scalar.extui v1424
  let v1426 : BitVec 32 := Scalar.subi v1423 v1425
  let c128_i32_807 : BitVec 32 := 128#32
  let c0_i32_810 : BitVec 32 := 0#32
  let v1427 : BitVec 1 := Scalar.cmpi .sgt c128_i32_807 c0_i32_810
  let v1428 : BitVec 32 := Scalar.extui v1427
  let c0_i32_811 : BitVec 32 := 0#32
  let v1429 : BitVec 1 := Scalar.cmpi .slt c128_i32_807 c0_i32_811
  let v1430 : BitVec 32 := Scalar.extui v1429
  let v1431 : BitVec 32 := Scalar.subi v1428 v1430
  let v1432 : BitVec 1 := Scalar.cmpi .ne v1426 v1431
  let v1433 : BitVec 32 := Scalar.remsi v1420 c128_i32_807
  let c0_i32_812 : BitVec 32 := 0#32
  let v1434 : BitVec 1 := Scalar.cmpi .ne v1433 c0_i32_812
  let v1435 : BitVec 1 := Scalar.andi v1432 v1434
  let v1421 : BitVec 32 := Scalar.divsi v1420 c128_i32_807
  let c1_i32_813 : BitVec 32 := 1#32
  let v1436 : BitVec 32 := Scalar.subi v1421 c1_i32_813
  let v1437 : BitVec 32 := Scalar.select v1435 v1436 v1421
  let c128_i32_814 : BitVec 32 := 128#32
  let v1438 : BitVec 32 := Scalar.muli v1437 c128_i32_814
  v1438
def k0_mult10 (i : grid0.Coords) : BitVec 32 :=
  let arg0 : BitVec 32 := BitVec.ofNat 32 (i 0).val
  let c16_i32_987 : BitVec 32 := 16#32
  let v1689 : BitVec 32 := Scalar.muli arg0 c16_i32_987
  let c4_i32_988 : BitVec 32 := 4#32
  let v1690 : BitVec 32 := Scalar.addi v1689 c4_i32_988
  let c1_i32_989 : BitVec 32 := 1#32
  let v1691 : BitVec 32 := Scalar.addi v1690 c1_i32_989
  let c722_i32_990 : BitVec 32 := 722#32
  let v1692 : BitVec 32 := Scalar.minsi v1691 c722_i32_990
  let c0_i32_992 : BitVec 32 := 0#32
  let v1694 : BitVec 1 := Scalar.cmpi .sgt v1692 c0_i32_992
  let v1695 : BitVec 32 := Scalar.extui v1694
  let c0_i32_993 : BitVec 32 := 0#32
  let v1696 : BitVec 1 := Scalar.cmpi .slt v1692 c0_i32_993
  let v1697 : BitVec 32 := Scalar.extui v1696
  let v1698 : BitVec 32 := Scalar.subi v1695 v1697
  let c128_i32_991 : BitVec 32 := 128#32
  let c0_i32_994 : BitVec 32 := 0#32
  let v1699 : BitVec 1 := Scalar.cmpi .sgt c128_i32_991 c0_i32_994
  let v1700 : BitVec 32 := Scalar.extui v1699
  let c0_i32_995 : BitVec 32 := 0#32
  let v1701 : BitVec 1 := Scalar.cmpi .slt c128_i32_991 c0_i32_995
  let v1702 : BitVec 32 := Scalar.extui v1701
  let v1703 : BitVec 32 := Scalar.subi v1700 v1702
  let v1704 : BitVec 1 := Scalar.cmpi .ne v1698 v1703
  let v1705 : BitVec 32 := Scalar.remsi v1692 c128_i32_991
  let c0_i32_996 : BitVec 32 := 0#32
  let v1706 : BitVec 1 := Scalar.cmpi .ne v1705 c0_i32_996
  let v1707 : BitVec 1 := Scalar.andi v1704 v1706
  let v1693 : BitVec 32 := Scalar.divsi v1692 c128_i32_991
  let c1_i32_997 : BitVec 32 := 1#32
  let v1708 : BitVec 32 := Scalar.subi v1693 c1_i32_997
  let v1709 : BitVec 32 := Scalar.select v1707 v1708 v1693
  let c128_i32_998 : BitVec 32 := 128#32
  let v1710 : BitVec 32 := Scalar.muli v1709 c128_i32_998
  v1710
def k0_mult11 (i : grid0.Coords) : BitVec 32 :=
  let arg0 : BitVec 32 := BitVec.ofNat 32 (i 0).val
  let c16_i32_1174 : BitVec 32 := 16#32
  let v1964 : BitVec 32 := Scalar.muli arg0 c16_i32_1174
  let c4_i32_1175 : BitVec 32 := 4#32
  let v1965 : BitVec 32 := Scalar.addi v1964 c4_i32_1175
  let c723_i32_1176 : BitVec 32 := 723#32
  let v1968 : BitVec 32 := Scalar.minsi v1965 c723_i32_1176
  let c4_i32_1177 : BitVec 32 := 4#32
  let v1969 : BitVec 32 := Scalar.muli v1968 c4_i32_1177
  let c0_i32_1179 : BitVec 32 := 0#32
  let v1971 : BitVec 1 := Scalar.cmpi .sgt v1969 c0_i32_1179
  let v1972 : BitVec 32 := Scalar.extui v1971
  let c0_i32_1180 : BitVec 32 := 0#32
  let v1973 : BitVec 1 := Scalar.cmpi .slt v1969 c0_i32_1180
  let v1974 : BitVec 32 := Scalar.extui v1973
  let v1975 : BitVec 32 := Scalar.subi v1972 v1974
  let c128_i32_1178 : BitVec 32 := 128#32
  let c0_i32_1181 : BitVec 32 := 0#32
  let v1976 : BitVec 1 := Scalar.cmpi .sgt c128_i32_1178 c0_i32_1181
  let v1977 : BitVec 32 := Scalar.extui v1976
  let c0_i32_1182 : BitVec 32 := 0#32
  let v1978 : BitVec 1 := Scalar.cmpi .slt c128_i32_1178 c0_i32_1182
  let v1979 : BitVec 32 := Scalar.extui v1978
  let v1980 : BitVec 32 := Scalar.subi v1977 v1979
  let v1981 : BitVec 1 := Scalar.cmpi .ne v1975 v1980
  let v1982 : BitVec 32 := Scalar.remsi v1969 c128_i32_1178
  let c0_i32_1183 : BitVec 32 := 0#32
  let v1983 : BitVec 1 := Scalar.cmpi .ne v1982 c0_i32_1183
  let v1984 : BitVec 1 := Scalar.andi v1981 v1983
  let v1970 : BitVec 32 := Scalar.divsi v1969 c128_i32_1178
  let c1_i32_1184 : BitVec 32 := 1#32
  let v1985 : BitVec 32 := Scalar.subi v1970 c1_i32_1184
  let v1986 : BitVec 32 := Scalar.select v1984 v1985 v1970
  let c128_i32_1185 : BitVec 32 := 128#32
  let v1987 : BitVec 32 := Scalar.muli v1986 c128_i32_1185
  v1987
def k0_mult12 (i : grid0.Coords) : BitVec 32 :=
  let arg0 : BitVec 32 := BitVec.ofNat 32 (i 0).val
  let c16_i32_1205 : BitVec 32 := 16#32
  let v2036 : BitVec 32 := Scalar.muli arg0 c16_i32_1205
  let c5_i32_1206 : BitVec 32 := 5#32
  let v2037 : BitVec 32 := Scalar.addi v2036 c5_i32_1206
  let c723_i32_1207 : BitVec 32 := 723#32
  let v2040 : BitVec 32 := Scalar.minsi v2037 c723_i32_1207
  let c4_i32_1208 : BitVec 32 := 4#32
  let v2041 : BitVec 32 := Scalar.muli v2040 c4_i32_1208
  let c0_i32_1210 : BitVec 32 := 0#32
  let v2043 : BitVec 1 := Scalar.cmpi .sgt v2041 c0_i32_1210
  let v2044 : BitVec 32 := Scalar.extui v2043
  let c0_i32_1211 : BitVec 32 := 0#32
  let v2045 : BitVec 1 := Scalar.cmpi .slt v2041 c0_i32_1211
  let v2046 : BitVec 32 := Scalar.extui v2045
  let v2047 : BitVec 32 := Scalar.subi v2044 v2046
  let c128_i32_1209 : BitVec 32 := 128#32
  let c0_i32_1212 : BitVec 32 := 0#32
  let v2048 : BitVec 1 := Scalar.cmpi .sgt c128_i32_1209 c0_i32_1212
  let v2049 : BitVec 32 := Scalar.extui v2048
  let c0_i32_1213 : BitVec 32 := 0#32
  let v2050 : BitVec 1 := Scalar.cmpi .slt c128_i32_1209 c0_i32_1213
  let v2051 : BitVec 32 := Scalar.extui v2050
  let v2052 : BitVec 32 := Scalar.subi v2049 v2051
  let v2053 : BitVec 1 := Scalar.cmpi .ne v2047 v2052
  let v2054 : BitVec 32 := Scalar.remsi v2041 c128_i32_1209
  let c0_i32_1214 : BitVec 32 := 0#32
  let v2055 : BitVec 1 := Scalar.cmpi .ne v2054 c0_i32_1214
  let v2056 : BitVec 1 := Scalar.andi v2053 v2055
  let v2042 : BitVec 32 := Scalar.divsi v2041 c128_i32_1209
  let c1_i32_1215 : BitVec 32 := 1#32
  let v2057 : BitVec 32 := Scalar.subi v2042 c1_i32_1215
  let v2058 : BitVec 32 := Scalar.select v2056 v2057 v2042
  let c128_i32_1216 : BitVec 32 := 128#32
  let v2059 : BitVec 32 := Scalar.muli v2058 c128_i32_1216
  v2059
def k0_mult13 (i : grid0.Coords) : BitVec 32 :=
  let arg0 : BitVec 32 := BitVec.ofNat 32 (i 0).val
  let c16_i32_1236 : BitVec 32 := 16#32
  let v2119 : BitVec 32 := Scalar.muli arg0 c16_i32_1236
  let c6_i32 : BitVec 32 := 6#32
  let v2120 : BitVec 32 := Scalar.addi v2119 c6_i32
  let c0_i32_1237 : BitVec 32 := 0#32
  let v2121 : BitVec 32 := Scalar.addi v2120 c0_i32_1237
  let c722_i32_1238 : BitVec 32 := 722#32
  let v2122 : BitVec 32 := Scalar.minsi v2121 c722_i32_1238
  let c0_i32_1240 : BitVec 32 := 0#32
  let v2124 : BitVec 1 := Scalar.cmpi .sgt v2122 c0_i32_1240
  let v2125 : BitVec 32 := Scalar.extui v2124
  let c0_i32_1241 : BitVec 32 := 0#32
  let v2126 : BitVec 1 := Scalar.cmpi .slt v2122 c0_i32_1241
  let v2127 : BitVec 32 := Scalar.extui v2126
  let v2128 : BitVec 32 := Scalar.subi v2125 v2127
  let c128_i32_1239 : BitVec 32 := 128#32
  let c0_i32_1242 : BitVec 32 := 0#32
  let v2129 : BitVec 1 := Scalar.cmpi .sgt c128_i32_1239 c0_i32_1242
  let v2130 : BitVec 32 := Scalar.extui v2129
  let c0_i32_1243 : BitVec 32 := 0#32
  let v2131 : BitVec 1 := Scalar.cmpi .slt c128_i32_1239 c0_i32_1243
  let v2132 : BitVec 32 := Scalar.extui v2131
  let v2133 : BitVec 32 := Scalar.subi v2130 v2132
  let v2134 : BitVec 1 := Scalar.cmpi .ne v2128 v2133
  let v2135 : BitVec 32 := Scalar.remsi v2122 c128_i32_1239
  let c0_i32_1244 : BitVec 32 := 0#32
  let v2136 : BitVec 1 := Scalar.cmpi .ne v2135 c0_i32_1244
  let v2137 : BitVec 1 := Scalar.andi v2134 v2136
  let v2123 : BitVec 32 := Scalar.divsi v2122 c128_i32_1239
  let c1_i32_1245 : BitVec 32 := 1#32
  let v2138 : BitVec 32 := Scalar.subi v2123 c1_i32_1245
  let v2139 : BitVec 32 := Scalar.select v2137 v2138 v2123
  let c128_i32_1246 : BitVec 32 := 128#32
  let v2140 : BitVec 32 := Scalar.muli v2139 c128_i32_1246
  v2140
def k0_mult14 (i : grid0.Coords) : BitVec 32 :=
  let arg0 : BitVec 32 := BitVec.ofNat 32 (i 0).val
  let c16_i32_1419 : BitVec 32 := 16#32
  let v2391 : BitVec 32 := Scalar.muli arg0 c16_i32_1419
  let c6_i32_1420 : BitVec 32 := 6#32
  let v2392 : BitVec 32 := Scalar.addi v2391 c6_i32_1420
  let c1_i32_1421 : BitVec 32 := 1#32
  let v2393 : BitVec 32 := Scalar.addi v2392 c1_i32_1421
  let c722_i32_1422 : BitVec 32 := 722#32
  let v2394 : BitVec 32 := Scalar.minsi v2393 c722_i32_1422
  let c0_i32_1424 : BitVec 32 := 0#32
  let v2396 : BitVec 1 := Scalar.cmpi .sgt v2394 c0_i32_1424
  let v2397 : BitVec 32 := Scalar.extui v2396
  let c0_i32_1425 : BitVec 32 := 0#32
  let v2398 : BitVec 1 := Scalar.cmpi .slt v2394 c0_i32_1425
  let v2399 : BitVec 32 := Scalar.extui v2398
  let v2400 : BitVec 32 := Scalar.subi v2397 v2399
  let c128_i32_1423 : BitVec 32 := 128#32
  let c0_i32_1426 : BitVec 32 := 0#32
  let v2401 : BitVec 1 := Scalar.cmpi .sgt c128_i32_1423 c0_i32_1426
  let v2402 : BitVec 32 := Scalar.extui v2401
  let c0_i32_1427 : BitVec 32 := 0#32
  let v2403 : BitVec 1 := Scalar.cmpi .slt c128_i32_1423 c0_i32_1427
  let v2404 : BitVec 32 := Scalar.extui v2403
  let v2405 : BitVec 32 := Scalar.subi v2402 v2404
  let v2406 : BitVec 1 := Scalar.cmpi .ne v2400 v2405
  let v2407 : BitVec 32 := Scalar.remsi v2394 c128_i32_1423
  let c0_i32_1428 : BitVec 32 := 0#32
  let v2408 : BitVec 1 := Scalar.cmpi .ne v2407 c0_i32_1428
  let v2409 : BitVec 1 := Scalar.andi v2406 v2408
  let v2395 : BitVec 32 := Scalar.divsi v2394 c128_i32_1423
  let c1_i32_1429 : BitVec 32 := 1#32
  let v2410 : BitVec 32 := Scalar.subi v2395 c1_i32_1429
  let v2411 : BitVec 32 := Scalar.select v2409 v2410 v2395
  let c128_i32_1430 : BitVec 32 := 128#32
  let v2412 : BitVec 32 := Scalar.muli v2411 c128_i32_1430
  v2412
def k0_mult15 (i : grid0.Coords) : BitVec 32 :=
  let arg0 : BitVec 32 := BitVec.ofNat 32 (i 0).val
  let c16_i32_1606 : BitVec 32 := 16#32
  let v2666 : BitVec 32 := Scalar.muli arg0 c16_i32_1606
  let c6_i32_1607 : BitVec 32 := 6#32
  let v2667 : BitVec 32 := Scalar.addi v2666 c6_i32_1607
  let c723_i32_1608 : BitVec 32 := 723#32
  let v2670 : BitVec 32 := Scalar.minsi v2667 c723_i32_1608
  let c4_i32_1609 : BitVec 32 := 4#32
  let v2671 : BitVec 32 := Scalar.muli v2670 c4_i32_1609
  let c0_i32_1611 : BitVec 32 := 0#32
  let v2673 : BitVec 1 := Scalar.cmpi .sgt v2671 c0_i32_1611
  let v2674 : BitVec 32 := Scalar.extui v2673
  let c0_i32_1612 : BitVec 32 := 0#32
  let v2675 : BitVec 1 := Scalar.cmpi .slt v2671 c0_i32_1612
  let v2676 : BitVec 32 := Scalar.extui v2675
  let v2677 : BitVec 32 := Scalar.subi v2674 v2676
  let c128_i32_1610 : BitVec 32 := 128#32
  let c0_i32_1613 : BitVec 32 := 0#32
  let v2678 : BitVec 1 := Scalar.cmpi .sgt c128_i32_1610 c0_i32_1613
  let v2679 : BitVec 32 := Scalar.extui v2678
  let c0_i32_1614 : BitVec 32 := 0#32
  let v2680 : BitVec 1 := Scalar.cmpi .slt c128_i32_1610 c0_i32_1614
  let v2681 : BitVec 32 := Scalar.extui v2680
  let v2682 : BitVec 32 := Scalar.subi v2679 v2681
  let v2683 : BitVec 1 := Scalar.cmpi .ne v2677 v2682
  let v2684 : BitVec 32 := Scalar.remsi v2671 c128_i32_1610
  let c0_i32_1615 : BitVec 32 := 0#32
  let v2685 : BitVec 1 := Scalar.cmpi .ne v2684 c0_i32_1615
  let v2686 : BitVec 1 := Scalar.andi v2683 v2685
  let v2672 : BitVec 32 := Scalar.divsi v2671 c128_i32_1610
  let c1_i32_1616 : BitVec 32 := 1#32
  let v2687 : BitVec 32 := Scalar.subi v2672 c1_i32_1616
  let v2688 : BitVec 32 := Scalar.select v2686 v2687 v2672
  let c128_i32_1617 : BitVec 32 := 128#32
  let v2689 : BitVec 32 := Scalar.muli v2688 c128_i32_1617
  v2689
def k0_mult16 (i : grid0.Coords) : BitVec 32 :=
  let arg0 : BitVec 32 := BitVec.ofNat 32 (i 0).val
  let c16_i32_1637 : BitVec 32 := 16#32
  let v2738 : BitVec 32 := Scalar.muli arg0 c16_i32_1637
  let c7_i32_1638 : BitVec 32 := 7#32
  let v2739 : BitVec 32 := Scalar.addi v2738 c7_i32_1638
  let c723_i32_1639 : BitVec 32 := 723#32
  let v2742 : BitVec 32 := Scalar.minsi v2739 c723_i32_1639
  let c4_i32_1640 : BitVec 32 := 4#32
  let v2743 : BitVec 32 := Scalar.muli v2742 c4_i32_1640
  let c0_i32_1642 : BitVec 32 := 0#32
  let v2745 : BitVec 1 := Scalar.cmpi .sgt v2743 c0_i32_1642
  let v2746 : BitVec 32 := Scalar.extui v2745
  let c0_i32_1643 : BitVec 32 := 0#32
  let v2747 : BitVec 1 := Scalar.cmpi .slt v2743 c0_i32_1643
  let v2748 : BitVec 32 := Scalar.extui v2747
  let v2749 : BitVec 32 := Scalar.subi v2746 v2748
  let c128_i32_1641 : BitVec 32 := 128#32
  let c0_i32_1644 : BitVec 32 := 0#32
  let v2750 : BitVec 1 := Scalar.cmpi .sgt c128_i32_1641 c0_i32_1644
  let v2751 : BitVec 32 := Scalar.extui v2750
  let c0_i32_1645 : BitVec 32 := 0#32
  let v2752 : BitVec 1 := Scalar.cmpi .slt c128_i32_1641 c0_i32_1645
  let v2753 : BitVec 32 := Scalar.extui v2752
  let v2754 : BitVec 32 := Scalar.subi v2751 v2753
  let v2755 : BitVec 1 := Scalar.cmpi .ne v2749 v2754
  let v2756 : BitVec 32 := Scalar.remsi v2743 c128_i32_1641
  let c0_i32_1646 : BitVec 32 := 0#32
  let v2757 : BitVec 1 := Scalar.cmpi .ne v2756 c0_i32_1646
  let v2758 : BitVec 1 := Scalar.andi v2755 v2757
  let v2744 : BitVec 32 := Scalar.divsi v2743 c128_i32_1641
  let c1_i32_1647 : BitVec 32 := 1#32
  let v2759 : BitVec 32 := Scalar.subi v2744 c1_i32_1647
  let v2760 : BitVec 32 := Scalar.select v2758 v2759 v2744
  let c128_i32_1648 : BitVec 32 := 128#32
  let v2761 : BitVec 32 := Scalar.muli v2760 c128_i32_1648
  v2761
def k0_mult17 (i : grid0.Coords) : BitVec 32 :=
  let arg0 : BitVec 32 := BitVec.ofNat 32 (i 0).val
  let c16_i32_1668 : BitVec 32 := 16#32
  let v2821 : BitVec 32 := Scalar.muli arg0 c16_i32_1668
  let c8_i32 : BitVec 32 := 8#32
  let v2822 : BitVec 32 := Scalar.addi v2821 c8_i32
  let c0_i32_1669 : BitVec 32 := 0#32
  let v2823 : BitVec 32 := Scalar.addi v2822 c0_i32_1669
  let c722_i32_1670 : BitVec 32 := 722#32
  let v2824 : BitVec 32 := Scalar.minsi v2823 c722_i32_1670
  let c0_i32_1672 : BitVec 32 := 0#32
  let v2826 : BitVec 1 := Scalar.cmpi .sgt v2824 c0_i32_1672
  let v2827 : BitVec 32 := Scalar.extui v2826
  let c0_i32_1673 : BitVec 32 := 0#32
  let v2828 : BitVec 1 := Scalar.cmpi .slt v2824 c0_i32_1673
  let v2829 : BitVec 32 := Scalar.extui v2828
  let v2830 : BitVec 32 := Scalar.subi v2827 v2829
  let c128_i32_1671 : BitVec 32 := 128#32
  let c0_i32_1674 : BitVec 32 := 0#32
  let v2831 : BitVec 1 := Scalar.cmpi .sgt c128_i32_1671 c0_i32_1674
  let v2832 : BitVec 32 := Scalar.extui v2831
  let c0_i32_1675 : BitVec 32 := 0#32
  let v2833 : BitVec 1 := Scalar.cmpi .slt c128_i32_1671 c0_i32_1675
  let v2834 : BitVec 32 := Scalar.extui v2833
  let v2835 : BitVec 32 := Scalar.subi v2832 v2834
  let v2836 : BitVec 1 := Scalar.cmpi .ne v2830 v2835
  let v2837 : BitVec 32 := Scalar.remsi v2824 c128_i32_1671
  let c0_i32_1676 : BitVec 32 := 0#32
  let v2838 : BitVec 1 := Scalar.cmpi .ne v2837 c0_i32_1676
  let v2839 : BitVec 1 := Scalar.andi v2836 v2838
  let v2825 : BitVec 32 := Scalar.divsi v2824 c128_i32_1671
  let c1_i32_1677 : BitVec 32 := 1#32
  let v2840 : BitVec 32 := Scalar.subi v2825 c1_i32_1677
  let v2841 : BitVec 32 := Scalar.select v2839 v2840 v2825
  let c128_i32_1678 : BitVec 32 := 128#32
  let v2842 : BitVec 32 := Scalar.muli v2841 c128_i32_1678
  v2842
def k0_mult18 (i : grid0.Coords) : BitVec 32 :=
  let arg0 : BitVec 32 := BitVec.ofNat 32 (i 0).val
  let c16_i32_1851 : BitVec 32 := 16#32
  let v3093 : BitVec 32 := Scalar.muli arg0 c16_i32_1851
  let c8_i32_1852 : BitVec 32 := 8#32
  let v3094 : BitVec 32 := Scalar.addi v3093 c8_i32_1852
  let c1_i32_1853 : BitVec 32 := 1#32
  let v3095 : BitVec 32 := Scalar.addi v3094 c1_i32_1853
  let c722_i32_1854 : BitVec 32 := 722#32
  let v3096 : BitVec 32 := Scalar.minsi v3095 c722_i32_1854
  let c0_i32_1856 : BitVec 32 := 0#32
  let v3098 : BitVec 1 := Scalar.cmpi .sgt v3096 c0_i32_1856
  let v3099 : BitVec 32 := Scalar.extui v3098
  let c0_i32_1857 : BitVec 32 := 0#32
  let v3100 : BitVec 1 := Scalar.cmpi .slt v3096 c0_i32_1857
  let v3101 : BitVec 32 := Scalar.extui v3100
  let v3102 : BitVec 32 := Scalar.subi v3099 v3101
  let c128_i32_1855 : BitVec 32 := 128#32
  let c0_i32_1858 : BitVec 32 := 0#32
  let v3103 : BitVec 1 := Scalar.cmpi .sgt c128_i32_1855 c0_i32_1858
  let v3104 : BitVec 32 := Scalar.extui v3103
  let c0_i32_1859 : BitVec 32 := 0#32
  let v3105 : BitVec 1 := Scalar.cmpi .slt c128_i32_1855 c0_i32_1859
  let v3106 : BitVec 32 := Scalar.extui v3105
  let v3107 : BitVec 32 := Scalar.subi v3104 v3106
  let v3108 : BitVec 1 := Scalar.cmpi .ne v3102 v3107
  let v3109 : BitVec 32 := Scalar.remsi v3096 c128_i32_1855
  let c0_i32_1860 : BitVec 32 := 0#32
  let v3110 : BitVec 1 := Scalar.cmpi .ne v3109 c0_i32_1860
  let v3111 : BitVec 1 := Scalar.andi v3108 v3110
  let v3097 : BitVec 32 := Scalar.divsi v3096 c128_i32_1855
  let c1_i32_1861 : BitVec 32 := 1#32
  let v3112 : BitVec 32 := Scalar.subi v3097 c1_i32_1861
  let v3113 : BitVec 32 := Scalar.select v3111 v3112 v3097
  let c128_i32_1862 : BitVec 32 := 128#32
  let v3114 : BitVec 32 := Scalar.muli v3113 c128_i32_1862
  v3114
def k0_mult19 (i : grid0.Coords) : BitVec 32 :=
  let arg0 : BitVec 32 := BitVec.ofNat 32 (i 0).val
  let c16_i32_2038 : BitVec 32 := 16#32
  let v3368 : BitVec 32 := Scalar.muli arg0 c16_i32_2038
  let c8_i32_2039 : BitVec 32 := 8#32
  let v3369 : BitVec 32 := Scalar.addi v3368 c8_i32_2039
  let c723_i32_2040 : BitVec 32 := 723#32
  let v3372 : BitVec 32 := Scalar.minsi v3369 c723_i32_2040
  let c4_i32_2041 : BitVec 32 := 4#32
  let v3373 : BitVec 32 := Scalar.muli v3372 c4_i32_2041
  let c0_i32_2043 : BitVec 32 := 0#32
  let v3375 : BitVec 1 := Scalar.cmpi .sgt v3373 c0_i32_2043
  let v3376 : BitVec 32 := Scalar.extui v3375
  let c0_i32_2044 : BitVec 32 := 0#32
  let v3377 : BitVec 1 := Scalar.cmpi .slt v3373 c0_i32_2044
  let v3378 : BitVec 32 := Scalar.extui v3377
  let v3379 : BitVec 32 := Scalar.subi v3376 v3378
  let c128_i32_2042 : BitVec 32 := 128#32
  let c0_i32_2045 : BitVec 32 := 0#32
  let v3380 : BitVec 1 := Scalar.cmpi .sgt c128_i32_2042 c0_i32_2045
  let v3381 : BitVec 32 := Scalar.extui v3380
  let c0_i32_2046 : BitVec 32 := 0#32
  let v3382 : BitVec 1 := Scalar.cmpi .slt c128_i32_2042 c0_i32_2046
  let v3383 : BitVec 32 := Scalar.extui v3382
  let v3384 : BitVec 32 := Scalar.subi v3381 v3383
  let v3385 : BitVec 1 := Scalar.cmpi .ne v3379 v3384
  let v3386 : BitVec 32 := Scalar.remsi v3373 c128_i32_2042
  let c0_i32_2047 : BitVec 32 := 0#32
  let v3387 : BitVec 1 := Scalar.cmpi .ne v3386 c0_i32_2047
  let v3388 : BitVec 1 := Scalar.andi v3385 v3387
  let v3374 : BitVec 32 := Scalar.divsi v3373 c128_i32_2042
  let c1_i32_2048 : BitVec 32 := 1#32
  let v3389 : BitVec 32 := Scalar.subi v3374 c1_i32_2048
  let v3390 : BitVec 32 := Scalar.select v3388 v3389 v3374
  let c128_i32_2049 : BitVec 32 := 128#32
  let v3391 : BitVec 32 := Scalar.muli v3390 c128_i32_2049
  v3391
def k0_mult20 (i : grid0.Coords) : BitVec 32 :=
  let arg0 : BitVec 32 := BitVec.ofNat 32 (i 0).val
  let c16_i32_2069 : BitVec 32 := 16#32
  let v3440 : BitVec 32 := Scalar.muli arg0 c16_i32_2069
  let c9_i32 : BitVec 32 := 9#32
  let v3441 : BitVec 32 := Scalar.addi v3440 c9_i32
  let c723_i32_2070 : BitVec 32 := 723#32
  let v3444 : BitVec 32 := Scalar.minsi v3441 c723_i32_2070
  let c4_i32_2071 : BitVec 32 := 4#32
  let v3445 : BitVec 32 := Scalar.muli v3444 c4_i32_2071
  let c0_i32_2073 : BitVec 32 := 0#32
  let v3447 : BitVec 1 := Scalar.cmpi .sgt v3445 c0_i32_2073
  let v3448 : BitVec 32 := Scalar.extui v3447
  let c0_i32_2074 : BitVec 32 := 0#32
  let v3449 : BitVec 1 := Scalar.cmpi .slt v3445 c0_i32_2074
  let v3450 : BitVec 32 := Scalar.extui v3449
  let v3451 : BitVec 32 := Scalar.subi v3448 v3450
  let c128_i32_2072 : BitVec 32 := 128#32
  let c0_i32_2075 : BitVec 32 := 0#32
  let v3452 : BitVec 1 := Scalar.cmpi .sgt c128_i32_2072 c0_i32_2075
  let v3453 : BitVec 32 := Scalar.extui v3452
  let c0_i32_2076 : BitVec 32 := 0#32
  let v3454 : BitVec 1 := Scalar.cmpi .slt c128_i32_2072 c0_i32_2076
  let v3455 : BitVec 32 := Scalar.extui v3454
  let v3456 : BitVec 32 := Scalar.subi v3453 v3455
  let v3457 : BitVec 1 := Scalar.cmpi .ne v3451 v3456
  let v3458 : BitVec 32 := Scalar.remsi v3445 c128_i32_2072
  let c0_i32_2077 : BitVec 32 := 0#32
  let v3459 : BitVec 1 := Scalar.cmpi .ne v3458 c0_i32_2077
  let v3460 : BitVec 1 := Scalar.andi v3457 v3459
  let v3446 : BitVec 32 := Scalar.divsi v3445 c128_i32_2072
  let c1_i32_2078 : BitVec 32 := 1#32
  let v3461 : BitVec 32 := Scalar.subi v3446 c1_i32_2078
  let v3462 : BitVec 32 := Scalar.select v3460 v3461 v3446
  let c128_i32_2079 : BitVec 32 := 128#32
  let v3463 : BitVec 32 := Scalar.muli v3462 c128_i32_2079
  v3463
def k0_mult21 (i : grid0.Coords) : BitVec 32 :=
  let arg0 : BitVec 32 := BitVec.ofNat 32 (i 0).val
  let c16_i32_2099 : BitVec 32 := 16#32
  let v3523 : BitVec 32 := Scalar.muli arg0 c16_i32_2099
  let c10_i32 : BitVec 32 := 10#32
  let v3524 : BitVec 32 := Scalar.addi v3523 c10_i32
  let c0_i32_2100 : BitVec 32 := 0#32
  let v3525 : BitVec 32 := Scalar.addi v3524 c0_i32_2100
  let c722_i32_2101 : BitVec 32 := 722#32
  let v3526 : BitVec 32 := Scalar.minsi v3525 c722_i32_2101
  let c0_i32_2103 : BitVec 32 := 0#32
  let v3528 : BitVec 1 := Scalar.cmpi .sgt v3526 c0_i32_2103
  let v3529 : BitVec 32 := Scalar.extui v3528
  let c0_i32_2104 : BitVec 32 := 0#32
  let v3530 : BitVec 1 := Scalar.cmpi .slt v3526 c0_i32_2104
  let v3531 : BitVec 32 := Scalar.extui v3530
  let v3532 : BitVec 32 := Scalar.subi v3529 v3531
  let c128_i32_2102 : BitVec 32 := 128#32
  let c0_i32_2105 : BitVec 32 := 0#32
  let v3533 : BitVec 1 := Scalar.cmpi .sgt c128_i32_2102 c0_i32_2105
  let v3534 : BitVec 32 := Scalar.extui v3533
  let c0_i32_2106 : BitVec 32 := 0#32
  let v3535 : BitVec 1 := Scalar.cmpi .slt c128_i32_2102 c0_i32_2106
  let v3536 : BitVec 32 := Scalar.extui v3535
  let v3537 : BitVec 32 := Scalar.subi v3534 v3536
  let v3538 : BitVec 1 := Scalar.cmpi .ne v3532 v3537
  let v3539 : BitVec 32 := Scalar.remsi v3526 c128_i32_2102
  let c0_i32_2107 : BitVec 32 := 0#32
  let v3540 : BitVec 1 := Scalar.cmpi .ne v3539 c0_i32_2107
  let v3541 : BitVec 1 := Scalar.andi v3538 v3540
  let v3527 : BitVec 32 := Scalar.divsi v3526 c128_i32_2102
  let c1_i32_2108 : BitVec 32 := 1#32
  let v3542 : BitVec 32 := Scalar.subi v3527 c1_i32_2108
  let v3543 : BitVec 32 := Scalar.select v3541 v3542 v3527
  let c128_i32_2109 : BitVec 32 := 128#32
  let v3544 : BitVec 32 := Scalar.muli v3543 c128_i32_2109
  v3544
def k0_mult22 (i : grid0.Coords) : BitVec 32 :=
  let arg0 : BitVec 32 := BitVec.ofNat 32 (i 0).val
  let c16_i32_2282 : BitVec 32 := 16#32
  let v3795 : BitVec 32 := Scalar.muli arg0 c16_i32_2282
  let c10_i32_2283 : BitVec 32 := 10#32
  let v3796 : BitVec 32 := Scalar.addi v3795 c10_i32_2283
  let c1_i32_2284 : BitVec 32 := 1#32
  let v3797 : BitVec 32 := Scalar.addi v3796 c1_i32_2284
  let c722_i32_2285 : BitVec 32 := 722#32
  let v3798 : BitVec 32 := Scalar.minsi v3797 c722_i32_2285
  let c0_i32_2287 : BitVec 32 := 0#32
  let v3800 : BitVec 1 := Scalar.cmpi .sgt v3798 c0_i32_2287
  let v3801 : BitVec 32 := Scalar.extui v3800
  let c0_i32_2288 : BitVec 32 := 0#32
  let v3802 : BitVec 1 := Scalar.cmpi .slt v3798 c0_i32_2288
  let v3803 : BitVec 32 := Scalar.extui v3802
  let v3804 : BitVec 32 := Scalar.subi v3801 v3803
  let c128_i32_2286 : BitVec 32 := 128#32
  let c0_i32_2289 : BitVec 32 := 0#32
  let v3805 : BitVec 1 := Scalar.cmpi .sgt c128_i32_2286 c0_i32_2289
  let v3806 : BitVec 32 := Scalar.extui v3805
  let c0_i32_2290 : BitVec 32 := 0#32
  let v3807 : BitVec 1 := Scalar.cmpi .slt c128_i32_2286 c0_i32_2290
  let v3808 : BitVec 32 := Scalar.extui v3807
  let v3809 : BitVec 32 := Scalar.subi v3806 v3808
  let v3810 : BitVec 1 := Scalar.cmpi .ne v3804 v3809
  let v3811 : BitVec 32 := Scalar.remsi v3798 c128_i32_2286
  let c0_i32_2291 : BitVec 32 := 0#32
  let v3812 : BitVec 1 := Scalar.cmpi .ne v3811 c0_i32_2291
  let v3813 : BitVec 1 := Scalar.andi v3810 v3812
  let v3799 : BitVec 32 := Scalar.divsi v3798 c128_i32_2286
  let c1_i32_2292 : BitVec 32 := 1#32
  let v3814 : BitVec 32 := Scalar.subi v3799 c1_i32_2292
  let v3815 : BitVec 32 := Scalar.select v3813 v3814 v3799
  let c128_i32_2293 : BitVec 32 := 128#32
  let v3816 : BitVec 32 := Scalar.muli v3815 c128_i32_2293
  v3816
def k0_mult23 (i : grid0.Coords) : BitVec 32 :=
  let arg0 : BitVec 32 := BitVec.ofNat 32 (i 0).val
  let c16_i32_2469 : BitVec 32 := 16#32
  let v4070 : BitVec 32 := Scalar.muli arg0 c16_i32_2469
  let c10_i32_2470 : BitVec 32 := 10#32
  let v4071 : BitVec 32 := Scalar.addi v4070 c10_i32_2470
  let c723_i32_2471 : BitVec 32 := 723#32
  let v4074 : BitVec 32 := Scalar.minsi v4071 c723_i32_2471
  let c4_i32_2472 : BitVec 32 := 4#32
  let v4075 : BitVec 32 := Scalar.muli v4074 c4_i32_2472
  let c0_i32_2474 : BitVec 32 := 0#32
  let v4077 : BitVec 1 := Scalar.cmpi .sgt v4075 c0_i32_2474
  let v4078 : BitVec 32 := Scalar.extui v4077
  let c0_i32_2475 : BitVec 32 := 0#32
  let v4079 : BitVec 1 := Scalar.cmpi .slt v4075 c0_i32_2475
  let v4080 : BitVec 32 := Scalar.extui v4079
  let v4081 : BitVec 32 := Scalar.subi v4078 v4080
  let c128_i32_2473 : BitVec 32 := 128#32
  let c0_i32_2476 : BitVec 32 := 0#32
  let v4082 : BitVec 1 := Scalar.cmpi .sgt c128_i32_2473 c0_i32_2476
  let v4083 : BitVec 32 := Scalar.extui v4082
  let c0_i32_2477 : BitVec 32 := 0#32
  let v4084 : BitVec 1 := Scalar.cmpi .slt c128_i32_2473 c0_i32_2477
  let v4085 : BitVec 32 := Scalar.extui v4084
  let v4086 : BitVec 32 := Scalar.subi v4083 v4085
  let v4087 : BitVec 1 := Scalar.cmpi .ne v4081 v4086
  let v4088 : BitVec 32 := Scalar.remsi v4075 c128_i32_2473
  let c0_i32_2478 : BitVec 32 := 0#32
  let v4089 : BitVec 1 := Scalar.cmpi .ne v4088 c0_i32_2478
  let v4090 : BitVec 1 := Scalar.andi v4087 v4089
  let v4076 : BitVec 32 := Scalar.divsi v4075 c128_i32_2473
  let c1_i32_2479 : BitVec 32 := 1#32
  let v4091 : BitVec 32 := Scalar.subi v4076 c1_i32_2479
  let v4092 : BitVec 32 := Scalar.select v4090 v4091 v4076
  let c128_i32_2480 : BitVec 32 := 128#32
  let v4093 : BitVec 32 := Scalar.muli v4092 c128_i32_2480
  v4093
def k0_mult24 (i : grid0.Coords) : BitVec 32 :=
  let arg0 : BitVec 32 := BitVec.ofNat 32 (i 0).val
  let c16_i32_2500 : BitVec 32 := 16#32
  let v4142 : BitVec 32 := Scalar.muli arg0 c16_i32_2500
  let c11_i32 : BitVec 32 := 11#32
  let v4143 : BitVec 32 := Scalar.addi v4142 c11_i32
  let c723_i32_2501 : BitVec 32 := 723#32
  let v4146 : BitVec 32 := Scalar.minsi v4143 c723_i32_2501
  let c4_i32_2502 : BitVec 32 := 4#32
  let v4147 : BitVec 32 := Scalar.muli v4146 c4_i32_2502
  let c0_i32_2504 : BitVec 32 := 0#32
  let v4149 : BitVec 1 := Scalar.cmpi .sgt v4147 c0_i32_2504
  let v4150 : BitVec 32 := Scalar.extui v4149
  let c0_i32_2505 : BitVec 32 := 0#32
  let v4151 : BitVec 1 := Scalar.cmpi .slt v4147 c0_i32_2505
  let v4152 : BitVec 32 := Scalar.extui v4151
  let v4153 : BitVec 32 := Scalar.subi v4150 v4152
  let c128_i32_2503 : BitVec 32 := 128#32
  let c0_i32_2506 : BitVec 32 := 0#32
  let v4154 : BitVec 1 := Scalar.cmpi .sgt c128_i32_2503 c0_i32_2506
  let v4155 : BitVec 32 := Scalar.extui v4154
  let c0_i32_2507 : BitVec 32 := 0#32
  let v4156 : BitVec 1 := Scalar.cmpi .slt c128_i32_2503 c0_i32_2507
  let v4157 : BitVec 32 := Scalar.extui v4156
  let v4158 : BitVec 32 := Scalar.subi v4155 v4157
  let v4159 : BitVec 1 := Scalar.cmpi .ne v4153 v4158
  let v4160 : BitVec 32 := Scalar.remsi v4147 c128_i32_2503
  let c0_i32_2508 : BitVec 32 := 0#32
  let v4161 : BitVec 1 := Scalar.cmpi .ne v4160 c0_i32_2508
  let v4162 : BitVec 1 := Scalar.andi v4159 v4161
  let v4148 : BitVec 32 := Scalar.divsi v4147 c128_i32_2503
  let c1_i32_2509 : BitVec 32 := 1#32
  let v4163 : BitVec 32 := Scalar.subi v4148 c1_i32_2509
  let v4164 : BitVec 32 := Scalar.select v4162 v4163 v4148
  let c128_i32_2510 : BitVec 32 := 128#32
  let v4165 : BitVec 32 := Scalar.muli v4164 c128_i32_2510
  v4165
def k0_mult25 (i : grid0.Coords) : BitVec 32 :=
  let arg0 : BitVec 32 := BitVec.ofNat 32 (i 0).val
  let c16_i32_2530 : BitVec 32 := 16#32
  let v4225 : BitVec 32 := Scalar.muli arg0 c16_i32_2530
  let c12_i32 : BitVec 32 := 12#32
  let v4226 : BitVec 32 := Scalar.addi v4225 c12_i32
  let c0_i32_2531 : BitVec 32 := 0#32
  let v4227 : BitVec 32 := Scalar.addi v4226 c0_i32_2531
  let c722_i32_2532 : BitVec 32 := 722#32
  let v4228 : BitVec 32 := Scalar.minsi v4227 c722_i32_2532
  let c0_i32_2534 : BitVec 32 := 0#32
  let v4230 : BitVec 1 := Scalar.cmpi .sgt v4228 c0_i32_2534
  let v4231 : BitVec 32 := Scalar.extui v4230
  let c0_i32_2535 : BitVec 32 := 0#32
  let v4232 : BitVec 1 := Scalar.cmpi .slt v4228 c0_i32_2535
  let v4233 : BitVec 32 := Scalar.extui v4232
  let v4234 : BitVec 32 := Scalar.subi v4231 v4233
  let c128_i32_2533 : BitVec 32 := 128#32
  let c0_i32_2536 : BitVec 32 := 0#32
  let v4235 : BitVec 1 := Scalar.cmpi .sgt c128_i32_2533 c0_i32_2536
  let v4236 : BitVec 32 := Scalar.extui v4235
  let c0_i32_2537 : BitVec 32 := 0#32
  let v4237 : BitVec 1 := Scalar.cmpi .slt c128_i32_2533 c0_i32_2537
  let v4238 : BitVec 32 := Scalar.extui v4237
  let v4239 : BitVec 32 := Scalar.subi v4236 v4238
  let v4240 : BitVec 1 := Scalar.cmpi .ne v4234 v4239
  let v4241 : BitVec 32 := Scalar.remsi v4228 c128_i32_2533
  let c0_i32_2538 : BitVec 32 := 0#32
  let v4242 : BitVec 1 := Scalar.cmpi .ne v4241 c0_i32_2538
  let v4243 : BitVec 1 := Scalar.andi v4240 v4242
  let v4229 : BitVec 32 := Scalar.divsi v4228 c128_i32_2533
  let c1_i32_2539 : BitVec 32 := 1#32
  let v4244 : BitVec 32 := Scalar.subi v4229 c1_i32_2539
  let v4245 : BitVec 32 := Scalar.select v4243 v4244 v4229
  let c128_i32_2540 : BitVec 32 := 128#32
  let v4246 : BitVec 32 := Scalar.muli v4245 c128_i32_2540
  v4246
def k0_mult26 (i : grid0.Coords) : BitVec 32 :=
  let arg0 : BitVec 32 := BitVec.ofNat 32 (i 0).val
  let c16_i32_2713 : BitVec 32 := 16#32
  let v4497 : BitVec 32 := Scalar.muli arg0 c16_i32_2713
  let c12_i32_2714 : BitVec 32 := 12#32
  let v4498 : BitVec 32 := Scalar.addi v4497 c12_i32_2714
  let c1_i32_2715 : BitVec 32 := 1#32
  let v4499 : BitVec 32 := Scalar.addi v4498 c1_i32_2715
  let c722_i32_2716 : BitVec 32 := 722#32
  let v4500 : BitVec 32 := Scalar.minsi v4499 c722_i32_2716
  let c0_i32_2718 : BitVec 32 := 0#32
  let v4502 : BitVec 1 := Scalar.cmpi .sgt v4500 c0_i32_2718
  let v4503 : BitVec 32 := Scalar.extui v4502
  let c0_i32_2719 : BitVec 32 := 0#32
  let v4504 : BitVec 1 := Scalar.cmpi .slt v4500 c0_i32_2719
  let v4505 : BitVec 32 := Scalar.extui v4504
  let v4506 : BitVec 32 := Scalar.subi v4503 v4505
  let c128_i32_2717 : BitVec 32 := 128#32
  let c0_i32_2720 : BitVec 32 := 0#32
  let v4507 : BitVec 1 := Scalar.cmpi .sgt c128_i32_2717 c0_i32_2720
  let v4508 : BitVec 32 := Scalar.extui v4507
  let c0_i32_2721 : BitVec 32 := 0#32
  let v4509 : BitVec 1 := Scalar.cmpi .slt c128_i32_2717 c0_i32_2721
  let v4510 : BitVec 32 := Scalar.extui v4509
  let v4511 : BitVec 32 := Scalar.subi v4508 v4510
  let v4512 : BitVec 1 := Scalar.cmpi .ne v4506 v4511
  let v4513 : BitVec 32 := Scalar.remsi v4500 c128_i32_2717
  let c0_i32_2722 : BitVec 32 := 0#32
  let v4514 : BitVec 1 := Scalar.cmpi .ne v4513 c0_i32_2722
  let v4515 : BitVec 1 := Scalar.andi v4512 v4514
  let v4501 : BitVec 32 := Scalar.divsi v4500 c128_i32_2717
  let c1_i32_2723 : BitVec 32 := 1#32
  let v4516 : BitVec 32 := Scalar.subi v4501 c1_i32_2723
  let v4517 : BitVec 32 := Scalar.select v4515 v4516 v4501
  let c128_i32_2724 : BitVec 32 := 128#32
  let v4518 : BitVec 32 := Scalar.muli v4517 c128_i32_2724
  v4518
def k0_mult27 (i : grid0.Coords) : BitVec 32 :=
  let arg0 : BitVec 32 := BitVec.ofNat 32 (i 0).val
  let c16_i32_2900 : BitVec 32 := 16#32
  let v4772 : BitVec 32 := Scalar.muli arg0 c16_i32_2900
  let c12_i32_2901 : BitVec 32 := 12#32
  let v4773 : BitVec 32 := Scalar.addi v4772 c12_i32_2901
  let c723_i32_2902 : BitVec 32 := 723#32
  let v4776 : BitVec 32 := Scalar.minsi v4773 c723_i32_2902
  let c4_i32_2903 : BitVec 32 := 4#32
  let v4777 : BitVec 32 := Scalar.muli v4776 c4_i32_2903
  let c0_i32_2905 : BitVec 32 := 0#32
  let v4779 : BitVec 1 := Scalar.cmpi .sgt v4777 c0_i32_2905
  let v4780 : BitVec 32 := Scalar.extui v4779
  let c0_i32_2906 : BitVec 32 := 0#32
  let v4781 : BitVec 1 := Scalar.cmpi .slt v4777 c0_i32_2906
  let v4782 : BitVec 32 := Scalar.extui v4781
  let v4783 : BitVec 32 := Scalar.subi v4780 v4782
  let c128_i32_2904 : BitVec 32 := 128#32
  let c0_i32_2907 : BitVec 32 := 0#32
  let v4784 : BitVec 1 := Scalar.cmpi .sgt c128_i32_2904 c0_i32_2907
  let v4785 : BitVec 32 := Scalar.extui v4784
  let c0_i32_2908 : BitVec 32 := 0#32
  let v4786 : BitVec 1 := Scalar.cmpi .slt c128_i32_2904 c0_i32_2908
  let v4787 : BitVec 32 := Scalar.extui v4786
  let v4788 : BitVec 32 := Scalar.subi v4785 v4787
  let v4789 : BitVec 1 := Scalar.cmpi .ne v4783 v4788
  let v4790 : BitVec 32 := Scalar.remsi v4777 c128_i32_2904
  let c0_i32_2909 : BitVec 32 := 0#32
  let v4791 : BitVec 1 := Scalar.cmpi .ne v4790 c0_i32_2909
  let v4792 : BitVec 1 := Scalar.andi v4789 v4791
  let v4778 : BitVec 32 := Scalar.divsi v4777 c128_i32_2904
  let c1_i32_2910 : BitVec 32 := 1#32
  let v4793 : BitVec 32 := Scalar.subi v4778 c1_i32_2910
  let v4794 : BitVec 32 := Scalar.select v4792 v4793 v4778
  let c128_i32_2911 : BitVec 32 := 128#32
  let v4795 : BitVec 32 := Scalar.muli v4794 c128_i32_2911
  v4795
def k0_mult28 (i : grid0.Coords) : BitVec 32 :=
  let arg0 : BitVec 32 := BitVec.ofNat 32 (i 0).val
  let c16_i32_2931 : BitVec 32 := 16#32
  let v4844 : BitVec 32 := Scalar.muli arg0 c16_i32_2931
  let c13_i32 : BitVec 32 := 13#32
  let v4845 : BitVec 32 := Scalar.addi v4844 c13_i32
  let c723_i32_2932 : BitVec 32 := 723#32
  let v4848 : BitVec 32 := Scalar.minsi v4845 c723_i32_2932
  let c4_i32_2933 : BitVec 32 := 4#32
  let v4849 : BitVec 32 := Scalar.muli v4848 c4_i32_2933
  let c0_i32_2935 : BitVec 32 := 0#32
  let v4851 : BitVec 1 := Scalar.cmpi .sgt v4849 c0_i32_2935
  let v4852 : BitVec 32 := Scalar.extui v4851
  let c0_i32_2936 : BitVec 32 := 0#32
  let v4853 : BitVec 1 := Scalar.cmpi .slt v4849 c0_i32_2936
  let v4854 : BitVec 32 := Scalar.extui v4853
  let v4855 : BitVec 32 := Scalar.subi v4852 v4854
  let c128_i32_2934 : BitVec 32 := 128#32
  let c0_i32_2937 : BitVec 32 := 0#32
  let v4856 : BitVec 1 := Scalar.cmpi .sgt c128_i32_2934 c0_i32_2937
  let v4857 : BitVec 32 := Scalar.extui v4856
  let c0_i32_2938 : BitVec 32 := 0#32
  let v4858 : BitVec 1 := Scalar.cmpi .slt c128_i32_2934 c0_i32_2938
  let v4859 : BitVec 32 := Scalar.extui v4858
  let v4860 : BitVec 32 := Scalar.subi v4857 v4859
  let v4861 : BitVec 1 := Scalar.cmpi .ne v4855 v4860
  let v4862 : BitVec 32 := Scalar.remsi v4849 c128_i32_2934
  let c0_i32_2939 : BitVec 32 := 0#32
  let v4863 : BitVec 1 := Scalar.cmpi .ne v4862 c0_i32_2939
  let v4864 : BitVec 1 := Scalar.andi v4861 v4863
  let v4850 : BitVec 32 := Scalar.divsi v4849 c128_i32_2934
  let c1_i32_2940 : BitVec 32 := 1#32
  let v4865 : BitVec 32 := Scalar.subi v4850 c1_i32_2940
  let v4866 : BitVec 32 := Scalar.select v4864 v4865 v4850
  let c128_i32_2941 : BitVec 32 := 128#32
  let v4867 : BitVec 32 := Scalar.muli v4866 c128_i32_2941
  v4867
def k0_mult29 (i : grid0.Coords) : BitVec 32 :=
  let arg0 : BitVec 32 := BitVec.ofNat 32 (i 0).val
  let c16_i32_2961 : BitVec 32 := 16#32
  let v4927 : BitVec 32 := Scalar.muli arg0 c16_i32_2961
  let c14_i32 : BitVec 32 := 14#32
  let v4928 : BitVec 32 := Scalar.addi v4927 c14_i32
  let c0_i32_2962 : BitVec 32 := 0#32
  let v4929 : BitVec 32 := Scalar.addi v4928 c0_i32_2962
  let c722_i32_2963 : BitVec 32 := 722#32
  let v4930 : BitVec 32 := Scalar.minsi v4929 c722_i32_2963
  let c0_i32_2965 : BitVec 32 := 0#32
  let v4932 : BitVec 1 := Scalar.cmpi .sgt v4930 c0_i32_2965
  let v4933 : BitVec 32 := Scalar.extui v4932
  let c0_i32_2966 : BitVec 32 := 0#32
  let v4934 : BitVec 1 := Scalar.cmpi .slt v4930 c0_i32_2966
  let v4935 : BitVec 32 := Scalar.extui v4934
  let v4936 : BitVec 32 := Scalar.subi v4933 v4935
  let c128_i32_2964 : BitVec 32 := 128#32
  let c0_i32_2967 : BitVec 32 := 0#32
  let v4937 : BitVec 1 := Scalar.cmpi .sgt c128_i32_2964 c0_i32_2967
  let v4938 : BitVec 32 := Scalar.extui v4937
  let c0_i32_2968 : BitVec 32 := 0#32
  let v4939 : BitVec 1 := Scalar.cmpi .slt c128_i32_2964 c0_i32_2968
  let v4940 : BitVec 32 := Scalar.extui v4939
  let v4941 : BitVec 32 := Scalar.subi v4938 v4940
  let v4942 : BitVec 1 := Scalar.cmpi .ne v4936 v4941
  let v4943 : BitVec 32 := Scalar.remsi v4930 c128_i32_2964
  let c0_i32_2969 : BitVec 32 := 0#32
  let v4944 : BitVec 1 := Scalar.cmpi .ne v4943 c0_i32_2969
  let v4945 : BitVec 1 := Scalar.andi v4942 v4944
  let v4931 : BitVec 32 := Scalar.divsi v4930 c128_i32_2964
  let c1_i32_2970 : BitVec 32 := 1#32
  let v4946 : BitVec 32 := Scalar.subi v4931 c1_i32_2970
  let v4947 : BitVec 32 := Scalar.select v4945 v4946 v4931
  let c128_i32_2971 : BitVec 32 := 128#32
  let v4948 : BitVec 32 := Scalar.muli v4947 c128_i32_2971
  v4948
def k0_mult30 (i : grid0.Coords) : BitVec 32 :=
  let arg0 : BitVec 32 := BitVec.ofNat 32 (i 0).val
  let c16_i32_3144 : BitVec 32 := 16#32
  let v5199 : BitVec 32 := Scalar.muli arg0 c16_i32_3144
  let c14_i32_3145 : BitVec 32 := 14#32
  let v5200 : BitVec 32 := Scalar.addi v5199 c14_i32_3145
  let c1_i32_3146 : BitVec 32 := 1#32
  let v5201 : BitVec 32 := Scalar.addi v5200 c1_i32_3146
  let c722_i32_3147 : BitVec 32 := 722#32
  let v5202 : BitVec 32 := Scalar.minsi v5201 c722_i32_3147
  let c0_i32_3149 : BitVec 32 := 0#32
  let v5204 : BitVec 1 := Scalar.cmpi .sgt v5202 c0_i32_3149
  let v5205 : BitVec 32 := Scalar.extui v5204
  let c0_i32_3150 : BitVec 32 := 0#32
  let v5206 : BitVec 1 := Scalar.cmpi .slt v5202 c0_i32_3150
  let v5207 : BitVec 32 := Scalar.extui v5206
  let v5208 : BitVec 32 := Scalar.subi v5205 v5207
  let c128_i32_3148 : BitVec 32 := 128#32
  let c0_i32_3151 : BitVec 32 := 0#32
  let v5209 : BitVec 1 := Scalar.cmpi .sgt c128_i32_3148 c0_i32_3151
  let v5210 : BitVec 32 := Scalar.extui v5209
  let c0_i32_3152 : BitVec 32 := 0#32
  let v5211 : BitVec 1 := Scalar.cmpi .slt c128_i32_3148 c0_i32_3152
  let v5212 : BitVec 32 := Scalar.extui v5211
  let v5213 : BitVec 32 := Scalar.subi v5210 v5212
  let v5214 : BitVec 1 := Scalar.cmpi .ne v5208 v5213
  let v5215 : BitVec 32 := Scalar.remsi v5202 c128_i32_3148
  let c0_i32_3153 : BitVec 32 := 0#32
  let v5216 : BitVec 1 := Scalar.cmpi .ne v5215 c0_i32_3153
  let v5217 : BitVec 1 := Scalar.andi v5214 v5216
  let v5203 : BitVec 32 := Scalar.divsi v5202 c128_i32_3148
  let c1_i32_3154 : BitVec 32 := 1#32
  let v5218 : BitVec 32 := Scalar.subi v5203 c1_i32_3154
  let v5219 : BitVec 32 := Scalar.select v5217 v5218 v5203
  let c128_i32_3155 : BitVec 32 := 128#32
  let v5220 : BitVec 32 := Scalar.muli v5219 c128_i32_3155
  v5220
def k0_mult31 (i : grid0.Coords) : BitVec 32 :=
  let arg0 : BitVec 32 := BitVec.ofNat 32 (i 0).val
  let c16_i32_3331 : BitVec 32 := 16#32
  let v5474 : BitVec 32 := Scalar.muli arg0 c16_i32_3331
  let c14_i32_3332 : BitVec 32 := 14#32
  let v5475 : BitVec 32 := Scalar.addi v5474 c14_i32_3332
  let c723_i32_3333 : BitVec 32 := 723#32
  let v5478 : BitVec 32 := Scalar.minsi v5475 c723_i32_3333
  let c4_i32_3334 : BitVec 32 := 4#32
  let v5479 : BitVec 32 := Scalar.muli v5478 c4_i32_3334
  let c0_i32_3336 : BitVec 32 := 0#32
  let v5481 : BitVec 1 := Scalar.cmpi .sgt v5479 c0_i32_3336
  let v5482 : BitVec 32 := Scalar.extui v5481
  let c0_i32_3337 : BitVec 32 := 0#32
  let v5483 : BitVec 1 := Scalar.cmpi .slt v5479 c0_i32_3337
  let v5484 : BitVec 32 := Scalar.extui v5483
  let v5485 : BitVec 32 := Scalar.subi v5482 v5484
  let c128_i32_3335 : BitVec 32 := 128#32
  let c0_i32_3338 : BitVec 32 := 0#32
  let v5486 : BitVec 1 := Scalar.cmpi .sgt c128_i32_3335 c0_i32_3338
  let v5487 : BitVec 32 := Scalar.extui v5486
  let c0_i32_3339 : BitVec 32 := 0#32
  let v5488 : BitVec 1 := Scalar.cmpi .slt c128_i32_3335 c0_i32_3339
  let v5489 : BitVec 32 := Scalar.extui v5488
  let v5490 : BitVec 32 := Scalar.subi v5487 v5489
  let v5491 : BitVec 1 := Scalar.cmpi .ne v5485 v5490
  let v5492 : BitVec 32 := Scalar.remsi v5479 c128_i32_3335
  let c0_i32_3340 : BitVec 32 := 0#32
  let v5493 : BitVec 1 := Scalar.cmpi .ne v5492 c0_i32_3340
  let v5494 : BitVec 1 := Scalar.andi v5491 v5493
  let v5480 : BitVec 32 := Scalar.divsi v5479 c128_i32_3335
  let c1_i32_3341 : BitVec 32 := 1#32
  let v5495 : BitVec 32 := Scalar.subi v5480 c1_i32_3341
  let v5496 : BitVec 32 := Scalar.select v5494 v5495 v5480
  let c128_i32_3342 : BitVec 32 := 128#32
  let v5497 : BitVec 32 := Scalar.muli v5496 c128_i32_3342
  v5497
def k0_mult32 (i : grid0.Coords) : BitVec 32 :=
  let arg0 : BitVec 32 := BitVec.ofNat 32 (i 0).val
  let c16_i32_3362 : BitVec 32 := 16#32
  let v5546 : BitVec 32 := Scalar.muli arg0 c16_i32_3362
  let c15_i32 : BitVec 32 := 15#32
  let v5547 : BitVec 32 := Scalar.addi v5546 c15_i32
  let c723_i32_3363 : BitVec 32 := 723#32
  let v5550 : BitVec 32 := Scalar.minsi v5547 c723_i32_3363
  let c4_i32_3364 : BitVec 32 := 4#32
  let v5551 : BitVec 32 := Scalar.muli v5550 c4_i32_3364
  let c0_i32_3366 : BitVec 32 := 0#32
  let v5553 : BitVec 1 := Scalar.cmpi .sgt v5551 c0_i32_3366
  let v5554 : BitVec 32 := Scalar.extui v5553
  let c0_i32_3367 : BitVec 32 := 0#32
  let v5555 : BitVec 1 := Scalar.cmpi .slt v5551 c0_i32_3367
  let v5556 : BitVec 32 := Scalar.extui v5555
  let v5557 : BitVec 32 := Scalar.subi v5554 v5556
  let c128_i32_3365 : BitVec 32 := 128#32
  let c0_i32_3368 : BitVec 32 := 0#32
  let v5558 : BitVec 1 := Scalar.cmpi .sgt c128_i32_3365 c0_i32_3368
  let v5559 : BitVec 32 := Scalar.extui v5558
  let c0_i32_3369 : BitVec 32 := 0#32
  let v5560 : BitVec 1 := Scalar.cmpi .slt c128_i32_3365 c0_i32_3369
  let v5561 : BitVec 32 := Scalar.extui v5560
  let v5562 : BitVec 32 := Scalar.subi v5559 v5561
  let v5563 : BitVec 1 := Scalar.cmpi .ne v5557 v5562
  let v5564 : BitVec 32 := Scalar.remsi v5551 c128_i32_3365
  let c0_i32_3370 : BitVec 32 := 0#32
  let v5565 : BitVec 1 := Scalar.cmpi .ne v5564 c0_i32_3370
  let v5566 : BitVec 1 := Scalar.andi v5563 v5565
  let v5552 : BitVec 32 := Scalar.divsi v5551 c128_i32_3365
  let c1_i32_3371 : BitVec 32 := 1#32
  let v5567 : BitVec 32 := Scalar.subi v5552 c1_i32_3371
  let v5568 : BitVec 32 := Scalar.select v5566 v5567 v5552
  let c128_i32_3372 : BitVec 32 := 128#32
  let v5569 : BitVec 32 := Scalar.muli v5568 c128_i32_3372
  v5569
def k0_cond2 (i : grid0.Coords) : BitVec 1 :=
  let arg0 : BitVec 32 := BitVec.ofNat 32 (i 0).val
  let c45_i32 : BitVec 32 := 45#32
  let v5638 : BitVec 1 := Scalar.cmpi .eq arg0 c45_i32
  let v5639 : BitVec 32 := Scalar.extui v5638
  let c0_i32_3398 : BitVec 32 := 0#32
  let v5640 : BitVec 1 := Scalar.cmpi .ne v5639 c0_i32_3398
  v5640

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x723 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2892 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x60 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x60 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S32x1x4096 : Shape := ⟨3, ![32, 1, 4096]⟩
abbrev S4096x92544 : Shape := ⟨2, ![4096, 92544]⟩
abbrev S32x723 : Shape := ⟨2, ![32, 723]⟩
abbrev S32x2892 : Shape := ⟨2, ![32, 2892]⟩
abbrev S32x1x60 : Shape := ⟨3, ![32, 1, 60]⟩
abbrev S32x4096 : Shape := ⟨2, ![32, 4096]⟩
abbrev S32x60 : Shape := ⟨2, ![32, 60]⟩
abbrev S32x92544 : Shape := ⟨2, ![32, 92544]⟩
abbrev S32x1 : Shape := ⟨2, ![32, 1]⟩
abbrev S32 : Shape := ⟨1, ![32]⟩
abbrev S32x128x723x128 : Shape := ⟨4, ![32, 128, 723, 128]⟩
abbrev S32x1x723x1 : Shape := ⟨4, ![32, 1, 723, 1]⟩
abbrev S1x1x32 : Shape := ⟨3, ![1, 1, 32]⟩
abbrev S32x2892x1 : Shape := ⟨3, ![32, 2892, 1]⟩
abbrev S32x2892x32 : Shape := ⟨3, ![32, 2892, 32]⟩
abbrev S32x60x92544 : Shape := ⟨3, ![32, 60, 92544]⟩
abbrev S32x60x1 : Shape := ⟨3, ![32, 60, 1]⟩
abbrev S32x1x92544 : Shape := ⟨3, ![32, 1, 92544]⟩

abbrev nBuf : Space → Nat
  | .hbm => 12
  | .vmem => 10
  | .smem => 0
  | _ => 0

abbrev bufTy : (tb : Table) → Fin (tcTables nBuf tb) → BufTy
  | .hbm, ⟨0, _⟩ => ⟨S32x1x4096, .bf16⟩
  | .hbm, ⟨1, _⟩ => ⟨S4096x92544, .fp8e4m3⟩
  | .hbm, ⟨2, _⟩ => ⟨S32x723, .f32⟩
  | .hbm, ⟨3, _⟩ => ⟨S32x2892, .i32⟩
  | .hbm, ⟨4, _⟩ => ⟨S32x1x60, .i32⟩
  | .hbm, ⟨5, _⟩ => ⟨S32x4096, .bf16⟩
  | .hbm, ⟨6, _⟩ => ⟨S32x60, .i32⟩
  | .hbm, ⟨7, _⟩ => ⟨S32x92544, .f32⟩
  | .hbm, ⟨8, _⟩ => ⟨S32x1, .f32⟩
  | .hbm, ⟨9, _⟩ => ⟨S32x60, .f32⟩
  | .hbm, ⟨10, _⟩ => ⟨S32x4096, .fp8e4m3⟩
  | .hbm, ⟨11, _⟩ => ⟨S32x1, .f32⟩
  | .local _ .vmem, ⟨0, _⟩ => ⟨S32x4096, .bf16⟩
  | .local _ .vmem, ⟨1, _⟩ => ⟨S4096x92544, .fp8e4m3⟩
  | .local _ .vmem, ⟨2, _⟩ => ⟨S32x723, .f32⟩
  | .local _ .vmem, ⟨3, _⟩ => ⟨S32x2892, .i32⟩
  | .local _ .vmem, ⟨4, _⟩ => ⟨S32x60, .i32⟩
  | .local _ .vmem, ⟨5, _⟩ => ⟨S32x92544, .f32⟩
  | .local _ .vmem, ⟨6, _⟩ => ⟨S32x1, .f32⟩
  | .local _ .vmem, ⟨7, _⟩ => ⟨S32x60, .f32⟩
  | .local _ .vmem, ⟨8, _⟩ => ⟨S32x4096, .fp8e4m3⟩
  | .local _ .vmem, ⟨9, _⟩ => ⟨S32x1, .f32⟩
  | _, _ => ⟨S32x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x92544 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x723 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2892 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x60 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x92544 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x60 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelBody.Defs.lean ====
/-
  Names for a buffer's contents and for holding a buffer whole, which the runs of the kernel body share.
-/
module

public import proofs.«01_k».proof.Proof.Gen.Kernel.Frame
public import Idealize.ShloMosaic.Lib.Tactic

@[expose] public section

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- That buffer held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The coordinates of the first grid step. -/
abbrev i0 : grid0.Coords := grid0.coords ⟨0, by decide⟩

end Cert.Kernel.Body

end
-- ==== Proof.KernelBody.First.lean ====
/-
  The kernel body at the first grid step, run once at symbolic operands.
-/
module

public import proofs.«01_k».proof.Proof.KernelBody.Defs

@[expose] public section

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option sl_exec.resultNames true in
/-- The body at the first grid step: it fills the scratch buffers from the inputs, writes the codes and the scales, then does
    the step's blocks. -/
noncomputable def firstRun (c : Dev nD) (hc1 : k0_cond1 i0 = 1#1) (hc2 : ¬ k0_cond2 i0 = 1#1)
    (M1 : Memref sig .tc .vmem S32x4096 .bf16) (h1 : M1.IsWhole)
    (M2 : Memref sig .tc .vmem S4096x2048 .fp8e4m3) (h2 : M2.IsWhole)
    (M3 : Memref sig .tc .vmem S32x723 .f32) (h3 : M3.IsWhole)
    (M4 : Memref sig .tc .vmem S32x2892 .i32) (h4 : M4.IsWhole)
    (M5 : Memref sig .tc .vmem S32x60 .i32) (h5 : M5.IsWhole)
    (M6 : Memref sig .tc .vmem S32x2048 .f32) (h6 : M6.IsWhole)
    (M7 : Memref sig .tc .vmem S32x1 .f32) (h7 : M7.IsWhole)
    (M8 : Memref sig .tc .vmem S32x60 .f32) (h8 : M8.IsWhole)
    (M9 : Memref sig .tc .vmem S32x4096 .fp8e4m3) (h9 : M9.IsWhole)
    (M10 : Memref sig .tc .vmem S32x1 .f32) (h10 : M10.IsWhole)
    (M11 : Memref sig .tc .vmem S32x4096 .bf16) (h11 : M11.IsWhole)
    (M12 : Memref sig .tc .vmem S32x128 .f32) (h12 : M12.IsWhole)
    (M13 : Memref sig .tc .vmem S32x2944 .i32) (h13 : M13.IsWhole)
    (M14 : Memref sig .tc .vmem S32x768 .f32) (h14 : M14.IsWhole)
    (M15 : Memref sig .tc .vmem S2x32x128 .f32) (h15 : M15.IsWhole)
    (M16 : Memref sig .tc .vmem S32x128 .f32) (h16 : M16.IsWhole)
    (M17 : Memref sig .tc .vmem S32x128 .f32) (h17 : M17.IsWhole)
    (M18 : Memref sig .tc .vmem S32x128 .i32) (h18 : M18.IsWhole)
    (M19 : Memref sig .tc .vmem S32x128 .f32) (h19 : M19.IsWhole)
    (f1 : Bf (F := F) c M1) (f2 : Bf (F := F) c M2) (f3 : Bf (F := F) c M3) (f4 : Bf (F := F) c M4) (f5 : Bf (F := F) c M5) :
    { W : Bf (F := F) c M6 × Bf (F := F) c M9 × Bf (F := F) c M10 × Bf (F := F) c M11 × Bf (F := F) c M12 × Bf (F := F) c M13 × Bf (F := F) c M14 × Bf (F := F) c M16 × Bf (F := F) c M17 × Bf (F := F) c M18 × Bf (F := F) c M19 //
      ∀ (f6 : Bf (F := F) c M6) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f19 : Bf (F := F) c M19) (E : Set ℕ) (Q : PUnit → sProp 𝕄),
        iprop(pt c M1 f1 ∗ pt c M2 f2 ∗ pt c M3 f3 ∗ pt c M4 f4 ∗ pt c M5 f5 ∗ pt c M6 f6 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19
          ∗ (iprop(pt c M1 f1 ∗ pt c M2 f2 ∗ pt c M3 f3 ∗ pt c M4 f4 ∗ pt c M5 f5 ∗ pt c M6 W.1 ∗ pt c M9 W.2.1 ∗ pt c M10 W.2.2.1 ∗ pt c M11 W.2.2.2.1 ∗ pt c M12 W.2.2.2.2.1 ∗ pt c M13 W.2.2.2.2.2.1 ∗ pt c M14 W.2.2.2.2.2.2.1 ∗ (∃ f, pt c M15 f) ∗ pt c M16 W.2.2.2.2.2.2.2.1 ∗ pt c M17 W.2.2.2.2.2.2.2.2.1 ∗ pt c M18 W.2.2.2.2.2.2.2.2.2.1 ∗ pt c M19 W.2.2.2.2.2.2.2.2.2.2) -∗ Q ⟨⟩))
        ⊢ wp frame (wpE (defs₀ (F := F)) Variants.none c none) E
            (cc0_masked_lm_head i0 M1 h1 M2 h2 M3 h3 M4 h4 M5 h5 M6 h6 M7 h7 M8 h8 M9 h9 M10 h10 M11 h11 M12 h12 M13 h13 M14 h14 M15 h15 M16 h16 M17 h17 M18 h18 M19 h19) Q } := by
  refine ⟨⟨?_, ?_, ?_, ?_, ?_, ?_, ?_, ?_, ?_, ?_, ?_⟩, fun f6 f9 f10 f11 f12 f13 f14 f15 f16 f17 f18 f19 E Q => ?run⟩
  case run =>
    iintro ⟨H1, H2, H3, H4, H5, H6, H9, H10, H11, H12, H13, H14, H15, H16, H17, H18, H19, Hk⟩
    sl_exec_parts! (disch := assumption)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    isplitl [H17]; · iexact H17
    isplitl [H18]; · iexact H18
    iexact H19

end Cert.Kernel.Body

end
-- ==== Proof.KernelBody.Mid.lean ====
/-
  The kernel body at a middle grid step, run once at symbolic operands.
-/
module

public import proofs.«01_k».proof.Proof.KernelBody.Defs

@[expose] public section

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option sl_exec.resultNames true in
/-- The body at a grid step that is neither the first nor the last: the four buffers it rewrites end at the witnesses, the
    buffer of spread scales at something, every other buffer it reads as it was. -/
noncomputable def midRun (c : Dev nD) (i : grid0.Coords) (hc1 : ¬ k0_cond1 i = 1#1) (hc2 : ¬ k0_cond2 i = 1#1)
    (M1 : Memref sig .tc .vmem S32x4096 .bf16) (h1 : M1.IsWhole)
    (M2 : Memref sig .tc .vmem S4096x2048 .fp8e4m3) (h2 : M2.IsWhole)
    (M3 : Memref sig .tc .vmem S32x723 .f32) (h3 : M3.IsWhole)
    (M4 : Memref sig .tc .vmem S32x2892 .i32) (h4 : M4.IsWhole)
    (M5 : Memref sig .tc .vmem S32x60 .i32) (h5 : M5.IsWhole)
    (M6 : Memref sig .tc .vmem S32x2048 .f32) (h6 : M6.IsWhole)
    (M7 : Memref sig .tc .vmem S32x1 .f32) (h7 : M7.IsWhole)
    (M8 : Memref sig .tc .vmem S32x60 .f32) (h8 : M8.IsWhole)
    (M9 : Memref sig .tc .vmem S32x4096 .fp8e4m3) (h9 : M9.IsWhole)
    (M10 : Memref sig .tc .vmem S32x1 .f32) (h10 : M10.IsWhole)
    (M11 : Memref sig .tc .vmem S32x4096 .bf16) (h11 : M11.IsWhole)
    (M12 : Memref sig .tc .vmem S32x128 .f32) (h12 : M12.IsWhole)
    (M13 : Memref sig .tc .vmem S32x2944 .i32) (h13 : M13.IsWhole)
    (M14 : Memref sig .tc .vmem S32x768 .f32) (h14 : M14.IsWhole)
    (M15 : Memref sig .tc .vmem S2x32x128 .f32) (h15 : M15.IsWhole)
    (M16 : Memref sig .tc .vmem S32x128 .f32) (h16 : M16.IsWhole)
    (M17 : Memref sig .tc .vmem S32x128 .f32) (h17 : M17.IsWhole)
    (M18 : Memref sig .tc .vmem S32x128 .i32) (h18 : M18.IsWhole)
    (M19 : Memref sig .tc .vmem S32x128 .f32) (h19 : M19.IsWhole)
    (f2 : Bf (F := F) c M2) (f11 : Bf (F := F) c M11) (f12 : Bf (F := F) c M12) (f13 : Bf (F := F) c M13) (f14 : Bf (F := F) c M14) (f16 : Bf (F := F) c M16) (f17 : Bf (F := F) c M17) (f18 : Bf (F := F) c M18) (f19 : Bf (F := F) c M19) :
    { W : Bf (F := F) c M6 × Bf (F := F) c M16 × Bf (F := F) c M17 × Bf (F := F) c M19 //
      ∀ (f6 : Bf (F := F) c M6) (f15 : Bf (F := F) c M15) (E : Set ℕ) (Q : PUnit → sProp 𝕄),
        iprop(pt c M2 f2 ∗ pt c M6 f6 ∗ pt c M11 f11 ∗ pt c M12 f12 ∗ pt c M13 f13 ∗ pt c M14 f14 ∗ pt c M15 f15 ∗ pt c M16 f16 ∗ pt c M17 f17 ∗ pt c M18 f18 ∗ pt c M19 f19
          ∗ (iprop(pt c M2 f2 ∗ pt c M6 W.1 ∗ pt c M11 f11 ∗ pt c M12 f12 ∗ pt c M13 f13 ∗ pt c M14 f14 ∗ (∃ f, pt c M15 f) ∗ pt c M16 W.2.1 ∗ pt c M17 W.2.2.1 ∗ pt c M18 f18 ∗ pt c M19 W.2.2.2) -∗ Q ⟨⟩))
        ⊢ wp frame (wpE (defs₀ (F := F)) Variants.none c none) E
            (cc0_masked_lm_head i M1 h1 M2 h2 M3 h3 M4 h4 M5 h5 M6 h6 M7 h7 M8 h8 M9 h9 M10 h10 M11 h11 M12 h12 M13 h13 M14 h14 M15 h15 M16 h16 M17 h17 M18 h18 M19 h19) Q } := by
  refine ⟨⟨?_, ?_, ?_, ?_⟩, fun f6 f15 E Q => ?run⟩
  case run =>
    iintro ⟨H2, H6, H11, H12, H13, H14, H15, H16, H17, H18, H19, Hk⟩
    sl_exec_parts! (disch := assumption)
    sl_step
    iapply Hk
    isplitl [H2]; · iexact H2
    isplitl [H6]; · iexact H6
    isplitl [H11]; · iexact H11
    isplitl [H12]; · iexact H12
    isplitl [H13]; · iexact H13
    isplitl [H14]; · iexact H14
    isplitl [H15]; · iexists _; iexact H15
    isplitl [H16]; · iexact H16
    isplitl [H17]; · iexact H17
    isplitl [H18]; · iexact H18
    iexact H19

end Cert.Kernel.Body

end
-- ==== Proof.KernelBody.Last.lean ====
/-
  The kernel body at the last grid step, run once at symbolic operands.
-/
module

public import proofs.«01_k».proof.Proof.KernelBody.Defs

@[expose] public section

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option sl_exec.resultNames true in
/-- The body at the last grid step: the step's blocks, then the log-sum-exp and the candidates' log-probabilities. -/
noncomputable def lastRun (c : Dev nD) (i : grid0.Coords) (hc1 : ¬ k0_cond1 i = 1#1) (hc2 : k0_cond2 i = 1#1)
    (M1 : Memref sig .tc .vmem S32x4096 .bf16) (h1 : M1.IsWhole)
    (M2 : Memref sig .tc .vmem S4096x2048 .fp8e4m3) (h2 : M2.IsWhole)
    (M3 : Memref sig .tc .vmem S32x723 .f32) (h3 : M3.IsWhole)
    (M4 : Memref sig .tc .vmem S32x2892 .i32) (h4 : M4.IsWhole)
    (M5 : Memref sig .tc .vmem S32x60 .i32) (h5 : M5.IsWhole)
    (M6 : Memref sig .tc .vmem S32x2048 .f32) (h6 : M6.IsWhole)
    (M7 : Memref sig .tc .vmem S32x1 .f32) (h7 : M7.IsWhole)
    (M8 : Memref sig .tc .vmem S32x60 .f32) (h8 : M8.IsWhole)
    (M9 : Memref sig .tc .vmem S32x4096 .fp8e4m3) (h9 : M9.IsWhole)
    (M10 : Memref sig .tc .vmem S32x1 .f32) (h10 : M10.IsWhole)
    (M11 : Memref sig .tc .vmem S32x4096 .bf16) (h11 : M11.IsWhole)
    (M12 : Memref sig .tc .vmem S32x128 .f32) (h12 : M12.IsWhole)
    (M13 : Memref sig .tc .vmem S32x2944 .i32) (h13 : M13.IsWhole)
    (M14 : Memref sig .tc .vmem S32x768 .f32) (h14 : M14.IsWhole)
    (M15 : Memref sig .tc .vmem S2x32x128 .f32) (h15 : M15.IsWhole)
    (M16 : Memref sig .tc .vmem S32x128 .f32) (h16 : M16.IsWhole)
    (M17 : Memref sig .tc .vmem S32x128 .f32) (h17 : M17.IsWhole)
    (M18 : Memref sig .tc .vmem S32x128 .i32) (h18 : M18.IsWhole)
    (M19 : Memref sig .tc .vmem S32x128 .f32) (h19 : M19.IsWhole)
    (f2 : Bf (F := F) c M2) (f11 : Bf (F := F) c M11) (f12 : Bf (F := F) c M12) (f13 : Bf (F := F) c M13) (f14 : Bf (F := F) c M14) (f16 : Bf (F := F) c M16) (f17 : Bf (F := F) c M17) (f18 : Bf (F := F) c M18) (f19 : Bf (F := F) c M19) :
    { W : Bf (F := F) c M6 × Bf (F := F) c M7 × Bf (F := F) c M8 //
      ∀ (f6 : Bf (F := F) c M6) (f7 : Bf (F := F) c M7) (f8 : Bf (F := F) c M8) (f15 : Bf (F := F) c M15) (E : Set ℕ) (Q : PUnit → sProp 𝕄),
        iprop(pt c M2 f2 ∗ pt c M6 f6 ∗ pt c M7 f7 ∗ pt c M8 f8 ∗ pt c M11 f11 ∗ pt c M12 f12 ∗ pt c M13 f13 ∗ pt c M14 f14 ∗ pt c M15 f15 ∗ pt c M16 f16 ∗ pt c M17 f17 ∗ pt c M18 f18 ∗ pt c M19 f19
          ∗ (iprop(pt c M2 f2 ∗ pt c M6 W.1 ∗ pt c M7 W.2.1 ∗ pt c M8 W.2.2 ∗ pt c M11 f11 ∗ pt c M12 f12 ∗ pt c M13 f13 ∗ pt c M14 f14 ∗ (∃ f, pt c M15 f) ∗ (∃ f, pt c M16 f) ∗ (∃ f, pt c M17 f) ∗ pt c M18 f18 ∗ (∃ f, pt c M19 f)) -∗ Q ⟨⟩))
        ⊢ wp frame (wpE (defs₀ (F := F)) Variants.none c none) E
            (cc0_masked_lm_head i M1 h1 M2 h2 M3 h3 M4 h4 M5 h5 M6 h6 M7 h7 M8 h8 M9 h9 M10 h10 M11 h11 M12 h12 M13 h13 M14 h14 M15 h15 M16 h16 M17 h17 M18 h18 M19 h19) Q } := by
  refine ⟨⟨?_, ?_, ?_⟩, fun f6 f7 f8 f15 E Q => ?run⟩
  case run =>
    iintro ⟨H2, H6, H7, H8, H11, H12, H13, H14, H15, H16, H17, H18, H19, Hk⟩
    sl_exec_parts! (disch := assumption)
    sl_step
    iapply Hk
    isplitl [H2]; · iexact H2
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexact H18
    iexists _; iexact H19

end Cert.Kernel.Body

end
-- ==== Proof.KernelBody.Frame.lean ====
/-
  The kernel's run over the whole grid, from an invariant on the scratch buffers. The grid has 46 steps; the body at the first, a
  middle and the last one is run in `First`, `Mid` and `Last`. An invariant (`Inv`) says what the scratch buffers hold before each
  step and what each step leaves in the results' blocks; if the three runs keep it (`Inv.Steps`), every execution of the program
  ends, and the results' arrays are made of blocks that the invariant allows (`run_main`).
-/
module

public import proofs.«01_k».proof.Proof.KernelBody.First
public import proofs.«01_k».proof.Proof.KernelBody.Mid
public import proofs.«01_k».proof.Proof.KernelBody.Last
public import Idealize.ShloMosaic.Lib.Pipeline.Frame
public import Idealize.ShloMosaic.Lib.Pipeline.FrameBody

@[expose] public section

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands -/

/-- The scratch buffers. -/
abbrev sc11 : Memref sig .tc .vmem S32x4096 .bf16 := Memref.whole cc0_scratch0
abbrev sc12 : Memref sig .tc .vmem S32x128 .f32 := Memref.whole cc0_scratch1
abbrev sc13 : Memref sig .tc .vmem S32x2944 .i32 := Memref.whole cc0_scratch2
abbrev sc14 : Memref sig .tc .vmem S32x768 .f32 := Memref.whole cc0_scratch3
abbrev sc15 : Memref sig .tc .vmem S2x32x128 .f32 := Memref.whole cc0_scratch4
abbrev sc16 : Memref sig .tc .vmem S32x128 .f32 := Memref.whole cc0_scratch5
abbrev sc17 : Memref sig .tc .vmem S32x128 .f32 := Memref.whole cc0_scratch6
abbrev sc18 : Memref sig .tc .vmem S32x128 .i32 := Memref.whole cc0_scratch7
abbrev sc19 : Memref sig .tc .vmem S32x128 .f32 := Memref.whole cc0_scratch8
/-- The staging memrefs are whole buffers. -/
abbrev hs0 (t : Fin cfg0.N) : (st0_0 t).IsWhole := hstage0_0 ((cfg0.slots t 0).cast nbuf0_0)
abbrev hs1 (t : Fin cfg0.N) : (st0_1 t).IsWhole := hstage0_1 ((cfg0.slots t 1).cast nbuf0_1)
abbrev hs2 (t : Fin cfg0.N) : (st0_2 t).IsWhole := hstage0_2 ((cfg0.slots t 2).cast nbuf0_2)
abbrev hs3 (t : Fin cfg0.N) : (st0_3 t).IsWhole := hstage0_3 ((cfg0.slots t 3).cast nbuf0_3)
abbrev hs4 (t : Fin cfg0.N) : (st0_4 t).IsWhole := hstage0_4 ((cfg0.slots t 4).cast nbuf0_4)
abbrev hs5 (t : Fin cfg0.N) : (st0_5 t).IsWhole := hstage0_5 ((cfg0.slots t 5).cast nbuf0_5)
abbrev hs6 (t : Fin cfg0.N) : (st0_6 t).IsWhole := hstage0_6 ((cfg0.slots t 6).cast nbuf0_6)
abbrev hs7 (t : Fin cfg0.N) : (st0_7 t).IsWhole := hstage0_7 ((cfg0.slots t 7).cast nbuf0_7)
abbrev hs8 (t : Fin cfg0.N) : (st0_8 t).IsWhole := hstage0_8 ((cfg0.slots t 8).cast nbuf0_8)
abbrev hs9 (t : Fin cfg0.N) : (st0_9 t).IsWhole := hstage0_9 ((cfg0.slots t 9).cast nbuf0_9)

/-- Owning a whole memref is holding its buffer at contents that read so. -/
theorem owns_eq_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]
theorem owns_of_pt {c : Dev nD} {sp : Space} {S : Shape} {e : EltTy} {M : Memref sig .tc sp S e} (h : M.IsWhole) (f : Bf (F := F) c M) :
    (pt c M f : sProp 𝕄) ⊢ owns (c : Thread nD τ) M fullShare (M.view.read (Elt F) f) := by
  rw [owns_eq_pt c M h]; iintro H; iexists f; isplitr; swap; · iexact H
  ipureintro; rfl

theorem cond1_iff : ∀ t : Fin grid0.N, k0_cond1 (grid0.coords t) = 1#1 ↔ t.val = 0 := by decide
theorem cond2_iff : ∀ t : Fin grid0.N, k0_cond2 (grid0.coords t) = 1#1 ↔ t.val = 45 := by decide

/-! ## The runs of the body at the pipeline's buffers -/

/-- The first step. -/
abbrev t₀ : Fin cfg0.N := ⟨0, by decide⟩

def firstAt (c : Dev nD) (f1 : Bf (F := F) c (st0_0 t₀)) (f2 : Bf (F := F) c (st0_1 t₀)) (f3 : Bf (F := F) c (st0_2 t₀))
    (f4 : Bf (F := F) c (st0_3 t₀)) (f5 : Bf (F := F) c (st0_4 t₀)) :=
  firstRun (F := F) c ((cond1_iff t₀).mpr rfl) (fun h => absurd ((cond2_iff t₀).mp h) (by decide))
    (st0_0 t₀) (hs0 t₀) (st0_1 t₀) (hs1 t₀) (st0_2 t₀) (hs2 t₀) (st0_3 t₀) (hs3 t₀) (st0_4 t₀) (hs4 t₀) (st0_5 t₀) (hs5 t₀) (st0_6 t₀) (hs6 t₀) (st0_7 t₀) (hs7 t₀) (st0_8 t₀) (hs8 t₀) (st0_9 t₀) (hs9 t₀)
    sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) f1 f2 f3 f4 f5

def midAt (c : Dev nD) (t : Fin cfg0.N) (h0 : t.val ≠ 0) (h45 : t.val ≠ 45) (f2 : Bf (F := F) c (st0_1 t))
    (f11 : Bf (F := F) c sc11) (f12 : Bf (F := F) c sc12) (f13 : Bf (F := F) c sc13) (f14 : Bf (F := F) c sc14) (f16 : Bf (F := F) c sc16) (f17 : Bf (F := F) c sc17) (f18 : Bf (F := F) c sc18) (f19 : Bf (F := F) c sc19) :=
  midRun (F := F) c (grid0.coords t) (fun h => h0 ((cond1_iff t).mp h)) (fun h => h45 ((cond2_iff t).mp h))
    (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t)
    sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) f2 f11 f12 f13 f14 f16 f17 f18 f19

def lastAt (c : Dev nD) (t : Fin cfg0.N) (h45 : t.val = 45) (f2 : Bf (F := F) c (st0_1 t))
    (f11 : Bf (F := F) c sc11) (f12 : Bf (F := F) c sc12) (f13 : Bf (F := F) c sc13) (f14 : Bf (F := F) c sc14) (f16 : Bf (F := F) c sc16) (f17 : Bf (F := F) c sc17) (f18 : Bf (F := F) c sc18) (f19 : Bf (F := F) c sc19) :=
  lastRun (F := F) c (grid0.coords t) (fun h => by have := (cond1_iff t).mp h; omega) ((cond2_iff t).mpr h45)
    (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t)
    sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) f2 f11 f12 f13 f14 f16 f17 f18 f19

/-! ## Invariants -/

variable (F) in
/-- What the scratch buffers hold before step `n` (`scr`), what a step may leave in the block of masked logits (`out`), what the
    last step may leave in the log-sum-exp and the candidates' log-probabilities (`lse`, `lp`), and what the first step may leave in
    the codes and the scales (`codes`, `xs`). -/
structure Inv where
  scr (c : Dev nD) (n : ℕ) : Bf (F := F) c sc11 → Bf (F := F) c sc12 → Bf (F := F) c sc13 → Bf (F := F) c sc14 → Bf (F := F) c sc16 → Bf (F := F) c sc17 → Bf (F := F) c sc18 → Bf (F := F) c sc19 → Prop
  out (c : Dev nD) (t : Fin cfg0.N) : (S32x2048.Idx → Elt F .f32) → Prop
  lse (c : Dev nD) : (S32x1.Idx → Elt F .f32) → Prop
  lp (c : Dev nD) : (S32x60.Idx → Elt F .f32) → Prop
  codes (c : Dev nD) : (S32x4096.Idx → Elt F .fp8e4m3) → Prop
  xs (c : Dev nD) : (S32x1.Idx → Elt F .f32) → Prop

/-- The three runs keep the invariant. -/
structure Inv.Steps (I : Inv F) : Prop where
  first : ∀ (c : Dev nD) (f1 : Bf (F := F) c (st0_0 t₀)) (f2 : Bf (F := F) c (st0_1 t₀)) (f3 : Bf (F := F) c (st0_2 t₀))
      (f4 : Bf (F := F) c (st0_3 t₀)) (f5 : Bf (F := F) c (st0_4 t₀)),
    (∃ d, (st0_0 t₀).view.read (Elt F) f1 = (cfg0.win 0).fill (grid0.coords t₀) d (iblk m c 0 t₀)) →
    (∃ d, (st0_1 t₀).view.read (Elt F) f2 = (cfg0.win 1).fill (grid0.coords t₀) d (iblk m c 1 t₀)) →
    (∃ d, (st0_2 t₀).view.read (Elt F) f3 = (cfg0.win 2).fill (grid0.coords t₀) d (iblk m c 2 t₀)) →
    (∃ d, (st0_3 t₀).view.read (Elt F) f4 = (cfg0.win 3).fill (grid0.coords t₀) d (iblk m c 3 t₀)) →
    (∃ d, (st0_4 t₀).view.read (Elt F) f5 = (cfg0.win 4).fill (grid0.coords t₀) d (iblk m c 4 t₀)) →
    ∀ W, W = (firstAt c f1 f2 f3 f4 f5).1 →
      I.scr c 1 (W.2.2.2.1) (W.2.2.2.2.1) (W.2.2.2.2.2.1) (W.2.2.2.2.2.2.1) (W.2.2.2.2.2.2.2.1) (W.2.2.2.2.2.2.2.2.1) (W.2.2.2.2.2.2.2.2.2.1) (W.2.2.2.2.2.2.2.2.2.2)
        ∧ I.out c t₀ ((st0_5 t₀).view.read (Elt F) W.1)
        ∧ I.codes c ((st0_8 t₀).view.read (Elt F) W.2.1) ∧ I.xs c ((st0_9 t₀).view.read (Elt F) W.2.2.1)
  mid : ∀ (c : Dev nD) (t : Fin cfg0.N) (h0 : t.val ≠ 0) (h45 : t.val ≠ 45) (f2 : Bf (F := F) c (st0_1 t)) (f11 : Bf (F := F) c sc11) (f12 : Bf (F := F) c sc12) (f13 : Bf (F := F) c sc13) (f14 : Bf (F := F) c sc14) (f16 : Bf (F := F) c sc16) (f17 : Bf (F := F) c sc17) (f18 : Bf (F := F) c sc18) (f19 : Bf (F := F) c sc19),
    (∃ d, (st0_1 t).view.read (Elt F) f2 = (cfg0.win 1).fill (grid0.coords t) d (iblk m c 1 t)) → I.scr c t.val f11 f12 f13 f14 f16 f17 f18 f19 →
    ∀ W, W = (midAt c t h0 h45 f2 f11 f12 f13 f14 f16 f17 f18 f19).1 →
      I.scr c (t.val + 1) f11 f12 f13 f14 (W.2.1) (W.2.2.1) f18 (W.2.2.2)
        ∧ I.out c t ((st0_5 t).view.read (Elt F) W.1)
  last : ∀ (c : Dev nD) (t : Fin cfg0.N) (h45 : t.val = 45) (f2 : Bf (F := F) c (st0_1 t)) (f11 : Bf (F := F) c sc11) (f12 : Bf (F := F) c sc12) (f13 : Bf (F := F) c sc13) (f14 : Bf (F := F) c sc14) (f16 : Bf (F := F) c sc16) (f17 : Bf (F := F) c sc17) (f18 : Bf (F := F) c sc18) (f19 : Bf (F := F) c sc19),
    (∃ d, (st0_1 t).view.read (Elt F) f2 = (cfg0.win 1).fill (grid0.coords t) d (iblk m c 1 t)) → I.scr c t.val f11 f12 f13 f14 f16 f17 f18 f19 →
    ∀ W, W = (lastAt c t h45 f2 f11 f12 f13 f14 f16 f17 f18 f19).1 →
      I.out c t ((st0_5 t).view.read (Elt F) W.1)
        ∧ I.lse c ((st0_6 t).view.read (Elt F) W.2.1) ∧ I.lp c ((st0_7 t).view.read (Elt F) W.2.2)

variable (I : Inv F)

/-- The scratch buffers between steps: at anything before the first and after the last step, and as the invariant says between. -/
def scratch (c : Dev nD) (n : ℕ) : sProp 𝕄 :=
  iprop(∃ f11 f12 f13 f14 f15 f16 f17 f18 f19, ⌜n ≠ 0 → n ≠ 46 → I.scr c n f11 f12 f13 f14 f16 f17 f18 f19⌝ ∗ pt c sc11 f11 ∗ pt c sc12 f12 ∗ pt c sc13 f13 ∗ pt c sc14 f14 ∗ pt c sc15 f15 ∗ pt c sc16 f16 ∗ pt c sc17 f17 ∗ pt c sc18 f18 ∗ pt c sc19 f19)

/-- The proof data: the arrays at what the region finds; the inputs' buffers left as found; the results' blocks as the invariant says. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => I.out c t X
    | ⟨6, _⟩ => fun _ X => t.val = 45 → I.lse c X
    | ⟨7, _⟩ => fun _ X => t.val = 45 → I.lp c X
    | ⟨8, _⟩ => fun _ X => I.codes c X
    | ⟨9, _⟩ => fun _ X => I.xs c X
  Φ n := iprop(scratch I c n.val ∗ ∃ r, prngReg c r)
  q _ := fullShare
  owed _ := 0

theorem scratch_of_rest (c : Dev nD) : (Pipeline.ΦA spec0 c : sProp 𝕄) ⊢ (rdat m I c).Φ 0 := by
  rw [show (rdat m I c).Φ 0 = iprop(scratch I c 0 ∗ ∃ r, prngReg c r) from rfl]
  unfold Pipeline.ΦA scratch; rw [scopedRest0_eq]
  iintro ⟨⟨⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩, Hg⟩
  isplitr [Hg]; swap; · iexact Hg
  iexists f11; iexists f12; iexists f13; iexists f14; iexists f15; iexists f16; iexists f17; iexists f18; iexists f19
  isplitr; · ipureintro; exact fun h => absurd rfl h
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem rest_of_scratch (c : Dev nD) : (rdat m I c).Φ (Fin.last cfg0.N) ⊢ (Pipeline.ΦA spec0 c : sProp 𝕄) := by
  rw [show (rdat m I c).Φ (Fin.last cfg0.N) = iprop(scratch I c (Fin.last cfg0.N).val ∗ ∃ r, prngReg c r) from rfl]
  unfold Pipeline.ΦA scratch; rw [scopedRest0_eq]
  iintro ⟨⟨%f11, %f12, %f13, %f14, %f15, %f16, %f17, %f18, %f19, -, H11, H12, H13, H14, H15, H16, H17, H18, H19⟩, Hg⟩
  isplitr [Hg]; swap; · iexact Hg
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-! ## The body obligation -/

/-- What the body is called with at point `t`, the current buffers at `Y`. -/
def bodyPre (c : Dev nD) (t : Fin cfg0.N) (Y : (w : Fin cfg0.W) → (cfg0.win w).block.Idx → Elt F (cfg0.win w).elt) : sProp 𝕄 :=
  iprop(iprop(scratch I c t.val ∗ ∃ r, prngReg c r) ∗ (rdat m I c).owesAt () t.castSucc
    ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9))

/-- What it returns. -/
def bodyPost (c : Dev nD) (t : Fin cfg0.N) (Y : (w : Fin cfg0.W) → (cfg0.win w).block.Idx → Elt F (cfg0.win w).elt) : sProp 𝕄 :=
  iprop(iprop(scratch I c (t.val + 1) ∗ ∃ r, prngReg c r) ∗ (rdat m I c).owesAt () t.castSucc
    ∗ (∃ X, ⌜(rdat m I c).after 0 t (Y 0) X⌝ ∗ owns (c : Thread nD τ) (st0_0 t) fullShare X) ∗ (∃ X, ⌜(rdat m I c).after 1 t (Y 1) X⌝ ∗ owns (c : Thread nD τ) (st0_1 t) fullShare X) ∗ (∃ X, ⌜(rdat m I c).after 2 t (Y 2) X⌝ ∗ owns (c : Thread nD τ) (st0_2 t) fullShare X) ∗ (∃ X, ⌜(rdat m I c).after 3 t (Y 3) X⌝ ∗ owns (c : Thread nD τ) (st0_3 t) fullShare X) ∗ (∃ X, ⌜(rdat m I c).after 4 t (Y 4) X⌝ ∗ owns (c : Thread nD τ) (st0_4 t) fullShare X) ∗ (∃ X, ⌜(rdat m I c).after 5 t (Y 5) X⌝ ∗ owns (c : Thread nD τ) (st0_5 t) fullShare X) ∗ (∃ X, ⌜(rdat m I c).after 6 t (Y 6) X⌝ ∗ owns (c : Thread nD τ) (st0_6 t) fullShare X) ∗ (∃ X, ⌜(rdat m I c).after 7 t (Y 7) X⌝ ∗ owns (c : Thread nD τ) (st0_7 t) fullShare X) ∗ (∃ X, ⌜(rdat m I c).after 8 t (Y 8) X⌝ ∗ owns (c : Thread nD τ) (st0_8 t) fullShare X) ∗ (∃ X, ⌜(rdat m I c).after 9 t (Y 9) X⌝ ∗ owns (c : Thread nD τ) (st0_9 t) fullShare X))

/-- What the body may find in the buffer of an input fetched at the point. -/
theorem finds_fetched (c : Dev nD) (w : Fin cfg0.W) (t : Fin cfg0.N) (hf : (cfg0.win w).fetch t = true)
    {X : (cfg0.win w).block.Idx → Elt F (cfg0.win w).elt} (h : (rdat m I c).Finds w t X) :
    ∃ d, X = (cfg0.win w).fill (grid0.coords t) d (iblk m c w t) :=
  ((rdat m I c).finds_of_fetch hf X).mp h

/-- After the first step, what the body may find in the buffer of the codes, written back after the last step only, is what it
    may have left there. -/
theorem finds_codes (c : Dev nD) (t : Fin cfg0.N) (h0 : t.val ≠ 0) {X : (cfg0.win 8).block.Idx → Elt F (cfg0.win 8).elt}
    (h : (rdat m I c).Finds 8 t X) : I.codes c X := by
  rcases ((rdat m I c).finds_of_pos (w := 8) (by rfl) h0 X).mp h with hfl | ⟨Y, -, hL⟩
  · have h46 := t.isLt; have hN : cfg0.N = 46 := N_0
    have := (flush0_8 _).mp hfl
    have h' : (t.val - 1) % 46 = 45 := this
    omega
  · exact hL
/-- The same of the scales. -/
theorem finds_xs (c : Dev nD) (t : Fin cfg0.N) (h0 : t.val ≠ 0) {X : (cfg0.win 9).block.Idx → Elt F (cfg0.win 9).elt}
    (h : (rdat m I c).Finds 9 t X) : I.xs c X := by
  rcases ((rdat m I c).finds_of_pos (w := 9) (by rfl) h0 X).mp h with hfl | ⟨Y, -, hL⟩
  · have h46 := t.isLt; have hN : cfg0.N = 46 := N_0
    have := (flush0_9 _).mp hfl
    have h' : (t.val - 1) % 46 = 45 := this
    omega
  · exact hL

set_option maxHeartbeats 4000000 in
theorem body_first (hI : I.Steps m) (c : Dev nD) (Y : (w : Fin cfg0.W) → (cfg0.win w).block.Idx → Elt F (cfg0.win w).elt) (hY : ∀ w, (rdat m I c).Finds w t₀ (Y w)) :
    bodyPre m I c t₀ Y ⊢ wp frame (wpE (defs₀ (F := F)) Variants.none c none) Set.univ (bodyAt0 t₀) (fun _ => bodyPost m I c t₀ Y) := by

  unfold bodyPre bodyPost scratch
  rw [owns_eq_pt c (st0_0 t₀) (hs0 t₀), owns_eq_pt c (st0_1 t₀) (hs1 t₀), owns_eq_pt c (st0_2 t₀) (hs2 t₀), owns_eq_pt c (st0_3 t₀) (hs3 t₀), owns_eq_pt c (st0_4 t₀) (hs4 t₀), owns_eq_pt c (st0_5 t₀) (hs5 t₀), owns_eq_pt c (st0_6 t₀) (hs6 t₀), owns_eq_pt c (st0_7 t₀) (hs7 t₀), owns_eq_pt c (st0_8 t₀) (hs8 t₀), owns_eq_pt c (st0_9 t₀) (hs9 t₀)]
  iintro ⟨⟨⟨%f11, %f12, %f13, %f14, %f15, %f16, %f17, %f18, %f19, %hscr, Hs11, Hs12, Hs13, Hs14, Hs15, Hs16, Hs17, Hs18, Hs19⟩, Hg⟩, Ho,
    ⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩⟩
  have hW := hI.first c g0 g1 g2 g3 g4 (hg0 ▸ finds_fetched m I c 0 t₀ ((fetch0_0 t₀).mpr rfl) (hY 0)) (hg1 ▸ finds_fetched m I c 1 t₀ (fetch0_1 t₀) (hY 1))
    (hg2 ▸ finds_fetched m I c 2 t₀ ((fetch0_2 t₀).mpr rfl) (hY 2)) (hg3 ▸ finds_fetched m I c 3 t₀ ((fetch0_3 t₀).mpr rfl) (hY 3))
    (hg4 ▸ finds_fetched m I c 4 t₀ ((fetch0_4 t₀).mpr rfl) (hY 4)) _ rfl
  obtain ⟨hscr', hout, hcodes, hxs⟩ := hW
  iapply ((firstAt c g0 g1 g2 g3 g4).2 g5 g8 g9 f11 f12 f13 f14 f15 f16 f17 f18 f19 Set.univ _)
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  iintro ⟨H0, H1, H2, H3, H4, H5, H8, H9, Hs11, Hs12, Hs13, Hs14, ⟨%e15, Hs15⟩, Hs16, Hs17, Hs18, Hs19⟩
  isplitl [Hs11 Hs12 Hs13 Hs14 Hs15 Hs16 Hs17 Hs18 Hs19 Hg]
  · isplitr [Hg]; swap; · iexact Hg
    iexists _; iexists _; iexists _; iexists _; iexists _; iexists _; iexists _; iexists _; iexists _
    isplitr; swap
    · isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      iexact Hs19
    ipureintro; exact fun _ _ => hscr'
  isplitl [Ho]; · iexact Ho
  isplitl [H0]
  · iexists _; isplitr; swap; · iapply (owns_of_pt (hs0 t₀)); iexact H0
    ipureintro; exact hg0
  isplitl [H1]
  · iexists _; isplitr; swap; · iapply (owns_of_pt (hs1 t₀)); iexact H1
    ipureintro; exact hg1
  isplitl [H2]
  · iexists _; isplitr; swap; · iapply (owns_of_pt (hs2 t₀)); iexact H2
    ipureintro; exact hg2
  isplitl [H3]
  · iexists _; isplitr; swap; · iapply (owns_of_pt (hs3 t₀)); iexact H3
    ipureintro; exact hg3
  isplitl [H4]
  · iexists _; isplitr; swap; · iapply (owns_of_pt (hs4 t₀)); iexact H4
    ipureintro; exact hg4
  isplitl [H5]
  · iexists _; isplitr; swap; · iapply (owns_of_pt (hs5 t₀)); iexact H5
    ipureintro; exact hout
  isplitl [H6]
  · iexists _; isplitr; swap; · iapply (owns_of_pt (hs6 t₀)); iexact H6
    ipureintro; intro h; exact absurd h (by decide)
  isplitl [H7]
  · iexists _; isplitr; swap; · iapply (owns_of_pt (hs7 t₀)); iexact H7
    ipureintro; intro h; exact absurd h (by decide)
  isplitl [H8]
  · iexists _; isplitr; swap; · iapply (owns_of_pt (hs8 t₀)); iexact H8
    ipureintro; exact hcodes
  iexists _; isplitr; swap; · iapply (owns_of_pt (hs9 t₀)); iexact H9
  ipureintro; exact hxs

set_option maxHeartbeats 4000000 in
theorem body_mid (hI : I.Steps m) (c : Dev nD) (t : Fin cfg0.N) (h0 : t.val ≠ 0) (h45 : t.val ≠ 45) (Y : (w : Fin cfg0.W) → (cfg0.win w).block.Idx → Elt F (cfg0.win w).elt) (hY : ∀ w, (rdat m I c).Finds w t (Y w)) :
    bodyPre m I c t Y ⊢ wp frame (wpE (defs₀ (F := F)) Variants.none c none) Set.univ (bodyAt0 t) (fun _ => bodyPost m I c t Y) := by

  unfold bodyPre bodyPost scratch
  rw [owns_eq_pt c (st0_0 t) (hs0 t), owns_eq_pt c (st0_1 t) (hs1 t), owns_eq_pt c (st0_2 t) (hs2 t), owns_eq_pt c (st0_3 t) (hs3 t), owns_eq_pt c (st0_4 t) (hs4 t), owns_eq_pt c (st0_5 t) (hs5 t), owns_eq_pt c (st0_6 t) (hs6 t), owns_eq_pt c (st0_7 t) (hs7 t), owns_eq_pt c (st0_8 t) (hs8 t), owns_eq_pt c (st0_9 t) (hs9 t)]
  iintro ⟨⟨⟨%f11, %f12, %f13, %f14, %f15, %f16, %f17, %f18, %f19, %hscr, Hs11, Hs12, Hs13, Hs14, Hs15, Hs16, Hs17, Hs18, Hs19⟩, Hg⟩, Ho,
    ⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩⟩
  have h46 : t.val ≠ 46 := fun h => absurd t.isLt (by rw [h, show cfg0.N = 46 from N_0]; decide)
  obtain ⟨hscr', hout⟩ := hI.mid c t h0 h45 g1 f11 f12 f13 f14 f16 f17 f18 f19 (hg1 ▸ finds_fetched m I c 1 t (fetch0_1 t) (hY 1)) (hscr h0 h46) _ rfl
  iapply ((midAt c t h0 h45 g1 f11 f12 f13 f14 f16 f17 f18 f19).2 g5 f15 Set.univ _)
  isplitl [H1]; · iexact H1
  isplitl [H5]; · iexact H5
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  iintro ⟨H1, H5, Hs11, Hs12, Hs13, Hs14, ⟨%e15, Hs15⟩, Hs16, Hs17, Hs18, Hs19⟩
  isplitl [Hs11 Hs12 Hs13 Hs14 Hs15 Hs16 Hs17 Hs18 Hs19 Hg]
  · isplitr [Hg]; swap; · iexact Hg
    iexists _; iexists _; iexists _; iexists _; iexists _; iexists _; iexists _; iexists _; iexists _
    isplitr; swap
    · isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      iexact Hs19
    ipureintro; exact fun _ _ => hscr'
  isplitl [Ho]; · iexact Ho
  isplitl [H0]
  · iexists _; isplitr; swap; · iapply (owns_of_pt (hs0 t)); iexact H0
    ipureintro; exact hg0
  isplitl [H1]
  · iexists _; isplitr; swap; · iapply (owns_of_pt (hs1 t)); iexact H1
    ipureintro; exact hg1
  isplitl [H2]
  · iexists _; isplitr; swap; · iapply (owns_of_pt (hs2 t)); iexact H2
    ipureintro; exact hg2
  isplitl [H3]
  · iexists _; isplitr; swap; · iapply (owns_of_pt (hs3 t)); iexact H3
    ipureintro; exact hg3
  isplitl [H4]
  · iexists _; isplitr; swap; · iapply (owns_of_pt (hs4 t)); iexact H4
    ipureintro; exact hg4
  isplitl [H5]
  · iexists _; isplitr; swap; · iapply (owns_of_pt (hs5 t)); iexact H5
    ipureintro; exact hout
  isplitl [H6]
  · iexists _; isplitr; swap; · iapply (owns_of_pt (hs6 t)); iexact H6
    ipureintro; intro h; exact absurd h h45
  isplitl [H7]
  · iexists _; isplitr; swap; · iapply (owns_of_pt (hs7 t)); iexact H7
    ipureintro; intro h; exact absurd h h45
  isplitl [H8]
  · iexists _; isplitr; swap; · iapply (owns_of_pt (hs8 t)); iexact H8
    ipureintro; show I.codes c _; rw [hg8]; exact finds_codes m I c t h0 (hY 8)
  iexists _; isplitr; swap; · iapply (owns_of_pt (hs9 t)); iexact H9
  ipureintro; show I.xs c _; rw [hg9]; exact finds_xs m I c t h0 (hY 9)

set_option maxHeartbeats 4000000 in
theorem body_last (hI : I.Steps m) (c : Dev nD) (t : Fin cfg0.N) (h45 : t.val = 45) (Y : (w : Fin cfg0.W) → (cfg0.win w).block.Idx → Elt F (cfg0.win w).elt) (hY : ∀ w, (rdat m I c).Finds w t (Y w)) :
    bodyPre m I c t Y ⊢ wp frame (wpE (defs₀ (F := F)) Variants.none c none) Set.univ (bodyAt0 t) (fun _ => bodyPost m I c t Y) := by

  unfold bodyPre bodyPost scratch
  rw [owns_eq_pt c (st0_0 t) (hs0 t), owns_eq_pt c (st0_1 t) (hs1 t), owns_eq_pt c (st0_2 t) (hs2 t), owns_eq_pt c (st0_3 t) (hs3 t), owns_eq_pt c (st0_4 t) (hs4 t), owns_eq_pt c (st0_5 t) (hs5 t), owns_eq_pt c (st0_6 t) (hs6 t), owns_eq_pt c (st0_7 t) (hs7 t), owns_eq_pt c (st0_8 t) (hs8 t), owns_eq_pt c (st0_9 t) (hs9 t)]
  iintro ⟨⟨⟨%f11, %f12, %f13, %f14, %f15, %f16, %f17, %f18, %f19, %hscr, Hs11, Hs12, Hs13, Hs14, Hs15, Hs16, Hs17, Hs18, Hs19⟩, Hg⟩, Ho,
    ⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩⟩
  have h0 : t.val ≠ 0 := by omega
  obtain ⟨hout, hlse, hlp⟩ := hI.last c t h45 g1 f11 f12 f13 f14 f16 f17 f18 f19 (hg1 ▸ finds_fetched m I c 1 t (fetch0_1 t) (hY 1)) (hscr h0 (by omega)) _ rfl
  iapply ((lastAt c t h45 g1 f11 f12 f13 f14 f16 f17 f18 f19).2 g5 g6 g7 f15 Set.univ _)
  isplitl [H1]; · iexact H1
  isplitl [H5]; · iexact H5
  isplitl [H6]; · iexact H6
  isplitl [H7]; · iexact H7
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  iintro ⟨H1, H5, H6, H7, Hs11, Hs12, Hs13, Hs14, ⟨%e15, Hs15⟩, ⟨%e16, Hs16⟩, ⟨%e17, Hs17⟩, Hs18, ⟨%e19, Hs19⟩⟩
  isplitl [Hs11 Hs12 Hs13 Hs14 Hs15 Hs16 Hs17 Hs18 Hs19 Hg]
  · isplitr [Hg]; swap; · iexact Hg
    iexists _; iexists _; iexists _; iexists _; iexists _; iexists _; iexists _; iexists _; iexists _
    isplitr; swap
    · isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      iexact Hs19
    ipureintro; exact fun _ h => absurd (by omega) h
  isplitl [Ho]; · iexact Ho
  isplitl [H0]
  · iexists _; isplitr; swap; · iapply (owns_of_pt (hs0 t)); iexact H0
    ipureintro; exact hg0
  isplitl [H1]
  · iexists _; isplitr; swap; · iapply (owns_of_pt (hs1 t)); iexact H1
    ipureintro; exact hg1
  isplitl [H2]
  · iexists _; isplitr; swap; · iapply (owns_of_pt (hs2 t)); iexact H2
    ipureintro; exact hg2
  isplitl [H3]
  · iexists _; isplitr; swap; · iapply (owns_of_pt (hs3 t)); iexact H3
    ipureintro; exact hg3
  isplitl [H4]
  · iexists _; isplitr; swap; · iapply (owns_of_pt (hs4 t)); iexact H4
    ipureintro; exact hg4
  isplitl [H5]
  · iexists _; isplitr; swap; · iapply (owns_of_pt (hs5 t)); iexact H5
    ipureintro; exact hout
  isplitl [H6]
  · iexists _; isplitr; swap; · iapply (owns_of_pt (hs6 t)); iexact H6
    ipureintro; exact fun _ => hlse
  isplitl [H7]
  · iexists _; isplitr; swap; · iapply (owns_of_pt (hs7 t)); iexact H7
    ipureintro; exact fun _ => hlp
  isplitl [H8]
  · iexists _; isplitr; swap; · iapply (owns_of_pt (hs8 t)); iexact H8
    ipureintro; show I.codes c _; rw [hg8]; exact finds_codes m I c t h0 (hY 8)
  iexists _; isplitr; swap; · iapply (owns_of_pt (hs9 t)); iexact H9
  ipureintro; show I.xs c _; rw [hg9]; exact finds_xs m I c t h0 (hY 9)

/-- The body table's row at the point is the body on the point's buffers. -/
theorem defs₀_row (t : Fin cfg0.N) : defs₀ (F := F) .tc cfg0.body (cfg0.bodyArgs t (cfg0.slots t)) = bodyAt0 t := by
  unfold defs₀; rw [Defs.onTc_tc]

theorem body_obligation (hI : I.Steps m) (c : Dev nD) : (rdat m I c).BodyObligation (defs₀ (F := F)) Variants.none () Set.univ := fun t Y hY => by
  have h : bodyPre m I c t Y ⊢ wp frame (wpE (defs₀ (F := F)) Variants.none c none) Set.univ (bodyAt0 t) (fun _ => bodyPost m I c t Y) := by
    by_cases h0 : t.val = 0
    · obtain rfl : t = t₀ := Fin.ext h0
      exact body_first m I hI c Y hY
    by_cases h45 : t.val = 45
    · exact body_last m I hI c t h45 Y hY
    · exact body_mid m I hI c t h0 h45 Y hY
  rw [bigSep_W0, bigSep_W0, defs₀_row]
  exact triple_restated h rfl .rfl fun _ => .rfl

/-! ## The launch -/

theorem share_eq (c : Dev nD) (w : Fin cfg0.W) : (rdat m I c).share w = fullShare := by
  unfold RDat.share; split <;> rfl

-- the launch theorem's implicit arguments are found by unifying its conclusion with this statement
set_option backward.isDefEq.respectTransparency.types false in
/-- From any memory with zero counters every weakly fair execution of @main ends; the arrays then hold what the invariant allows, and
    every semaphore counter is at zero. -/
theorem run_main (hI : I.Steps m) :
    θ_run defs (onTc (τ := τ) (main (F := F))) (s₀ m ρ)
      (fun r => Pipeline.RDat.FramePost (cfgs 0) (rdat m I) (V m) r ∧ r.2.sem = fun _ => 0) :=
  Pipeline.RDat.θ_run_frame_track (Q' := _) cfgs (0 : Fin 1) launch0 defs₀ Variants.none (rdat m I) m ρ main
    (hbody := body_obligation m I hI) (hshare := share_eq m I) (howed := fun _ _ => rfl) (V := V m) (hmain := hmain m Variants.none)
    (hA := fun _ _ => rfl) (hin := scratch_of_rest m I) (hout := rest_of_scratch m I)

variable {m ρ I}

/-- An input's array ends as the region found it. -/
theorem final_in {r : PUnit × MemSt nD τ sig (Elt F)} (h : Pipeline.RDat.FramePost (cfgs 0) (rdat m I) (V m) r) (c : Dev nD)
    (w : Fin cfg0.W) (hw : (cfg0.win w).isOut = false) :
    r.2.mem ((cfg0.spec w).arr.view.loc (c.tc : Thread nD τ)) = V m c (Pipeline.arrRef spec0 w) := by
  have e := (h c).1 w
  rw [(rdat m I c).ArrAt_in w hw] at e
  exact e

/-- The arguments end as launched. -/
theorem final_args {r : PUnit × MemSt nD τ sig (Elt F)} (h : Pipeline.RDat.FramePost (cfgs 0) (rdat m I) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    (final_in h c 1 rfl).trans (V_main_arg1 m c), (final_in h c 2 rfl).trans (V_main_arg2 m c),
    (final_in h c 3 rfl).trans (V_main_arg3 m c),
    ((h c).2 main_arg4 (Pipeline.mem_restRefs_of main_arg4 (by decide) (by decide))).trans (V_main_arg4 m c)⟩

/-- The invariant that allows everything. -/
def Inv.any : Inv F where
  scr _ _ _ _ _ _ _ _ _ _ := True
  out _ _ _ := True
  lse _ _ := True
  lp _ _ := True
  codes _ _ := True
  xs _ _ := True

theorem Inv.any_steps : (Inv.any (F := F)).Steps m where
  first := by intros; exact ⟨trivial, trivial, trivial, trivial⟩
  mid := by intros; exact ⟨trivial, trivial⟩
  last := by intros; exact ⟨trivial, trivial, trivial⟩

variable (m ρ)

/-- Every execution of @main ends, the arguments unchanged and every semaphore counter at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => final_args h.1 c, h.2⟩) (run_main m ρ Inv.any Inv.any_steps)

end Cert.Kernel.Body

end
-- ==== Proof.KernelIdealBody.Defs.lean ====
/-
  Names for a buffer's contents and for holding a buffer whole, which the runs of the kernel body share.
-/
module

public import proofs.«01_k».proof.Proof.Gen.KernelIdeal.Frame
public import Idealize.ShloMosaic.Lib.Tactic

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- That buffer held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The coordinates of the first grid step. -/
abbrev i0 : grid0.Coords := grid0.coords ⟨0, by decide⟩

end Cert.KernelIdeal.Body

end
-- ==== Proof.KernelIdealBody.Block.lean ====
/-
  What one grid step stores in the block of masked logits, in the kernel's own operations. A step does 16 blocks of 128 columns,
  two blocks (one pair) per matrix
  product; `outBlock` is one block, and `outWrites` the list of the 16 stores, the last one first.
-/
module

public import proofs.«01_k».proof.Proof.KernelIdealBody.Defs

@[expose] public section

noncomputable section

namespace Cert.KernelIdeal.Body

open Cert.KernelIdeal Cert.KernelIdeal.Gen

open Idealize.ShloMosaic
open Idealize.ShloMosaic.TcCoe

variable {F : FTy → Type} [FloatOps F]

/-! ## Word and column numbers -/

/-- `x` modulo 128, as the kernel computes it. -/
def rem128 (x : BitVec 32) : BitVec 32 :=
  let r := Scalar.remsi x 128#32
  Scalar.select (Scalar.andi (Scalar.xori (Scalar.cmpi .slt r 0#32) 0#1) (Scalar.cmpi .ne r 0#32)) (Scalar.addi r 128#32) r

/-- The scale column of half `h` of pair `p` within its 128 columns. -/
def colNo (i : grid0.Coords) (p : Fin 8) (h : Fin 2) : BitVec 32 :=
  rem128 (Scalar.minsi (Scalar.addi (Scalar.addi (Scalar.muli (BitVec.ofNat 32 (i 0).val) 16#32) (BitVec.ofNat 32 (2 * p.val))) (BitVec.ofNat 32 h.val)) 722#32)

/-- The first mask word of block `t` within its 128 words. -/
def wordNo (i : grid0.Coords) (t : Fin 16) : BitVec 32 :=
  rem128 (Scalar.muli (Scalar.minsi (Scalar.addi (Scalar.muli (BitVec.ofNat 32 (i 0).val) 16#32) (BitVec.ofNat 32 t.val)) 723#32) 4#32)

/-- Lane numbers as a gather takes them. -/
def laneNo (x : IVec S32x128 32) : IVec S32x128 32 :=
  shapeCast S32x128 (shapeCast S32x128x1 (select (cmpi .slt x (broadcast S32x128 0#32)) (addi x (broadcast S32x128 128#32)) x)
    shapeCasts_S32x128_S32x128x1) shapeCasts_S32x128x1_S32x128

/-- The lane number, at every lane. -/
def lane : IVec S32x128 32 := iota .tc S32x128 32 [1] iota_S32x128_d1_w32

section Step

variable (c : Dev nD) (i : grid0.Coords)
    (M2 : Memref sig .tc .vmem S4096x2048 .fp8e4m3) (M11 : Memref sig .tc .vmem S32x4096 .bf16) (M12 : Memref sig .tc .vmem S32x128 .f32)
    (M13 : Memref sig .tc .vmem S32x2944 .i32) (M14 : Memref sig .tc .vmem S32x768 .f32) (M15 : Memref sig .tc .vmem S2x32x128 .f32)
    (f2 : Bf (F := F) c M2) (f11 : Bf (F := F) c M11) (f12 : Bf (F := F) c M12) (f13 : Bf (F := F) c M13) (f14 : Bf (F := F) c M14)

/-! ## The scales spread over the lanes -/

theorem inb_half (h : Fin 2) : ∀ a, (![h.val, 0, 0] : Fin 3 → ℕ) a + S1x32x128.size a ≤ S2x32x128.size a := by
  revert h; decide
theorem inb_row (h : Fin 2) (k : Fin 32) : ∀ a, (![h.val, k.val, 0] : Fin 3 → ℕ) a + S1x1x128.size a ≤ S2x32x128.size a := by
  revert h k; decide
theorem inb_slice (k : Fin 32) : ∀ a, (![0, 128 * k.val] : Fin 2 → ℕ) a + S32x128.size a ≤ S32x4096.size a := by
  revert k; decide
theorem inb_out (t : Fin 16) : ∀ a, (![0, 128 * t.val] : Fin 2 → ℕ) a + S32x128.size a ≤ S32x2048.size a := by
  revert t; decide
theorem inb_w (p : Fin 8) : ∀ a, (![0, 256 * p.val] : Fin 2 → ℕ) a + S4096x256.size a ≤ S4096x2048.size a := by
  revert p; decide
theorem slices_half (h : Fin 2) : S64x256.Slices ![32 * h.val, 128 * h.val] S32x128 := by
  revert h; decide

/-- One column of scales over all lanes. -/
def spreadCol (p : Fin 8) (h : Fin 2) : FVec F S32x128 .f32 :=
  dynamicGather 1 (M14.view.readAt (Elt F)
    (Rect.unit (s := S32x768) (k0_off1 i (BitVec.ofNat 32 (2 * p.val)) (BitVec.ofNat 32 h.val)) S32x128.size (k0_off1_inb i p h)).toLoadRect f14)
    (laneNo (broadcast S32x128 (colNo i p h)))

/-- The two halves' columns, as stored in turn. -/
def spreadWrites : ℕ → List (View.Piece (Elt F) S2x32x128 .f32)
  | 0 => []
  | n + 1 => ⟨Rect.unit (s := S2x32x128) ![(Fin.ofNat 2 n).val, 0, 0] S1x32x128.size (inb_half (Fin.ofNat 2 n)),
      shapeCast S1x32x128 (spreadCol c i M14 f14 (Fin.ofNat 8 (n / 2)) (Fin.ofNat 2 n)) shapeCasts_S32x128_S1x32x128⟩ :: spreadWrites n

/-! ## The matrix product -/

/-- Piece `k` of the left operand: 128 columns of the codes times their row block's scale. -/
def piece (p : Fin 8) (h : Fin 2) (k : Fin 32) : FVec F S32x128 .bf16 :=
  mulf (M11.view.readAt (Elt F) (Rect.unit (s := S32x4096) ![0, 128 * k.val] S32x128.size (inb_slice k)).toLoadRect f11)
    (truncf .bf16 (broadcastTo S32x128 (shapeCast S1x128 (shapeCast S1x128
      (M15.view.readCov (spreadWrites c i M14 f14 (2 * p.val + h.val + 1))
        (Rect.unit (s := S2x32x128) ![h.val, k.val, 0] S1x1x128.size (inb_row h k)).toLoadRect)
      shapeCasts_S1x1x128_S1x128) shapeCasts_S1x128_S1x128) broadcasts_S1x128_S32x128) bitsLt_bf16_f32)

theorem concatenates_pieces : Shape.Concatenates ((List.ofFn fun _ : Fin 32 => S32x128)) S32x4096 1 := by decide

/-- The left operand of one half. -/
def half (p : Fin 8) (h : Fin 2) : FVec F S32x4096 .bf16 :=
  concatenate S32x4096 1 (List.ofFn fun k : Fin 32 => (⟨S32x128, piece c i M11 M14 M15 f11 f14 p h k⟩ : (s : Shape) × (s.Idx → F .bf16)))
    (by rw [List.map_ofFn]; exact concatenates_pieces)

/-- The product of one pair. -/
def product (p : Fin 8) : FVec F S64x256 .f32 :=
  matmul dot_S64x4096_S4096x256_S64x256_1_0_0_1_n_n none
    (concatenate S64x4096 0 [⟨S32x4096, half c i M11 M14 M15 f11 f14 p 0⟩, ⟨S32x4096, half c i M11 M14 M15 f11 f14 p 1⟩] concatenates_S32x4096_S32x4096_S64x4096_d0)
    (M2.view.readAt (Elt F) (Rect.unit (s := S4096x2048) ![0, 256 * p.val] S4096x256.size (inb_w p)).toLoadRect f2)
    (constant S64x256 .f32 0x00000000#32)

/-! ## One block -/

/-- The logits of one block. -/
def logitsBlock (p : Fin 8) (h : Fin 2) : FVec F S32x128 .f32 :=
  mulf (extractStridedSlice S32x128 ![32 * h.val, 128 * h.val] (product c i M2 M11 M14 M15 f2 f11 f14 p) (slices_half h))
    (M12.view.readAt (Elt F) (Rect.unit (s := S32x128) ![0, 0] S32x128.size inb_S32x128_S32x128_0_0).toLoadRect f12)

/-- Which columns of a block the mask allows. -/
def allowed (t : Fin 16) : IVec S32x128 1 :=
  cmpi .eq (andi (shrsi
    (dynamicGather 1 (M13.view.readAt (Elt F)
      (Rect.unit (s := S32x2944) (k0_off2 i (BitVec.ofNat 32 t.val)) S32x128.size (k0_off2_inb i t)).toLoadRect f13)
      (laneNo (addi (broadcast S32x128 (wordNo i t)) (shrsi lane (broadcast S32x128 5#32)))))
    (andi lane (broadcast S32x128 31#32))) (broadcast S32x128 1#32)) (broadcast S32x128 1#32)

/-- One block of the masked logits. -/
def outBlock (t : Fin 16) : FVec F S32x128 .f32 :=
  select (allowed c i M13 f13 t) (logitsBlock c i M2 M11 M12 M14 M15 f2 f11 f12 f14 (Fin.ofNat 8 (t.val / 2)) (Fin.ofNat 2 t.val))
    (broadcast S32x128 (FloatOps.ofBits .f32 0x00000000#32))

/-- The stores of a step, the last one first. -/
def outWrites : List (View.Piece (Elt F) S32x2048 .f32) :=
  [15, 14, 13, 12, 11, 10, 9, 8, 7, 6, 5, 4, 3, 2, 1, 0].map fun t : Fin 16 =>
    ⟨Rect.unit (s := S32x2048) ![0, 128 * t.val] S32x128.size (inb_out t), outBlock c i M2 M11 M12 M13 M14 M15 f2 f11 f12 f13 f14 t⟩

end Step

end Cert.KernelIdeal.Body

end
-- ==== Proof.KernelIdealBody.BlockValue.lean ====
/-
  One block of the logits and of the mask bits, read at an index over the extended reals.
  Block `t` of step `i` holds, at row `r` and lane `l`, the sum over the 4096 columns of (code × scale × weight), times the row's scale.
-/
module

public import proofs.«01_k».proof.Proof.KernelIdealBody.Block
public import Idealize.ShloMosaic.Lib.Pointwise
public import Idealize.ShloMosaic.Lib.MatmulPlain

@[expose] public section

noncomputable section

namespace Cert.KernelIdeal.Body

open Cert.KernelIdeal Cert.KernelIdeal.Gen

open Idealize.ShloMosaic
open Idealize.ShloMosaic.TcCoe

/-! ## Words and columns as numbers -/

/-- The scale column of a block. -/
def scaleAt (i : grid0.Coords) (p : Fin 8) (h : Fin 2) : Fin 768 := ⟨min (16 * (i 0).val + 2 * p.val + h.val) 722, by omega⟩

/-- The mask word of a lane of a block. -/
def wordAt (i : grid0.Coords) (t : Fin 16) (l : Fin 128) : Fin 2944 := ⟨min (16 * (i 0).val + t.val) 723 * 4 + l.val / 32, by omega⟩

/-- A lane number as a gather takes it. -/
def laneVal (x : BitVec 32) : BitVec 32 := Scalar.select (Scalar.cmpi .slt x 0#32) (Scalar.addi x 128#32) x

theorem laneNo_apply (x : IVec S32x128 32) (j : S32x128.Idx) : laneNo x j = laneVal (x j) := by
  rw [laneNo, shapeCast_shapeCast]; rfl

theorem laneVal_ofNat : ∀ w : Fin 128, (laneVal (BitVec.ofNat 32 w.val)).toNat = w.val := by decide +kernel

theorem laneVal_toNat {x : BitVec 32} (h : x.toNat < 128) : (laneVal x).toNat = x.toNat := by
  have e := laneVal_ofNat ⟨x.toNat, h⟩
  rwa [show BitVec.ofNat 32 (⟨x.toNat, h⟩ : Fin 128).val = x from BitVec.eq_of_toNat_eq (by simp)] at e

theorem colNo_toNat : ∀ (i : grid0.Coords) (p : Fin 8) (h : Fin 2), (colNo i p h).toNat = (scaleAt i p h).val % 128 := by decide +kernel
theorem off1_val : ∀ (i : grid0.Coords) (p : Fin 8) (h : Fin 2),
    k0_off1 i (BitVec.ofNat 32 (2 * p.val)) (BitVec.ofNat 32 h.val) = ![0, 128 * ((scaleAt i p h).val / 128)] := by decide +kernel
theorem wordNo_toNat : ∀ (i : grid0.Coords) (t : Fin 16), (wordNo i t).toNat = (min (16 * (i 0).val + t.val) 723 * 4) % 128 := by decide +kernel
theorem off2_val : ∀ (i : grid0.Coords) (t : Fin 16),
    k0_off2 i (BitVec.ofNat 32 t.val) = ![0, 128 * (min (16 * (i 0).val + t.val) 723 * 4 / 128)] := by decide +kernel
theorem lane_shift : ∀ l : Fin 128, (Scalar.shrsi (BitVec.ofNat 32 l.val) 5#32).toNat = l.val / 32 := by decide +kernel

/-- The mask bit of a lane, out of its word. -/
def maskBit (w : BitVec 32) (l : Fin 128) : BitVec 1 :=
  Scalar.cmpi .eq (Scalar.andi (Scalar.shrsi w (Scalar.andi (BitVec.ofNat 32 l.val) 31#32)) 1#32) 1#32

theorem zero_bits : Ideal.ofBits .f32 0x00000000#32 = (0 : EReal) := by simp [Ideal.ofBits, Ideal.ieee]

section Step

variable (c : Dev nD) (i : grid0.Coords)
    (M2 : Memref sig .tc .vmem S4096x2048 .fp8e4m3) (M11 : Memref sig .tc .vmem S32x4096 .bf16) (M12 : Memref sig .tc .vmem S32x128 .f32)
    (M13 : Memref sig .tc .vmem S32x2944 .i32) (M14 : Memref sig .tc .vmem S32x768 .f32) (M15 : Memref sig .tc .vmem S2x32x128 .f32)
    (f2 : Bf (F := Ideal) c M2) (f11 : Bf (F := Ideal) c M11) (f12 : Bf (F := Ideal) c M12) (f13 : Bf (F := Ideal) c M13) (f14 : Bf (F := Ideal) c M14)

/-- A gather of lanes reads the source at the lane number. -/
theorem gather_apply {α : Type} (x : S32x128.Idx → α) (idx : IVec S32x128 32) (r : Fin 32) (l : Fin 128) (k : ℕ) (hk : k < 128)
    (h : (idx (ix2 r l)).toNat = k) : dynamicGather 1 x idx (ix2 r l) = x (ix2 r ⟨k, hk⟩) := by
  unfold dynamicGather
  congr 1
  funext b
  match b with
  | ⟨0, _⟩ => rfl
  | ⟨1, _⟩ => exact Fin.ext (by show (idx (ix2 r l)).toNat % 128 = k; rw [h]; exact Nat.mod_eq_of_lt hk)

theorem spreadCol_apply (p : Fin 8) (h : Fin 2) (k : Fin 32) (l : Fin 128) :
    spreadCol c i M14 f14 p h (ix2 k l) = M14.view.read (Elt Ideal) f14 (ix2 k (scaleAt i p h)) := by
  have hs := (scaleAt i p h).isLt
  have hlt : (scaleAt i p h).val % 128 < 128 := Nat.mod_lt _ (by decide)
  rw [spreadCol, gather_apply _ _ k l ((scaleAt i p h).val % 128) hlt
    (by rw [laneNo_apply]; show (laneVal (colNo i p h)).toNat = _; rw [laneVal_toNat (by rw [colNo_toNat]; exact hlt), colNo_toNat]),
    View.readAt_apply]
  congr 1
  funext a
  match a with
  | ⟨0, _⟩ => exact Fin.ext (by show k0_off1 i (BitVec.ofNat 32 (2 * p.val)) (BitVec.ofNat 32 h.val) 0 + 1 * k.val = k.val; rw [off1_val]; simp)
  | ⟨1, _⟩ => exact Fin.ext (by
      show k0_off1 i (BitVec.ofNat 32 (2 * p.val)) (BitVec.ofNat 32 h.val) 1 + 1 * ((scaleAt i p h).val % 128) = (scaleAt i p h).val
      rw [off1_val]; show 128 * _ + _ = _; omega)

/-- The store of one half's column. -/
def spreadPiece (p : Fin 8) (h : Fin 2) : View.Piece (Elt Ideal) S2x32x128 .f32 :=
  ⟨Rect.unit (s := S2x32x128) ![h.val, 0, 0] S1x32x128.size (inb_half h),
      shapeCast S1x32x128 (spreadCol c i M14 f14 p h) shapeCasts_S32x128_S1x32x128⟩

theorem spreadWrites_top (p : Fin 8) (h : Fin 2) : spreadWrites c i M14 f14 (2 * p.val + h.val + 1)
    = spreadPiece c i M14 f14 p h :: spreadWrites c i M14 f14 (2 * p.val + h.val) := by
  have e1 : Fin.ofNat 8 ((2 * p.val + h.val) / 2) = p := Fin.ext (by show (2 * p.val + h.val) / 2 % 8 = p.val; omega)
  have e2 : Fin.ofNat 2 (2 * p.val + h.val) = h := Fin.ext (by show (2 * p.val + h.val) % 2 = h.val; omega)
  show spreadPiece c i M14 f14 (Fin.ofNat 8 ((2 * p.val + h.val) / 2)) (Fin.ofNat 2 (2 * p.val + h.val)) :: _ = _
  rw [e1, e2]

/-- A row of the spread buffer, after the half's column was stored. -/
theorem row_apply (p : Fin 8) (h : Fin 2) (k : Fin 32) (l : Fin 128) :
    M15.view.readCov (spreadWrites c i M14 f14 (2 * p.val + h.val + 1))
        (Rect.unit (s := S2x32x128) ![h.val, k.val, 0] S1x1x128.size (inb_row h k)).toLoadRect (ix3 0 0 l)
      = M14.view.read (Elt Ideal) f14 (ix2 k (scaleAt i p h)) := by
  rw [spreadWrites_top, View.readCov_eq_canon']
  show View.canon _ ((Rect.unit (s := S2x32x128) ![h.val, k.val, 0] S1x1x128.size (inb_row h k)).toLoadRect.idx (ix3 0 0 l)) = _
  rw [show (Rect.unit (s := S2x32x128) ![h.val, k.val, 0] S1x1x128.size (inb_row h k)).toLoadRect.idx (ix3 0 0 l)
      = (Rect.unit (s := S2x32x128) ![h.val, 0, 0] S1x32x128.size (inb_half h)).emb (ix3 (0 : Fin 1) k l) from ?_]
  · rw [spreadPiece, View.canon_cons_emb, ← spreadCol_apply]
    exact (shapeCast_addUnit_apply (n := 2) ![32, 128] _ _ _).trans (congrArg _ (by funext a; match a with | ⟨0, _⟩ => rfl | ⟨1, _⟩ => rfl))
  · funext a
    match a with
    | ⟨0, _⟩ => exact Fin.ext rfl
    | ⟨1, _⟩ => exact Fin.ext (by show k.val + 1 * 0 = 0 + 1 * k.val; omega)
    | ⟨2, _⟩ => exact Fin.ext rfl

/-- A row spread over the batch rows reads the row. -/
theorem row_spread (x : FVec Ideal S1x1x128 .f32) (r : Fin 32) (l : Fin 128) :
    truncf .bf16 (broadcastTo S32x128 (shapeCast S1x128 (shapeCast S1x128 x shapeCasts_S1x1x128_S1x128) shapeCasts_S1x128_S1x128)
      broadcasts_S1x128_S32x128) bitsLt_bf16_f32 (ix2 r l) = x (ix3 0 0 l) := by
  pointwise

theorem piece_apply (p : Fin 8) (h : Fin 2) (k : Fin 32) (r : Fin 32) (l : Fin 128) :
    piece c i M11 M14 M15 f11 f14 p h k (ix2 r l)
      = M11.view.read (Elt Ideal) f11 (ix2 r (⟨128 * k.val + l.val, by omega⟩ : Fin 4096)) * M14.view.read (Elt Ideal) f14 (ix2 k (scaleAt i p h)) := by
  rw [← row_apply c i M14 M15 f14 p h k l]
  unfold piece
  rw [mulf_apply]
  refine congrArg₂ (fun a b : EReal => a * b) ?_ ?_
  · rw [View.readAt_apply]
    congr 1
    funext a
    match a with
    | ⟨0, _⟩ => exact Fin.ext (by show 0 + 1 * r.val = r.val; omega)
    | ⟨1, _⟩ => exact Fin.ext (by show 128 * k.val + 1 * l.val = 128 * k.val + l.val; omega)
  · exact row_spread _ r l

theorem half_apply (p : Fin 8) (h : Fin 2) (r : Fin 32) (k : Fin 4096) :
    half c i M11 M14 M15 f11 f14 p h (ix2 r k)
      = M11.view.read (Elt Ideal) f11 (ix2 r k) * M14.view.read (Elt Ideal) f14 (ix2 (⟨k.val / 128, by omega⟩ : Fin 32) (scaleAt i p h)) := by
  have e := piece_apply c i M11 M14 M15 f11 f14 p h ⟨k.val / 128, by omega⟩ r ⟨k.val % 128, by omega⟩
  have ek : (⟨128 * (k.val / 128) + k.val % 128, by omega⟩ : Fin 4096) = k := Fin.ext (by show 128 * (k.val / 128) + k.val % 128 = k.val; omega)
  simp only [ek] at e
  rw [← e, half]
  exact concatenate_ofFn_apply (t := S32x4096) (s₁ := S32x128) 1 (fun k => piece c i M11 M14 M15 f11 f14 p h k) _ rfl 128 rfl (ix2 r k)
    ⟨k.val / 128, by omega⟩ rfl (ix2 r (⟨k.val % 128, by omega⟩ : Fin 128)) rfl
    (by intro b hb; match b with | ⟨0, _⟩ => rfl | ⟨1, _⟩ => exact absurd rfl hb)

/-- The left operand of a pair: its first half above its second. -/
theorem halves_apply (x : Fin 2 → FVec Ideal S32x4096 .bf16) (h : Fin 2) (r : Fin 32) (k : Fin 4096) :
    concatenate S64x4096 0 [⟨S32x4096, x 0⟩, ⟨S32x4096, x 1⟩] concatenates_S32x4096_S32x4096_S64x4096_d0
      (ix2 (⟨32 * h.val + r.val, by omega⟩ : Fin 64) k) = x h (ix2 r k) := by
  match h with
  | ⟨0, _⟩ =>
    exact concatenate_pair_apply_left (t := S64x4096) (s₁ := S32x4096) (s₂ := S32x4096) 0 _ _ _ _ rfl (ix2 (n0 := 32) (n1 := 4096) r k) (by
      intro b; match b with | ⟨0, _⟩ => (show r.val = 32 * 0 + r.val; omega) | ⟨1, _⟩ => rfl)
  | ⟨1, _⟩ =>
    exact concatenate_pair_apply_right (t := S64x4096) (s₁ := S32x4096) (s₂ := S32x4096) 0 _ _ _ _ rfl rfl (ix2 (n0 := 32) (n1 := 4096) r k) (by
      intro b hb; match b with | ⟨0, _⟩ => exact absurd rfl hb | ⟨1, _⟩ => rfl) (by show r.val + 32 = 32 * 1 + r.val; omega)

theorem product_apply (p : Fin 8) (h : Fin 2) (r : Fin 32) (l : Fin 128) :
    product c i M2 M11 M14 M15 f2 f11 f14 p (ix2 (⟨32 * h.val + r.val, by omega⟩ : Fin 64) (⟨128 * h.val + l.val, by omega⟩ : Fin 256))
      = ∑ k : Fin 4096, M11.view.read (Elt Ideal) f11 (ix2 r k) * M14.view.read (Elt Ideal) f14 (ix2 (⟨k.val / 128, by omega⟩ : Fin 32) (scaleAt i p h))
          * M2.view.read (Elt Ideal) f2 (ix2 k (⟨256 * p.val + 128 * h.val + l.val, by omega⟩ : Fin 2048)) := by
  have hz : (constant S64x256 .f32 0x00000000#32 : FVec Ideal S64x256 .f32)
      (ix2 (⟨32 * h.val + r.val, by omega⟩ : Fin 64) (⟨128 * h.val + l.val, by omega⟩ : Fin 256)) = (0 : EReal) := by
    show FloatOps.ofBits (F := Ideal) .f32 0x00000000#32 = (0 : EReal)
    pointwise
  rw [product]
  refine (Ideal.matmul_plain_apply (M := 64) (K := 4096) (N := 256) (φ₁ := .bf16) (φ₂ := .fp8e4m3) none _ _ _ _ _).trans ?_
  simp only [← ix2_eq_valueIdx]
  rw [hz, zero_add]
  refine Finset.sum_congr rfl fun k _ => ?_
  rw [halves_apply (fun h => half c i M11 M14 M15 f11 f14 p h) h r k, half_apply, View.readAt_apply]
  congr 2
  funext a
  match a with
  | ⟨0, _⟩ => exact Fin.ext (by show 0 + 1 * k.val = k.val; omega)
  | ⟨1, _⟩ => exact Fin.ext (by show 256 * p.val + 1 * (128 * h.val + l.val) = 256 * p.val + 128 * h.val + l.val; omega)

theorem logitsBlock_apply (p : Fin 8) (h : Fin 2) (r : Fin 32) (l : Fin 128) :
    logitsBlock c i M2 M11 M12 M14 M15 f2 f11 f12 f14 p h (ix2 r l)
      = (∑ k : Fin 4096, M11.view.read (Elt Ideal) f11 (ix2 r k) * M14.view.read (Elt Ideal) f14 (ix2 (⟨k.val / 128, by omega⟩ : Fin 32) (scaleAt i p h))
          * M2.view.read (Elt Ideal) f2 (ix2 k (⟨256 * p.val + 128 * h.val + l.val, by omega⟩ : Fin 2048)))
        * M12.view.read (Elt Ideal) f12 (ix2 r l) := by
  rw [← product_apply c i M2 M11 M14 M15 f2 f11 f14 p h r l]
  unfold logitsBlock
  rw [mulf_apply]
  refine congrArg₂ (fun a b : EReal => a * b) ?_ ?_
  · exact extractStridedSlice_apply (s := S64x256) (t := S32x128) _ _ _ (ix2 r l) (ix2 _ _)
      (by intro a; match a with | ⟨0, _⟩ => rfl | ⟨1, _⟩ => rfl)
  · rw [View.readAt_apply]
    congr 1
    funext a
    match a with
    | ⟨0, _⟩ => exact Fin.ext (by show 0 + 1 * r.val = r.val; omega)
    | ⟨1, _⟩ => exact Fin.ext (by show 0 + 1 * l.val = l.val; omega)

theorem allowed_apply (t : Fin 16) (r : Fin 32) (l : Fin 128) :
    allowed c i M13 f13 t (ix2 r l) = maskBit (M13.view.read (Elt Ideal) f13 (ix2 r (wordAt i t l))) l := by
  have hm : min (16 * (i 0).val + t.val) 723 ≤ 723 := min_le_right _ _
  have hl : lane (ix2 r l) = BitVec.ofNat 32 l.val := iota_single_apply _ _ _ _ _ _
  have hn : (laneNo (addi (broadcast S32x128 (wordNo i t)) (shrsi lane (broadcast S32x128 5#32))) (ix2 r l)).toNat
      = (min (16 * (i 0).val + t.val) 723 * 4) % 128 + l.val / 32 := by
    have es : (Scalar.addi (wordNo i t) (Scalar.shrsi (BitVec.ofNat 32 l.val) 5#32)).toNat
        = (min (16 * (i 0).val + t.val) 723 * 4) % 128 + l.val / 32 := by
      show (wordNo i t + Scalar.shrsi (BitVec.ofNat 32 l.val) 5#32).toNat = _
      rw [BitVec.toNat_add, wordNo_toNat, lane_shift]
      omega
    rw [laneNo_apply]
    show (laneVal (Scalar.addi (wordNo i t) (Scalar.shrsi (lane (ix2 r l)) 5#32))).toNat = _
    rw [hl, laneVal_toNat (by rw [es]; omega), es]
  have hg := gather_apply (M13.view.readAt (Elt Ideal)
      (Rect.unit (s := S32x2944) (k0_off2 i (BitVec.ofNat 32 t.val)) S32x128.size (k0_off2_inb i t)).toLoadRect f13)
      _ r l _ (by omega) hn
  show Scalar.cmpi .eq (Scalar.andi (Scalar.shrsi (dynamicGather 1 _ _ (ix2 r l)) (Scalar.andi (lane (ix2 r l)) 31#32)) 1#32) 1#32 = _
  rw [hg, hl, View.readAt_apply]
  unfold maskBit
  congr 4
  funext a
  match a with
  | ⟨0, _⟩ => exact Fin.ext (by show k0_off2 i (BitVec.ofNat 32 t.val) 0 + 1 * r.val = r.val; rw [off2_val]; simp)
  | ⟨1, _⟩ => exact Fin.ext (by
      show k0_off2 i (BitVec.ofNat 32 t.val) 1 + 1 * ((min (16 * (i 0).val + t.val) 723 * 4) % 128 + l.val / 32) = min (16 * (i 0).val + t.val) 723 * 4 + l.val / 32
      rw [off2_val]; show 128 * _ + _ = _; omega)

/-- Block `t` of the logits at row `r`, lane `l`. -/
theorem logits_apply (t : Fin 16) (r : Fin 32) (l : Fin 128) :
    logitsBlock c i M2 M11 M12 M14 M15 f2 f11 f12 f14 (Fin.ofNat 8 (t.val / 2)) (Fin.ofNat 2 t.val) (ix2 r l)
      = (∑ k : Fin 4096, M11.view.read (Elt Ideal) f11 (ix2 r k)
            * M14.view.read (Elt Ideal) f14 (ix2 (⟨k.val / 128, by omega⟩ : Fin 32) (⟨min (16 * (i 0).val + t.val) 722, by omega⟩ : Fin 768))
            * M2.view.read (Elt Ideal) f2 (ix2 k (⟨128 * t.val + l.val, by omega⟩ : Fin 2048)))
          * M12.view.read (Elt Ideal) f12 (ix2 r l) := by
  have e1 : scaleAt i (Fin.ofNat 8 (t.val / 2)) (Fin.ofNat 2 t.val) = ⟨min (16 * (i 0).val + t.val) 722, by omega⟩ := Fin.ext (by
    show min (16 * (i 0).val + 2 * (t.val / 2 % 8) + t.val % 2) 722 = min (16 * (i 0).val + t.val) 722
    congr 1; omega)
  have e2 : (⟨256 * (Fin.ofNat 8 (t.val / 2)).val + 128 * (Fin.ofNat 2 t.val).val + l.val, by omega⟩ : Fin 2048) = ⟨128 * t.val + l.val, by omega⟩ := Fin.ext (by
    show 256 * (t.val / 2 % 8) + 128 * (t.val % 2) + l.val = 128 * t.val + l.val
    omega)
  have e3 := logitsBlock_apply c i M2 M11 M12 M14 M15 f2 f11 f12 f14 (Fin.ofNat 8 (t.val / 2)) (Fin.ofNat 2 t.val) r l
  rw [e1] at e3
  simp only [e2] at e3
  exact e3

end Step

end Cert.KernelIdeal.Body

end
-- ==== Proof.KernelIdealBody.Init.lean ====
/-
  What the first step computes before its blocks: the rows' scales, the codes, and the scratch arrays it fills.
-/
module

public import proofs.«01_k».proof.Proof.KernelIdealBody.Defs

@[expose] public section

noncomputable section

namespace Cert.KernelIdeal.Body

open Cert.KernelIdeal Cert.KernelIdeal.Gen

open Idealize.ShloMosaic
open Idealize.ShloMosaic.TcCoe

variable {F : FTy → Type} [FloatOps F]

/-! ## The quantiser -/

/-- The rows in f32. -/
def wide (x : FVec F S32x4096 .bf16) : FVec F S32x4096 .f32 := extf .f32 (shapeCast S32x4096 x shapeCasts_S32x4096_S32x4096) bitsLt_bf16_f32

/-- A row's largest magnitude, over the largest code. -/
def ratio (x : FVec F S32x4096 .bf16) : FVec F S32x1 .f32 :=
  mulf (shapeCast S32x1 (multiReduction .maximumf [1] S32 (absf (wide x)) 0xFF800000#32 reduces_S32x4096_S32 (.inl rfl) rfl) shapeCasts_S32_S32x1)
    (broadcast S32x1 (Scalar.ofBits .f32 0x3B124925#32))

/-- Which ratios are below the smallest normal number. -/
def small (y : FVec F S32x1 .f32) : IVec S32x1 1 := cmpf .olt y (broadcast S32x1 (Scalar.ofBits .f32 0x00800000#32))

/-- The powers of two an exponent field names. -/
def powers : FVec F S32x256 .f32 :=
  bitcastToFloat .f32 (shli (iota .tc S32x256 32 [1] iota_S32x256_d1_w32) (broadcast S32x256 23#32))

/-- How many of those powers are not above the number, minus one. -/
def field (z : FVec F S32x1 .f32) : IVec S32x1 32 :=
  subi (shapeCast S32x1 (multiReductionI .add [1] S32
    (select (cmpf .ogt powers (broadcastTo S32x256 z broadcasts_S32x1_S32x256)) (broadcast S32x256 0#32) (broadcast S32x256 1#32))
    0#32 reduces_S32x256_S32 rfl) shapeCasts_S32_S32x1) (broadcast S32x1 1#32)

/-- The exponent: `2^e` is the smallest power of two above the ratio, and `e` is 0 at 0. -/
def expo (y : FVec F S32x1 .f32) : IVec S32x1 32 :=
  select (cmpf .oeq y (broadcast S32x1 (Scalar.ofBits .f32 0x00000000#32))) (broadcast S32x1 0#32)
    (subi (subi (field (select (small y) (mulf y (broadcast S32x1 (Scalar.ofBits .f32 0x4B000000#32))) y)) (broadcast S32x1 126#32))
      (select (small y) (broadcast S32x1 23#32) (broadcast S32x1 0#32)))

/-- `2^e` built from the exponent field. -/
def pow2 (e : IVec S32x1 32) : FVec F S32x1 .f32 :=
  bitcastToFloat .f32 (shli (minsi (broadcast S32x1 255#32) (maxsi (broadcast S32x1 0#32) (addi e (broadcast S32x1 127#32)))) (broadcast S32x1 23#32))

/-- The codes. -/
def codes (x : FVec F S32x4096 .bf16) : FVec F S32x4096 .fp8e4m3 :=
  truncf .fp8e4m3 (minimumf (broadcast S32x4096 (Scalar.ofBits .f32 0x43E00000#32))
    (maximumf (broadcast S32x4096 (Scalar.ofBits .f32 0xC3E00000#32))
      (mulf (wide x) (broadcastTo S32x4096 (pow2 (subi (broadcast S32x1 0#32) (expo (ratio x)))) broadcasts_S32x1_S32x4096))))
    bitsLt_fp8e4m3_f32

/-- The rows' scales. -/
def scales (x : FVec F S32x4096 .bf16) : FVec F S32x1 .f32 := pow2 (expo (ratio x))

/-! ## The stores -/

section Writes

variable (c : Dev nD)
    (M1 : Memref sig .tc .vmem S32x4096 .bf16) (M3 : Memref sig .tc .vmem S32x723 .f32) (M4 : Memref sig .tc .vmem S32x2892 .i32)
    (f1 : Bf (F := F) c M1) (f3 : Bf (F := F) c M3) (f4 : Bf (F := F) c M4)

/-- The input rows the first step loads. -/
def rows : FVec F S32x4096 .bf16 :=
  M1.view.readAt (Elt F) (Rect.unit (s := S32x4096) ![0, 0] S32x4096.size inb_S32x4096_S32x4096_0_0).toLoadRect f1

def codesWrites : List (View.Piece (Elt F) S32x4096 .fp8e4m3) :=
  [⟨Rect.unit (s := S32x4096) ![0, 0] S32x4096.size inb_S32x4096_S32x4096_0_0, codes (rows c M1 f1)⟩]

def scalesWrites : List (View.Piece (Elt F) S32x1 .f32) :=
  [⟨Rect.unit (s := S32x1) ![0, 0] S32x1.size inb_S32x1_S32x1_0_0, scales (rows c M1 f1)⟩]

def wideCodesWrites : List (View.Piece (Elt F) S32x4096 .bf16) :=
  [⟨Rect.unit (s := S32x4096) ![0, 0] S32x4096.size inb_S32x4096_S32x4096_0_0,
    shapeCast S32x4096 (extf .bf16 (codes (rows c M1 f1)) bitsLt_fp8e4m3_bf16) shapeCasts_S32x4096_S32x4096⟩]

def laneScalesWrites : List (View.Piece (Elt F) S32x128 .f32) :=
  [⟨Rect.unit (s := S32x128) ![0, 0] S32x128.size inb_S32x128_S32x128_0_0,
    shapeCast S32x128 (broadcastTo S32x128 (shapeCast S32x1 (scales (rows c M1 f1)) shapeCasts_S32x1_S32x1) broadcasts_S32x1_S32x128)
      shapeCasts_S32x128_S32x128⟩]

def wordsWrites : List (View.Piece (Elt F) S32x2944 .i32) :=
  [⟨Rect.unit (s := S32x2944) ![0, 0] S32x2892.size inb_S32x2944_S32x2892_0_0,
    shapeCast S32x2892 (M4.view.readAt (Elt F) (Rect.unit (s := S32x2892) ![0, 0] S32x2892.size inb_S32x2892_S32x2892_0_0).toLoadRect f4)
      shapeCasts_S32x2892_S32x2892⟩,
   ⟨Rect.unit (s := S32x2944) ![0, 0] S32x2944.size inb_S32x2944_S32x2944_0_0,
    shapeCast S32x2944 (broadcast S32x2944 0#32) shapeCasts_S32x2944_S32x2944⟩]

def scalePairsWrites : List (View.Piece (Elt F) S32x768 .f32) :=
  [⟨Rect.unit (s := S32x768) ![0, 0] S32x723.size inb_S32x768_S32x723_0_0,
    shapeCast S32x723 (extf .f32 (truncf .bf16
      (M3.view.readAt (Elt F) (Rect.unit (s := S32x723) ![0, 0] S32x723.size inb_S32x723_S32x723_0_0).toLoadRect f3) bitsLt_bf16_f32) bitsLt_bf16_f32)
      shapeCasts_S32x723_S32x723⟩,
   ⟨Rect.unit (s := S32x768) ![0, 0] S32x768.size inb_S32x768_S32x768_0_0,
    shapeCast S32x768 (broadcast S32x768 (Scalar.ofBits .f32 0x00000000#32)) shapeCasts_S32x768_S32x768⟩]

end Writes

end Cert.KernelIdeal.Body

end
-- ==== Proof.KernelIdealBody.First.lean ====
/-
  The kernel body at the first grid step, run once at symbolic operands.
-/
module

public import proofs.«01_k».proof.Proof.KernelIdealBody.Defs

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option sl_exec.resultNames true in
/-- The body at the first grid step: it fills the scratch buffers from the inputs, writes the codes and the scales, then does
    the step's blocks. -/
noncomputable def firstRun (c : Dev nD) (hc1 : k0_cond1 i0 = 1#1) (hc2 : ¬ k0_cond2 i0 = 1#1)
    (M1 : Memref sig .tc .vmem S32x4096 .bf16) (h1 : M1.IsWhole)
    (M2 : Memref sig .tc .vmem S4096x2048 .fp8e4m3) (h2 : M2.IsWhole)
    (M3 : Memref sig .tc .vmem S32x723 .f32) (h3 : M3.IsWhole)
    (M4 : Memref sig .tc .vmem S32x2892 .i32) (h4 : M4.IsWhole)
    (M5 : Memref sig .tc .vmem S32x60 .i32) (h5 : M5.IsWhole)
    (M6 : Memref sig .tc .vmem S32x2048 .f32) (h6 : M6.IsWhole)
    (M7 : Memref sig .tc .vmem S32x1 .f32) (h7 : M7.IsWhole)
    (M8 : Memref sig .tc .vmem S32x60 .f32) (h8 : M8.IsWhole)
    (M9 : Memref sig .tc .vmem S32x4096 .fp8e4m3) (h9 : M9.IsWhole)
    (M10 : Memref sig .tc .vmem S32x1 .f32) (h10 : M10.IsWhole)
    (M11 : Memref sig .tc .vmem S32x4096 .bf16) (h11 : M11.IsWhole)
    (M12 : Memref sig .tc .vmem S32x128 .f32) (h12 : M12.IsWhole)
    (M13 : Memref sig .tc .vmem S32x2944 .i32) (h13 : M13.IsWhole)
    (M14 : Memref sig .tc .vmem S32x768 .f32) (h14 : M14.IsWhole)
    (M15 : Memref sig .tc .vmem S2x32x128 .f32) (h15 : M15.IsWhole)
    (M16 : Memref sig .tc .vmem S32x128 .f32) (h16 : M16.IsWhole)
    (M17 : Memref sig .tc .vmem S32x128 .f32) (h17 : M17.IsWhole)
    (M18 : Memref sig .tc .vmem S32x128 .i32) (h18 : M18.IsWhole)
    (M19 : Memref sig .tc .vmem S32x128 .f32) (h19 : M19.IsWhole)
    (f1 : Bf (F := F) c M1) (f2 : Bf (F := F) c M2) (f3 : Bf (F := F) c M3) (f4 : Bf (F := F) c M4) (f5 : Bf (F := F) c M5) :
    { W : Bf (F := F) c M6 × Bf (F := F) c M9 × Bf (F := F) c M10 × Bf (F := F) c M11 × Bf (F := F) c M12 × Bf (F := F) c M13 × Bf (F := F) c M14 × Bf (F := F) c M16 × Bf (F := F) c M17 × Bf (F := F) c M18 × Bf (F := F) c M19 //
      ∀ (f6 : Bf (F := F) c M6) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f19 : Bf (F := F) c M19) (E : Set ℕ) (Q : PUnit → sProp 𝕄),
        iprop(pt c M1 f1 ∗ pt c M2 f2 ∗ pt c M3 f3 ∗ pt c M4 f4 ∗ pt c M5 f5 ∗ pt c M6 f6 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19
          ∗ (iprop(pt c M1 f1 ∗ pt c M2 f2 ∗ pt c M3 f3 ∗ pt c M4 f4 ∗ pt c M5 f5 ∗ pt c M6 W.1 ∗ pt c M9 W.2.1 ∗ pt c M10 W.2.2.1 ∗ pt c M11 W.2.2.2.1 ∗ pt c M12 W.2.2.2.2.1 ∗ pt c M13 W.2.2.2.2.2.1 ∗ pt c M14 W.2.2.2.2.2.2.1 ∗ (∃ f, pt c M15 f) ∗ pt c M16 W.2.2.2.2.2.2.2.1 ∗ pt c M17 W.2.2.2.2.2.2.2.2.1 ∗ pt c M18 W.2.2.2.2.2.2.2.2.2.1 ∗ pt c M19 W.2.2.2.2.2.2.2.2.2.2) -∗ Q ⟨⟩))
        ⊢ wp frame (wpE (defs₀ (F := F)) Variants.none c none) E
            (cc0_masked_lm_head i0 M1 h1 M2 h2 M3 h3 M4 h4 M5 h5 M6 h6 M7 h7 M8 h8 M9 h9 M10 h10 M11 h11 M12 h12 M13 h13 M14 h14 M15 h15 M16 h16 M17 h17 M18 h18 M19 h19) Q } := by
  refine ⟨⟨?_, ?_, ?_, ?_, ?_, ?_, ?_, ?_, ?_, ?_, ?_⟩, fun f6 f9 f10 f11 f12 f13 f14 f15 f16 f17 f18 f19 E Q => ?run⟩
  case run =>
    iintro ⟨H1, H2, H3, H4, H5, H6, H9, H10, H11, H12, H13, H14, H15, H16, H17, H18, H19, Hk⟩
    sl_exec_parts! (disch := assumption)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    isplitl [H17]; · iexact H17
    isplitl [H18]; · iexact H18
    iexact H19

end Cert.KernelIdeal.Body

end
-- ==== Proof.KernelIdealBody.Mid.lean ====
/-
  The kernel body at a middle grid step, run once at symbolic operands.
-/
module

public import proofs.«01_k».proof.Proof.KernelIdealBody.Defs

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option sl_exec.resultNames true in
/-- The body at a grid step that is neither the first nor the last: the four buffers it rewrites end at the witnesses, the
    buffer of spread scales at something, every other buffer it reads as it was. -/
noncomputable def midRun (c : Dev nD) (i : grid0.Coords) (hc1 : ¬ k0_cond1 i = 1#1) (hc2 : ¬ k0_cond2 i = 1#1)
    (M1 : Memref sig .tc .vmem S32x4096 .bf16) (h1 : M1.IsWhole)
    (M2 : Memref sig .tc .vmem S4096x2048 .fp8e4m3) (h2 : M2.IsWhole)
    (M3 : Memref sig .tc .vmem S32x723 .f32) (h3 : M3.IsWhole)
    (M4 : Memref sig .tc .vmem S32x2892 .i32) (h4 : M4.IsWhole)
    (M5 : Memref sig .tc .vmem S32x60 .i32) (h5 : M5.IsWhole)
    (M6 : Memref sig .tc .vmem S32x2048 .f32) (h6 : M6.IsWhole)
    (M7 : Memref sig .tc .vmem S32x1 .f32) (h7 : M7.IsWhole)
    (M8 : Memref sig .tc .vmem S32x60 .f32) (h8 : M8.IsWhole)
    (M9 : Memref sig .tc .vmem S32x4096 .fp8e4m3) (h9 : M9.IsWhole)
    (M10 : Memref sig .tc .vmem S32x1 .f32) (h10 : M10.IsWhole)
    (M11 : Memref sig .tc .vmem S32x4096 .bf16) (h11 : M11.IsWhole)
    (M12 : Memref sig .tc .vmem S32x128 .f32) (h12 : M12.IsWhole)
    (M13 : Memref sig .tc .vmem S32x2944 .i32) (h13 : M13.IsWhole)
    (M14 : Memref sig .tc .vmem S32x768 .f32) (h14 : M14.IsWhole)
    (M15 : Memref sig .tc .vmem S2x32x128 .f32) (h15 : M15.IsWhole)
    (M16 : Memref sig .tc .vmem S32x128 .f32) (h16 : M16.IsWhole)
    (M17 : Memref sig .tc .vmem S32x128 .f32) (h17 : M17.IsWhole)
    (M18 : Memref sig .tc .vmem S32x128 .i32) (h18 : M18.IsWhole)
    (M19 : Memref sig .tc .vmem S32x128 .f32) (h19 : M19.IsWhole)
    (f2 : Bf (F := F) c M2) (f11 : Bf (F := F) c M11) (f12 : Bf (F := F) c M12) (f13 : Bf (F := F) c M13) (f14 : Bf (F := F) c M14) (f16 : Bf (F := F) c M16) (f17 : Bf (F := F) c M17) (f18 : Bf (F := F) c M18) (f19 : Bf (F := F) c M19) :
    { W : Bf (F := F) c M6 × Bf (F := F) c M16 × Bf (F := F) c M17 × Bf (F := F) c M19 //
      ∀ (f6 : Bf (F := F) c M6) (f15 : Bf (F := F) c M15) (E : Set ℕ) (Q : PUnit → sProp 𝕄),
        iprop(pt c M2 f2 ∗ pt c M6 f6 ∗ pt c M11 f11 ∗ pt c M12 f12 ∗ pt c M13 f13 ∗ pt c M14 f14 ∗ pt c M15 f15 ∗ pt c M16 f16 ∗ pt c M17 f17 ∗ pt c M18 f18 ∗ pt c M19 f19
          ∗ (iprop(pt c M2 f2 ∗ pt c M6 W.1 ∗ pt c M11 f11 ∗ pt c M12 f12 ∗ pt c M13 f13 ∗ pt c M14 f14 ∗ (∃ f, pt c M15 f) ∗ pt c M16 W.2.1 ∗ pt c M17 W.2.2.1 ∗ pt c M18 f18 ∗ pt c M19 W.2.2.2) -∗ Q ⟨⟩))
        ⊢ wp frame (wpE (defs₀ (F := F)) Variants.none c none) E
            (cc0_masked_lm_head i M1 h1 M2 h2 M3 h3 M4 h4 M5 h5 M6 h6 M7 h7 M8 h8 M9 h9 M10 h10 M11 h11 M12 h12 M13 h13 M14 h14 M15 h15 M16 h16 M17 h17 M18 h18 M19 h19) Q } := by
  refine ⟨⟨?_, ?_, ?_, ?_⟩, fun f6 f15 E Q => ?run⟩
  case run =>
    iintro ⟨H2, H6, H11, H12, H13, H14, H15, H16, H17, H18, H19, Hk⟩
    sl_exec_parts! (disch := assumption)
    sl_step
    iapply Hk
    isplitl [H2]; · iexact H2
    isplitl [H6]; · iexact H6
    isplitl [H11]; · iexact H11
    isplitl [H12]; · iexact H12
    isplitl [H13]; · iexact H13
    isplitl [H14]; · iexact H14
    isplitl [H15]; · iexists _; iexact H15
    isplitl [H16]; · iexact H16
    isplitl [H17]; · iexact H17
    isplitl [H18]; · iexact H18
    iexact H19

end Cert.KernelIdeal.Body

end
-- ==== Proof.KernelIdealBody.Last.lean ====
/-
  The kernel body at the last grid step, run once at symbolic operands.
-/
module

public import proofs.«01_k».proof.Proof.KernelIdealBody.Defs

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option sl_exec.resultNames true in
/-- The body at the last grid step: the step's blocks, then the log-sum-exp and the candidates' log-probabilities. -/
noncomputable def lastRun (c : Dev nD) (i : grid0.Coords) (hc1 : ¬ k0_cond1 i = 1#1) (hc2 : k0_cond2 i = 1#1)
    (M1 : Memref sig .tc .vmem S32x4096 .bf16) (h1 : M1.IsWhole)
    (M2 : Memref sig .tc .vmem S4096x2048 .fp8e4m3) (h2 : M2.IsWhole)
    (M3 : Memref sig .tc .vmem S32x723 .f32) (h3 : M3.IsWhole)
    (M4 : Memref sig .tc .vmem S32x2892 .i32) (h4 : M4.IsWhole)
    (M5 : Memref sig .tc .vmem S32x60 .i32) (h5 : M5.IsWhole)
    (M6 : Memref sig .tc .vmem S32x2048 .f32) (h6 : M6.IsWhole)
    (M7 : Memref sig .tc .vmem S32x1 .f32) (h7 : M7.IsWhole)
    (M8 : Memref sig .tc .vmem S32x60 .f32) (h8 : M8.IsWhole)
    (M9 : Memref sig .tc .vmem S32x4096 .fp8e4m3) (h9 : M9.IsWhole)
    (M10 : Memref sig .tc .vmem S32x1 .f32) (h10 : M10.IsWhole)
    (M11 : Memref sig .tc .vmem S32x4096 .bf16) (h11 : M11.IsWhole)
    (M12 : Memref sig .tc .vmem S32x128 .f32) (h12 : M12.IsWhole)
    (M13 : Memref sig .tc .vmem S32x2944 .i32) (h13 : M13.IsWhole)
    (M14 : Memref sig .tc .vmem S32x768 .f32) (h14 : M14.IsWhole)
    (M15 : Memref sig .tc .vmem S2x32x128 .f32) (h15 : M15.IsWhole)
    (M16 : Memref sig .tc .vmem S32x128 .f32) (h16 : M16.IsWhole)
    (M17 : Memref sig .tc .vmem S32x128 .f32) (h17 : M17.IsWhole)
    (M18 : Memref sig .tc .vmem S32x128 .i32) (h18 : M18.IsWhole)
    (M19 : Memref sig .tc .vmem S32x128 .f32) (h19 : M19.IsWhole)
    (f2 : Bf (F := F) c M2) (f11 : Bf (F := F) c M11) (f12 : Bf (F := F) c M12) (f13 : Bf (F := F) c M13) (f14 : Bf (F := F) c M14) (f16 : Bf (F := F) c M16) (f17 : Bf (F := F) c M17) (f18 : Bf (F := F) c M18) (f19 : Bf (F := F) c M19) :
    { W : Bf (F := F) c M6 × Bf (F := F) c M7 × Bf (F := F) c M8 //
      ∀ (f6 : Bf (F := F) c M6) (f7 : Bf (F := F) c M7) (f8 : Bf (F := F) c M8) (f15 : Bf (F := F) c M15) (E : Set ℕ) (Q : PUnit → sProp 𝕄),
        iprop(pt c M2 f2 ∗ pt c M6 f6 ∗ pt c M7 f7 ∗ pt c M8 f8 ∗ pt c M11 f11 ∗ pt c M12 f12 ∗ pt c M13 f13 ∗ pt c M14 f14 ∗ pt c M15 f15 ∗ pt c M16 f16 ∗ pt c M17 f17 ∗ pt c M18 f18 ∗ pt c M19 f19
          ∗ (iprop(pt c M2 f2 ∗ pt c M6 W.1 ∗ pt c M7 W.2.1 ∗ pt c M8 W.2.2 ∗ pt c M11 f11 ∗ pt c M12 f12 ∗ pt c M13 f13 ∗ pt c M14 f14 ∗ (∃ f, pt c M15 f) ∗ (∃ f, pt c M16 f) ∗ (∃ f, pt c M17 f) ∗ pt c M18 f18 ∗ (∃ f, pt c M19 f)) -∗ Q ⟨⟩))
        ⊢ wp frame (wpE (defs₀ (F := F)) Variants.none c none) E
            (cc0_masked_lm_head i M1 h1 M2 h2 M3 h3 M4 h4 M5 h5 M6 h6 M7 h7 M8 h8 M9 h9 M10 h10 M11 h11 M12 h12 M13 h13 M14 h14 M15 h15 M16 h16 M17 h17 M18 h18 M19 h19) Q } := by
  refine ⟨⟨?_, ?_, ?_⟩, fun f6 f7 f8 f15 E Q => ?run⟩
  case run =>
    iintro ⟨H2, H6, H7, H8, H11, H12, H13, H14, H15, H16, H17, H18, H19, Hk⟩
    sl_exec_parts! (disch := assumption)
    sl_step
    iapply Hk
    isplitl [H2]; · iexact H2
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexact H18
    iexists _; iexact H19

end Cert.KernelIdeal.Body

end
-- ==== Proof.KernelIdealBody.Stores.lean ====
/-
  Each run of the body leaves, in the block of masked logits, exactly the stores that `Block` lists.
-/
module

public import proofs.«01_k».proof.Proof.KernelIdealBody.Block
public import proofs.«01_k».proof.Proof.KernelIdealBody.Init
public import proofs.«01_k».proof.Proof.KernelIdealBody.First
public import proofs.«01_k».proof.Proof.KernelIdealBody.Mid
public import proofs.«01_k».proof.Proof.KernelIdealBody.Last

@[expose] public section

noncomputable section

namespace Cert.KernelIdeal.Body

open Cert.KernelIdeal Cert.KernelIdeal.Gen

open Idealize.ShloMosaic
open Idealize.ShloMosaic.TcCoe

variable {F : FTy → Type} [FloatOps F]

section Runs

variable (c : Dev nD) (i : grid0.Coords)
    (M1 : Memref sig .tc .vmem S32x4096 .bf16) (h1 : M1.IsWhole)
    (M2 : Memref sig .tc .vmem S4096x2048 .fp8e4m3) (h2 : M2.IsWhole)
    (M3 : Memref sig .tc .vmem S32x723 .f32) (h3 : M3.IsWhole)
    (M4 : Memref sig .tc .vmem S32x2892 .i32) (h4 : M4.IsWhole)
    (M5 : Memref sig .tc .vmem S32x60 .i32) (h5 : M5.IsWhole)
    (M6 : Memref sig .tc .vmem S32x2048 .f32) (h6 : M6.IsWhole)
    (M7 : Memref sig .tc .vmem S32x1 .f32) (h7 : M7.IsWhole)
    (M8 : Memref sig .tc .vmem S32x60 .f32) (h8 : M8.IsWhole)
    (M9 : Memref sig .tc .vmem S32x4096 .fp8e4m3) (h9 : M9.IsWhole)
    (M10 : Memref sig .tc .vmem S32x1 .f32) (h10 : M10.IsWhole)
    (M11 : Memref sig .tc .vmem S32x4096 .bf16) (h11 : M11.IsWhole)
    (M12 : Memref sig .tc .vmem S32x128 .f32) (h12 : M12.IsWhole)
    (M13 : Memref sig .tc .vmem S32x2944 .i32) (h13 : M13.IsWhole)
    (M14 : Memref sig .tc .vmem S32x768 .f32) (h14 : M14.IsWhole)
    (M15 : Memref sig .tc .vmem S2x32x128 .f32) (h15 : M15.IsWhole)
    (M16 : Memref sig .tc .vmem S32x128 .f32) (h16 : M16.IsWhole)
    (M17 : Memref sig .tc .vmem S32x128 .f32) (h17 : M17.IsWhole)
    (M18 : Memref sig .tc .vmem S32x128 .i32) (h18 : M18.IsWhole)
    (M19 : Memref sig .tc .vmem S32x128 .f32) (h19 : M19.IsWhole)

theorem mid_out (hc1 : ¬ k0_cond1 i = 1#1) (hc2 : ¬ k0_cond2 i = 1#1) (f2 : Bf (F := F) c M2) (f11 : Bf (F := F) c M11) (f12 : Bf (F := F) c M12) (f13 : Bf (F := F) c M13) (f14 : Bf (F := F) c M14) (f16 : Bf (F := F) c M16) (f17 : Bf (F := F) c M17) (f18 : Bf (F := F) c M18) (f19 : Bf (F := F) c M19) :
    (midRun c i hc1 hc2 M1 h1 M2 h2 M3 h3 M4 h4 M5 h5 M6 h6 M7 h7 M8 h8 M9 h9 M10 h10 M11 h11 M12 h12 M13 h13 M14 h14 M15 h15 M16 h16 M17 h17 M18 h18 M19 h19 f2 f11 f12 f13 f14 f16 f17 f18 f19).1.1
      = M6.view.writes (Elt F) M6.view.junk (outWrites c i M2 M11 M12 M13 M14 M15 f2 f11 f12 f13 f14) := rfl

theorem last_out (hc1 : ¬ k0_cond1 i = 1#1) (hc2 : k0_cond2 i = 1#1) (f2 : Bf (F := F) c M2) (f11 : Bf (F := F) c M11) (f12 : Bf (F := F) c M12) (f13 : Bf (F := F) c M13) (f14 : Bf (F := F) c M14) (f16 : Bf (F := F) c M16) (f17 : Bf (F := F) c M17) (f18 : Bf (F := F) c M18) (f19 : Bf (F := F) c M19) :
    (lastRun c i hc1 hc2 M1 h1 M2 h2 M3 h3 M4 h4 M5 h5 M6 h6 M7 h7 M8 h8 M9 h9 M10 h10 M11 h11 M12 h12 M13 h13 M14 h14 M15 h15 M16 h16 M17 h17 M18 h18 M19 h19 f2 f11 f12 f13 f14 f16 f17 f18 f19).1.1
      = M6.view.writes (Elt F) M6.view.junk (outWrites c i M2 M11 M12 M13 M14 M15 f2 f11 f12 f13 f14) := rfl

theorem first_codes (hc1 : k0_cond1 i0 = 1#1) (hc2 : ¬ k0_cond2 i0 = 1#1) (f1 : Bf (F := F) c M1) (f2 : Bf (F := F) c M2) (f3 : Bf (F := F) c M3) (f4 : Bf (F := F) c M4) (f5 : Bf (F := F) c M5) :
    (firstRun c hc1 hc2 M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5).1.2.1
      = M9.view.writes (Elt F) M9.view.junk (codesWrites c M1 f1) := by
  delta firstRun
  dsimp only
  rfl

theorem first_scales (hc1 : k0_cond1 i0 = 1#1) (hc2 : ¬ k0_cond2 i0 = 1#1) (f1 : Bf (F := F) c M1) (f2 : Bf (F := F) c M2) (f3 : Bf (F := F) c M3) (f4 : Bf (F := F) c M4) (f5 : Bf (F := F) c M5) :
    (firstRun c hc1 hc2 M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5).1.2.2.1
      = M10.view.writes (Elt F) M10.view.junk (scalesWrites c M1 f1) := by
  delta firstRun
  dsimp only
  rfl

theorem first_wideCodes (hc1 : k0_cond1 i0 = 1#1) (hc2 : ¬ k0_cond2 i0 = 1#1) (f1 : Bf (F := F) c M1) (f2 : Bf (F := F) c M2) (f3 : Bf (F := F) c M3) (f4 : Bf (F := F) c M4) (f5 : Bf (F := F) c M5) :
    (firstRun c hc1 hc2 M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5).1.2.2.2.1
      = M11.view.writes (Elt F) M11.view.junk (wideCodesWrites c M1 f1) := by
  delta firstRun
  dsimp only
  rfl

theorem first_laneScales (hc1 : k0_cond1 i0 = 1#1) (hc2 : ¬ k0_cond2 i0 = 1#1) (f1 : Bf (F := F) c M1) (f2 : Bf (F := F) c M2) (f3 : Bf (F := F) c M3) (f4 : Bf (F := F) c M4) (f5 : Bf (F := F) c M5) :
    (firstRun c hc1 hc2 M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5).1.2.2.2.2.1
      = M12.view.writes (Elt F) M12.view.junk (laneScalesWrites c M1 f1) := by
  delta firstRun
  dsimp only
  rfl

theorem first_words (hc1 : k0_cond1 i0 = 1#1) (hc2 : ¬ k0_cond2 i0 = 1#1) (f1 : Bf (F := F) c M1) (f2 : Bf (F := F) c M2) (f3 : Bf (F := F) c M3) (f4 : Bf (F := F) c M4) (f5 : Bf (F := F) c M5) :
    (firstRun c hc1 hc2 M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5).1.2.2.2.2.2.1
      = M13.view.writes (Elt F) M13.view.junk (wordsWrites c M4 f4) := by
  delta firstRun
  dsimp only
  rfl

theorem first_scalePairs (hc1 : k0_cond1 i0 = 1#1) (hc2 : ¬ k0_cond2 i0 = 1#1) (f1 : Bf (F := F) c M1) (f2 : Bf (F := F) c M2) (f3 : Bf (F := F) c M3) (f4 : Bf (F := F) c M4) (f5 : Bf (F := F) c M5) :
    (firstRun c hc1 hc2 M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5).1.2.2.2.2.2.2.1
      = M14.view.writes (Elt F) M14.view.junk (scalePairsWrites c M3 f3) := by
  delta firstRun
  dsimp only
  rfl

set_option maxHeartbeats 2000000 in
theorem first_out (hc1 : k0_cond1 i0 = 1#1) (hc2 : ¬ k0_cond2 i0 = 1#1) (f1 : Bf (F := F) c M1) (f2 : Bf (F := F) c M2) (f3 : Bf (F := F) c M3) (f4 : Bf (F := F) c M4) (f5 : Bf (F := F) c M5) :
    (firstRun c hc1 hc2 M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5).1.1
      = M6.view.writes (Elt F) M6.view.junk (outWrites c i0 M2 M11 M12 M13 M14 M15 f2
          (M11.view.writes (Elt F) M11.view.junk (wideCodesWrites c M1 f1)) (M12.view.writes (Elt F) M12.view.junk (laneScalesWrites c M1 f1))
          (M13.view.writes (Elt F) M13.view.junk (wordsWrites c M4 f4)) (M14.view.writes (Elt F) M14.view.junk (scalePairsWrites c M3 f3))) := by
  delta firstRun
  dsimp only
  rfl

end Runs

end Cert.KernelIdeal.Body

end
-- ==== Proof.KernelIdealBody.Frame.lean ====
/-
  The kernel's run over the whole grid, from an invariant on the scratch buffers. The grid has 46 steps; the body at the first, a
  middle and the last one is run in `First`, `Mid` and `Last`. An invariant (`Inv`) says what the scratch buffers hold before each
  step and what each step leaves in the results' blocks; if the three runs keep it (`Inv.Steps`), every execution of the program
  ends, and the results' arrays are made of blocks that the invariant allows (`run_main`).
-/
module

public import proofs.«01_k».proof.Proof.KernelIdealBody.First
public import proofs.«01_k».proof.Proof.KernelIdealBody.Mid
public import proofs.«01_k».proof.Proof.KernelIdealBody.Last
public import Idealize.ShloMosaic.Lib.Pipeline.Frame
public import Idealize.ShloMosaic.Lib.Pipeline.FrameBody

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands -/

/-- The scratch buffers. -/
abbrev sc11 : Memref sig .tc .vmem S32x4096 .bf16 := Memref.whole cc0_scratch0
abbrev sc12 : Memref sig .tc .vmem S32x128 .f32 := Memref.whole cc0_scratch1
abbrev sc13 : Memref sig .tc .vmem S32x2944 .i32 := Memref.whole cc0_scratch2
abbrev sc14 : Memref sig .tc .vmem S32x768 .f32 := Memref.whole cc0_scratch3
abbrev sc15 : Memref sig .tc .vmem S2x32x128 .f32 := Memref.whole cc0_scratch4
abbrev sc16 : Memref sig .tc .vmem S32x128 .f32 := Memref.whole cc0_scratch5
abbrev sc17 : Memref sig .tc .vmem S32x128 .f32 := Memref.whole cc0_scratch6
abbrev sc18 : Memref sig .tc .vmem S32x128 .i32 := Memref.whole cc0_scratch7
abbrev sc19 : Memref sig .tc .vmem S32x128 .f32 := Memref.whole cc0_scratch8
/-- The staging memrefs are whole buffers. -/
abbrev hs0 (t : Fin cfg0.N) : (st0_0 t).IsWhole := hstage0_0 ((cfg0.slots t 0).cast nbuf0_0)
abbrev hs1 (t : Fin cfg0.N) : (st0_1 t).IsWhole := hstage0_1 ((cfg0.slots t 1).cast nbuf0_1)
abbrev hs2 (t : Fin cfg0.N) : (st0_2 t).IsWhole := hstage0_2 ((cfg0.slots t 2).cast nbuf0_2)
abbrev hs3 (t : Fin cfg0.N) : (st0_3 t).IsWhole := hstage0_3 ((cfg0.slots t 3).cast nbuf0_3)
abbrev hs4 (t : Fin cfg0.N) : (st0_4 t).IsWhole := hstage0_4 ((cfg0.slots t 4).cast nbuf0_4)
abbrev hs5 (t : Fin cfg0.N) : (st0_5 t).IsWhole := hstage0_5 ((cfg0.slots t 5).cast nbuf0_5)
abbrev hs6 (t : Fin cfg0.N) : (st0_6 t).IsWhole := hstage0_6 ((cfg0.slots t 6).cast nbuf0_6)
abbrev hs7 (t : Fin cfg0.N) : (st0_7 t).IsWhole := hstage0_7 ((cfg0.slots t 7).cast nbuf0_7)
abbrev hs8 (t : Fin cfg0.N) : (st0_8 t).IsWhole := hstage0_8 ((cfg0.slots t 8).cast nbuf0_8)
abbrev hs9 (t : Fin cfg0.N) : (st0_9 t).IsWhole := hstage0_9 ((cfg0.slots t 9).cast nbuf0_9)

/-- Owning a whole memref is holding its buffer at contents that read so. -/
theorem owns_eq_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]
theorem owns_of_pt {c : Dev nD} {sp : Space} {S : Shape} {e : EltTy} {M : Memref sig .tc sp S e} (h : M.IsWhole) (f : Bf (F := F) c M) :
    (pt c M f : sProp 𝕄) ⊢ owns (c : Thread nD τ) M fullShare (M.view.read (Elt F) f) := by
  rw [owns_eq_pt c M h]; iintro H; iexists f; isplitr; swap; · iexact H
  ipureintro; rfl

theorem cond1_iff : ∀ t : Fin grid0.N, k0_cond1 (grid0.coords t) = 1#1 ↔ t.val = 0 := by decide
theorem cond2_iff : ∀ t : Fin grid0.N, k0_cond2 (grid0.coords t) = 1#1 ↔ t.val = 45 := by decide

/-! ## The runs of the body at the pipeline's buffers -/

/-- The first step. -/
abbrev t₀ : Fin cfg0.N := ⟨0, by decide⟩

def firstAt (c : Dev nD) (f1 : Bf (F := F) c (st0_0 t₀)) (f2 : Bf (F := F) c (st0_1 t₀)) (f3 : Bf (F := F) c (st0_2 t₀))
    (f4 : Bf (F := F) c (st0_3 t₀)) (f5 : Bf (F := F) c (st0_4 t₀)) :=
  firstRun (F := F) c ((cond1_iff t₀).mpr rfl) (fun h => absurd ((cond2_iff t₀).mp h) (by decide))
    (st0_0 t₀) (hs0 t₀) (st0_1 t₀) (hs1 t₀) (st0_2 t₀) (hs2 t₀) (st0_3 t₀) (hs3 t₀) (st0_4 t₀) (hs4 t₀) (st0_5 t₀) (hs5 t₀) (st0_6 t₀) (hs6 t₀) (st0_7 t₀) (hs7 t₀) (st0_8 t₀) (hs8 t₀) (st0_9 t₀) (hs9 t₀)
    sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) f1 f2 f3 f4 f5

def midAt (c : Dev nD) (t : Fin cfg0.N) (h0 : t.val ≠ 0) (h45 : t.val ≠ 45) (f2 : Bf (F := F) c (st0_1 t))
    (f11 : Bf (F := F) c sc11) (f12 : Bf (F := F) c sc12) (f13 : Bf (F := F) c sc13) (f14 : Bf (F := F) c sc14) (f16 : Bf (F := F) c sc16) (f17 : Bf (F := F) c sc17) (f18 : Bf (F := F) c sc18) (f19 : Bf (F := F) c sc19) :=
  midRun (F := F) c (grid0.coords t) (fun h => h0 ((cond1_iff t).mp h)) (fun h => h45 ((cond2_iff t).mp h))
    (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t)
    sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) f2 f11 f12 f13 f14 f16 f17 f18 f19

def lastAt (c : Dev nD) (t : Fin cfg0.N) (h45 : t.val = 45) (f2 : Bf (F := F) c (st0_1 t))
    (f11 : Bf (F := F) c sc11) (f12 : Bf (F := F) c sc12) (f13 : Bf (F := F) c sc13) (f14 : Bf (F := F) c sc14) (f16 : Bf (F := F) c sc16) (f17 : Bf (F := F) c sc17) (f18 : Bf (F := F) c sc18) (f19 : Bf (F := F) c sc19) :=
  lastRun (F := F) c (grid0.coords t) (fun h => by have := (cond1_iff t).mp h; omega) ((cond2_iff t).mpr h45)
    (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t)
    sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) f2 f11 f12 f13 f14 f16 f17 f18 f19

/-! ## Invariants -/

variable (F) in
/-- What the scratch buffers hold before step `n` (`scr`), what a step may leave in the block of masked logits (`out`), what the
    last step may leave in the log-sum-exp and the candidates' log-probabilities (`lse`, `lp`), and what the first step may leave in
    the codes and the scales (`codes`, `xs`). -/
structure Inv where
  scr (c : Dev nD) (n : ℕ) : Bf (F := F) c sc11 → Bf (F := F) c sc12 → Bf (F := F) c sc13 → Bf (F := F) c sc14 → Bf (F := F) c sc16 → Bf (F := F) c sc17 → Bf (F := F) c sc18 → Bf (F := F) c sc19 → Prop
  out (c : Dev nD) (t : Fin cfg0.N) : (S32x2048.Idx → Elt F .f32) → Prop
  lse (c : Dev nD) : (S32x1.Idx → Elt F .f32) → Prop
  lp (c : Dev nD) : (S32x60.Idx → Elt F .f32) → Prop
  codes (c : Dev nD) : (S32x4096.Idx → Elt F .fp8e4m3) → Prop
  xs (c : Dev nD) : (S32x1.Idx → Elt F .f32) → Prop

/-- The three runs keep the invariant. -/
structure Inv.Steps (I : Inv F) : Prop where
  first : ∀ (c : Dev nD) (f1 : Bf (F := F) c (st0_0 t₀)) (f2 : Bf (F := F) c (st0_1 t₀)) (f3 : Bf (F := F) c (st0_2 t₀))
      (f4 : Bf (F := F) c (st0_3 t₀)) (f5 : Bf (F := F) c (st0_4 t₀)),
    (∃ d, (st0_0 t₀).view.read (Elt F) f1 = (cfg0.win 0).fill (grid0.coords t₀) d (iblk m c 0 t₀)) →
    (∃ d, (st0_1 t₀).view.read (Elt F) f2 = (cfg0.win 1).fill (grid0.coords t₀) d (iblk m c 1 t₀)) →
    (∃ d, (st0_2 t₀).view.read (Elt F) f3 = (cfg0.win 2).fill (grid0.coords t₀) d (iblk m c 2 t₀)) →
    (∃ d, (st0_3 t₀).view.read (Elt F) f4 = (cfg0.win 3).fill (grid0.coords t₀) d (iblk m c 3 t₀)) →
    (∃ d, (st0_4 t₀).view.read (Elt F) f5 = (cfg0.win 4).fill (grid0.coords t₀) d (iblk m c 4 t₀)) →
    ∀ W, W = (firstAt c f1 f2 f3 f4 f5).1 →
      I.scr c 1 (W.2.2.2.1) (W.2.2.2.2.1) (W.2.2.2.2.2.1) (W.2.2.2.2.2.2.1) (W.2.2.2.2.2.2.2.1) (W.2.2.2.2.2.2.2.2.1) (W.2.2.2.2.2.2.2.2.2.1) (W.2.2.2.2.2.2.2.2.2.2)
        ∧ I.out c t₀ ((st0_5 t₀).view.read (Elt F) W.1)
        ∧ I.codes c ((st0_8 t₀).view.read (Elt F) W.2.1) ∧ I.xs c ((st0_9 t₀).view.read (Elt F) W.2.2.1)
  mid : ∀ (c : Dev nD) (t : Fin cfg0.N) (h0 : t.val ≠ 0) (h45 : t.val ≠ 45) (f2 : Bf (F := F) c (st0_1 t)) (f11 : Bf (F := F) c sc11) (f12 : Bf (F := F) c sc12) (f13 : Bf (F := F) c sc13) (f14 : Bf (F := F) c sc14) (f16 : Bf (F := F) c sc16) (f17 : Bf (F := F) c sc17) (f18 : Bf (F := F) c sc18) (f19 : Bf (F := F) c sc19),
    (∃ d, (st0_1 t).view.read (Elt F) f2 = (cfg0.win 1).fill (grid0.coords t) d (iblk m c 1 t)) → I.scr c t.val f11 f12 f13 f14 f16 f17 f18 f19 →
    ∀ W, W = (midAt c t h0 h45 f2 f11 f12 f13 f14 f16 f17 f18 f19).1 →
      I.scr c (t.val + 1) f11 f12 f13 f14 (W.2.1) (W.2.2.1) f18 (W.2.2.2)
        ∧ I.out c t ((st0_5 t).view.read (Elt F) W.1)
  last : ∀ (c : Dev nD) (t : Fin cfg0.N) (h45 : t.val = 45) (f2 : Bf (F := F) c (st0_1 t)) (f11 : Bf (F := F) c sc11) (f12 : Bf (F := F) c sc12) (f13 : Bf (F := F) c sc13) (f14 : Bf (F := F) c sc14) (f16 : Bf (F := F) c sc16) (f17 : Bf (F := F) c sc17) (f18 : Bf (F := F) c sc18) (f19 : Bf (F := F) c sc19),
    (∃ d, (st0_1 t).view.read (Elt F) f2 = (cfg0.win 1).fill (grid0.coords t) d (iblk m c 1 t)) → I.scr c t.val f11 f12 f13 f14 f16 f17 f18 f19 →
    ∀ W, W = (lastAt c t h45 f2 f11 f12 f13 f14 f16 f17 f18 f19).1 →
      I.out c t ((st0_5 t).view.read (Elt F) W.1)
        ∧ I.lse c ((st0_6 t).view.read (Elt F) W.2.1) ∧ I.lp c ((st0_7 t).view.read (Elt F) W.2.2)

variable (I : Inv F)

/-- The scratch buffers between steps: at anything before the first and after the last step, and as the invariant says between. -/
def scratch (c : Dev nD) (n : ℕ) : sProp 𝕄 :=
  iprop(∃ f11 f12 f13 f14 f15 f16 f17 f18 f19, ⌜n ≠ 0 → n ≠ 46 → I.scr c n f11 f12 f13 f14 f16 f17 f18 f19⌝ ∗ pt c sc11 f11 ∗ pt c sc12 f12 ∗ pt c sc13 f13 ∗ pt c sc14 f14 ∗ pt c sc15 f15 ∗ pt c sc16 f16 ∗ pt c sc17 f17 ∗ pt c sc18 f18 ∗ pt c sc19 f19)

/-- The proof data: the arrays at what the region finds; the inputs' buffers left as found; the results' blocks as the invariant says. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => I.out c t X
    | ⟨6, _⟩ => fun _ X => t.val = 45 → I.lse c X
    | ⟨7, _⟩ => fun _ X => t.val = 45 → I.lp c X
    | ⟨8, _⟩ => fun _ X => I.codes c X
    | ⟨9, _⟩ => fun _ X => I.xs c X
  Φ n := iprop(scratch I c n.val ∗ ∃ r, prngReg c r)
  q _ := fullShare
  owed _ := 0

theorem scratch_of_rest (c : Dev nD) : (Pipeline.ΦA spec0 c : sProp 𝕄) ⊢ (rdat m I c).Φ 0 := by
  rw [show (rdat m I c).Φ 0 = iprop(scratch I c 0 ∗ ∃ r, prngReg c r) from rfl]
  unfold Pipeline.ΦA scratch; rw [scopedRest0_eq]
  iintro ⟨⟨⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩, Hg⟩
  isplitr [Hg]; swap; · iexact Hg
  iexists f11; iexists f12; iexists f13; iexists f14; iexists f15; iexists f16; iexists f17; iexists f18; iexists f19
  isplitr; · ipureintro; exact fun h => absurd rfl h
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem rest_of_scratch (c : Dev nD) : (rdat m I c).Φ (Fin.last cfg0.N) ⊢ (Pipeline.ΦA spec0 c : sProp 𝕄) := by
  rw [show (rdat m I c).Φ (Fin.last cfg0.N) = iprop(scratch I c (Fin.last cfg0.N).val ∗ ∃ r, prngReg c r) from rfl]
  unfold Pipeline.ΦA scratch; rw [scopedRest0_eq]
  iintro ⟨⟨%f11, %f12, %f13, %f14, %f15, %f16, %f17, %f18, %f19, -, H11, H12, H13, H14, H15, H16, H17, H18, H19⟩, Hg⟩
  isplitr [Hg]; swap; · iexact Hg
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-! ## The body obligation -/

/-- What the body is called with at point `t`, the current buffers at `Y`. -/
def bodyPre (c : Dev nD) (t : Fin cfg0.N) (Y : (w : Fin cfg0.W) → (cfg0.win w).block.Idx → Elt F (cfg0.win w).elt) : sProp 𝕄 :=
  iprop(iprop(scratch I c t.val ∗ ∃ r, prngReg c r) ∗ (rdat m I c).owesAt () t.castSucc
    ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9))

/-- What it returns. -/
def bodyPost (c : Dev nD) (t : Fin cfg0.N) (Y : (w : Fin cfg0.W) → (cfg0.win w).block.Idx → Elt F (cfg0.win w).elt) : sProp 𝕄 :=
  iprop(iprop(scratch I c (t.val + 1) ∗ ∃ r, prngReg c r) ∗ (rdat m I c).owesAt () t.castSucc
    ∗ (∃ X, ⌜(rdat m I c).after 0 t (Y 0) X⌝ ∗ owns (c : Thread nD τ) (st0_0 t) fullShare X) ∗ (∃ X, ⌜(rdat m I c).after 1 t (Y 1) X⌝ ∗ owns (c : Thread nD τ) (st0_1 t) fullShare X) ∗ (∃ X, ⌜(rdat m I c).after 2 t (Y 2) X⌝ ∗ owns (c : Thread nD τ) (st0_2 t) fullShare X) ∗ (∃ X, ⌜(rdat m I c).after 3 t (Y 3) X⌝ ∗ owns (c : Thread nD τ) (st0_3 t) fullShare X) ∗ (∃ X, ⌜(rdat m I c).after 4 t (Y 4) X⌝ ∗ owns (c : Thread nD τ) (st0_4 t) fullShare X) ∗ (∃ X, ⌜(rdat m I c).after 5 t (Y 5) X⌝ ∗ owns (c : Thread nD τ) (st0_5 t) fullShare X) ∗ (∃ X, ⌜(rdat m I c).after 6 t (Y 6) X⌝ ∗ owns (c : Thread nD τ) (st0_6 t) fullShare X) ∗ (∃ X, ⌜(rdat m I c).after 7 t (Y 7) X⌝ ∗ owns (c : Thread nD τ) (st0_7 t) fullShare X) ∗ (∃ X, ⌜(rdat m I c).after 8 t (Y 8) X⌝ ∗ owns (c : Thread nD τ) (st0_8 t) fullShare X) ∗ (∃ X, ⌜(rdat m I c).after 9 t (Y 9) X⌝ ∗ owns (c : Thread nD τ) (st0_9 t) fullShare X))

/-- What the body may find in the buffer of an input fetched at the point. -/
theorem finds_fetched (c : Dev nD) (w : Fin cfg0.W) (t : Fin cfg0.N) (hf : (cfg0.win w).fetch t = true)
    {X : (cfg0.win w).block.Idx → Elt F (cfg0.win w).elt} (h : (rdat m I c).Finds w t X) :
    ∃ d, X = (cfg0.win w).fill (grid0.coords t) d (iblk m c w t) :=
  ((rdat m I c).finds_of_fetch hf X).mp h

/-- After the first step, what the body may find in the buffer of the codes, written back after the last step only, is what it
    may have left there. -/
theorem finds_codes (c : Dev nD) (t : Fin cfg0.N) (h0 : t.val ≠ 0) {X : (cfg0.win 8).block.Idx → Elt F (cfg0.win 8).elt}
    (h : (rdat m I c).Finds 8 t X) : I.codes c X := by
  rcases ((rdat m I c).finds_of_pos (w := 8) (by rfl) h0 X).mp h with hfl | ⟨Y, -, hL⟩
  · have h46 := t.isLt; have hN : cfg0.N = 46 := N_0
    have := (flush0_8 _).mp hfl
    have h' : (t.val - 1) % 46 = 45 := this
    omega
  · exact hL
/-- The same of the scales. -/
theorem finds_xs (c : Dev nD) (t : Fin cfg0.N) (h0 : t.val ≠ 0) {X : (cfg0.win 9).block.Idx → Elt F (cfg0.win 9).elt}
    (h : (rdat m I c).Finds 9 t X) : I.xs c X := by
  rcases ((rdat m I c).finds_of_pos (w := 9) (by rfl) h0 X).mp h with hfl | ⟨Y, -, hL⟩
  · have h46 := t.isLt; have hN : cfg0.N = 46 := N_0
    have := (flush0_9 _).mp hfl
    have h' : (t.val - 1) % 46 = 45 := this
    omega
  · exact hL

set_option maxHeartbeats 4000000 in
theorem body_first (hI : I.Steps m) (c : Dev nD) (Y : (w : Fin cfg0.W) → (cfg0.win w).block.Idx → Elt F (cfg0.win w).elt) (hY : ∀ w, (rdat m I c).Finds w t₀ (Y w)) :
    bodyPre m I c t₀ Y ⊢ wp frame (wpE (defs₀ (F := F)) Variants.none c none) Set.univ (bodyAt0 t₀) (fun _ => bodyPost m I c t₀ Y) := by

  unfold bodyPre bodyPost scratch
  rw [owns_eq_pt c (st0_0 t₀) (hs0 t₀), owns_eq_pt c (st0_1 t₀) (hs1 t₀), owns_eq_pt c (st0_2 t₀) (hs2 t₀), owns_eq_pt c (st0_3 t₀) (hs3 t₀), owns_eq_pt c (st0_4 t₀) (hs4 t₀), owns_eq_pt c (st0_5 t₀) (hs5 t₀), owns_eq_pt c (st0_6 t₀) (hs6 t₀), owns_eq_pt c (st0_7 t₀) (hs7 t₀), owns_eq_pt c (st0_8 t₀) (hs8 t₀), owns_eq_pt c (st0_9 t₀) (hs9 t₀)]
  iintro ⟨⟨⟨%f11, %f12, %f13, %f14, %f15, %f16, %f17, %f18, %f19, %hscr, Hs11, Hs12, Hs13, Hs14, Hs15, Hs16, Hs17, Hs18, Hs19⟩, Hg⟩, Ho,
    ⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩⟩
  have hW := hI.first c g0 g1 g2 g3 g4 (hg0 ▸ finds_fetched m I c 0 t₀ ((fetch0_0 t₀).mpr rfl) (hY 0)) (hg1 ▸ finds_fetched m I c 1 t₀ (fetch0_1 t₀) (hY 1))
    (hg2 ▸ finds_fetched m I c 2 t₀ ((fetch0_2 t₀).mpr rfl) (hY 2)) (hg3 ▸ finds_fetched m I c 3 t₀ ((fetch0_3 t₀).mpr rfl) (hY 3))
    (hg4 ▸ finds_fetched m I c 4 t₀ ((fetch0_4 t₀).mpr rfl) (hY 4)) _ rfl
  obtain ⟨hscr', hout, hcodes, hxs⟩ := hW
  iapply ((firstAt c g0 g1 g2 g3 g4).2 g5 g8 g9 f11 f12 f13 f14 f15 f16 f17 f18 f19 Set.univ _)
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  iintro ⟨H0, H1, H2, H3, H4, H5, H8, H9, Hs11, Hs12, Hs13, Hs14, ⟨%e15, Hs15⟩, Hs16, Hs17, Hs18, Hs19⟩
  isplitl [Hs11 Hs12 Hs13 Hs14 Hs15 Hs16 Hs17 Hs18 Hs19 Hg]
  · isplitr [Hg]; swap; · iexact Hg
    iexists _; iexists _; iexists _; iexists _; iexists _; iexists _; iexists _; iexists _; iexists _
    isplitr; swap
    · isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      iexact Hs19
    ipureintro; exact fun _ _ => hscr'
  isplitl [Ho]; · iexact Ho
  isplitl [H0]
  · iexists _; isplitr; swap; · iapply (owns_of_pt (hs0 t₀)); iexact H0
    ipureintro; exact hg0
  isplitl [H1]
  · iexists _; isplitr; swap; · iapply (owns_of_pt (hs1 t₀)); iexact H1
    ipureintro; exact hg1
  isplitl [H2]
  · iexists _; isplitr; swap; · iapply (owns_of_pt (hs2 t₀)); iexact H2
    ipureintro; exact hg2
  isplitl [H3]
  · iexists _; isplitr; swap; · iapply (owns_of_pt (hs3 t₀)); iexact H3
    ipureintro; exact hg3
  isplitl [H4]
  · iexists _; isplitr; swap; · iapply (owns_of_pt (hs4 t₀)); iexact H4
    ipureintro; exact hg4
  isplitl [H5]
  · iexists _; isplitr; swap; · iapply (owns_of_pt (hs5 t₀)); iexact H5
    ipureintro; exact hout
  isplitl [H6]
  · iexists _; isplitr; swap; · iapply (owns_of_pt (hs6 t₀)); iexact H6
    ipureintro; intro h; exact absurd h (by decide)
  isplitl [H7]
  · iexists _; isplitr; swap; · iapply (owns_of_pt (hs7 t₀)); iexact H7
    ipureintro; intro h; exact absurd h (by decide)
  isplitl [H8]
  · iexists _; isplitr; swap; · iapply (owns_of_pt (hs8 t₀)); iexact H8
    ipureintro; exact hcodes
  iexists _; isplitr; swap; · iapply (owns_of_pt (hs9 t₀)); iexact H9
  ipureintro; exact hxs

set_option maxHeartbeats 4000000 in
theorem body_mid (hI : I.Steps m) (c : Dev nD) (t : Fin cfg0.N) (h0 : t.val ≠ 0) (h45 : t.val ≠ 45) (Y : (w : Fin cfg0.W) → (cfg0.win w).block.Idx → Elt F (cfg0.win w).elt) (hY : ∀ w, (rdat m I c).Finds w t (Y w)) :
    bodyPre m I c t Y ⊢ wp frame (wpE (defs₀ (F := F)) Variants.none c none) Set.univ (bodyAt0 t) (fun _ => bodyPost m I c t Y) := by

  unfold bodyPre bodyPost scratch
  rw [owns_eq_pt c (st0_0 t) (hs0 t), owns_eq_pt c (st0_1 t) (hs1 t), owns_eq_pt c (st0_2 t) (hs2 t), owns_eq_pt c (st0_3 t) (hs3 t), owns_eq_pt c (st0_4 t) (hs4 t), owns_eq_pt c (st0_5 t) (hs5 t), owns_eq_pt c (st0_6 t) (hs6 t), owns_eq_pt c (st0_7 t) (hs7 t), owns_eq_pt c (st0_8 t) (hs8 t), owns_eq_pt c (st0_9 t) (hs9 t)]
  iintro ⟨⟨⟨%f11, %f12, %f13, %f14, %f15, %f16, %f17, %f18, %f19, %hscr, Hs11, Hs12, Hs13, Hs14, Hs15, Hs16, Hs17, Hs18, Hs19⟩, Hg⟩, Ho,
    ⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩⟩
  have h46 : t.val ≠ 46 := fun h => absurd t.isLt (by rw [h, show cfg0.N = 46 from N_0]; decide)
  obtain ⟨hscr', hout⟩ := hI.mid c t h0 h45 g1 f11 f12 f13 f14 f16 f17 f18 f19 (hg1 ▸ finds_fetched m I c 1 t (fetch0_1 t) (hY 1)) (hscr h0 h46) _ rfl
  iapply ((midAt c t h0 h45 g1 f11 f12 f13 f14 f16 f17 f18 f19).2 g5 f15 Set.univ _)
  isplitl [H1]; · iexact H1
  isplitl [H5]; · iexact H5
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  iintro ⟨H1, H5, Hs11, Hs12, Hs13, Hs14, ⟨%e15, Hs15⟩, Hs16, Hs17, Hs18, Hs19⟩
  isplitl [Hs11 Hs12 Hs13 Hs14 Hs15 Hs16 Hs17 Hs18 Hs19 Hg]
  · isplitr [Hg]; swap; · iexact Hg
    iexists _; iexists _; iexists _; iexists _; iexists _; iexists _; iexists _; iexists _; iexists _
    isplitr; swap
    · isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      iexact Hs19
    ipureintro; exact fun _ _ => hscr'
  isplitl [Ho]; · iexact Ho
  isplitl [H0]
  · iexists _; isplitr; swap; · iapply (owns_of_pt (hs0 t)); iexact H0
    ipureintro; exact hg0
  isplitl [H1]
  · iexists _; isplitr; swap; · iapply (owns_of_pt (hs1 t)); iexact H1
    ipureintro; exact hg1
  isplitl [H2]
  · iexists _; isplitr; swap; · iapply (owns_of_pt (hs2 t)); iexact H2
    ipureintro; exact hg2
  isplitl [H3]
  · iexists _; isplitr; swap; · iapply (owns_of_pt (hs3 t)); iexact H3
    ipureintro; exact hg3
  isplitl [H4]
  · iexists _; isplitr; swap; · iapply (owns_of_pt (hs4 t)); iexact H4
    ipureintro; exact hg4
  isplitl [H5]
  · iexists _; isplitr; swap; · iapply (owns_of_pt (hs5 t)); iexact H5
    ipureintro; exact hout
  isplitl [H6]
  · iexists _; isplitr; swap; · iapply (owns_of_pt (hs6 t)); iexact H6
    ipureintro; intro h; exact absurd h h45
  isplitl [H7]
  · iexists _; isplitr; swap; · iapply (owns_of_pt (hs7 t)); iexact H7
    ipureintro; intro h; exact absurd h h45
  isplitl [H8]
  · iexists _; isplitr; swap; · iapply (owns_of_pt (hs8 t)); iexact H8
    ipureintro; show I.codes c _; rw [hg8]; exact finds_codes m I c t h0 (hY 8)
  iexists _; isplitr; swap; · iapply (owns_of_pt (hs9 t)); iexact H9
  ipureintro; show I.xs c _; rw [hg9]; exact finds_xs m I c t h0 (hY 9)

set_option maxHeartbeats 4000000 in
theorem body_last (hI : I.Steps m) (c : Dev nD) (t : Fin cfg0.N) (h45 : t.val = 45) (Y : (w : Fin cfg0.W) → (cfg0.win w).block.Idx → Elt F (cfg0.win w).elt) (hY : ∀ w, (rdat m I c).Finds w t (Y w)) :
    bodyPre m I c t Y ⊢ wp frame (wpE (defs₀ (F := F)) Variants.none c none) Set.univ (bodyAt0 t) (fun _ => bodyPost m I c t Y) := by

  unfold bodyPre bodyPost scratch
  rw [owns_eq_pt c (st0_0 t) (hs0 t), owns_eq_pt c (st0_1 t) (hs1 t), owns_eq_pt c (st0_2 t) (hs2 t), owns_eq_pt c (st0_3 t) (hs3 t), owns_eq_pt c (st0_4 t) (hs4 t), owns_eq_pt c (st0_5 t) (hs5 t), owns_eq_pt c (st0_6 t) (hs6 t), owns_eq_pt c (st0_7 t) (hs7 t), owns_eq_pt c (st0_8 t) (hs8 t), owns_eq_pt c (st0_9 t) (hs9 t)]
  iintro ⟨⟨⟨%f11, %f12, %f13, %f14, %f15, %f16, %f17, %f18, %f19, %hscr, Hs11, Hs12, Hs13, Hs14, Hs15, Hs16, Hs17, Hs18, Hs19⟩, Hg⟩, Ho,
    ⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩⟩
  have h0 : t.val ≠ 0 := by omega
  obtain ⟨hout, hlse, hlp⟩ := hI.last c t h45 g1 f11 f12 f13 f14 f16 f17 f18 f19 (hg1 ▸ finds_fetched m I c 1 t (fetch0_1 t) (hY 1)) (hscr h0 (by omega)) _ rfl
  iapply ((lastAt c t h45 g1 f11 f12 f13 f14 f16 f17 f18 f19).2 g5 g6 g7 f15 Set.univ _)
  isplitl [H1]; · iexact H1
  isplitl [H5]; · iexact H5
  isplitl [H6]; · iexact H6
  isplitl [H7]; · iexact H7
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  iintro ⟨H1, H5, H6, H7, Hs11, Hs12, Hs13, Hs14, ⟨%e15, Hs15⟩, ⟨%e16, Hs16⟩, ⟨%e17, Hs17⟩, Hs18, ⟨%e19, Hs19⟩⟩
  isplitl [Hs11 Hs12 Hs13 Hs14 Hs15 Hs16 Hs17 Hs18 Hs19 Hg]
  · isplitr [Hg]; swap; · iexact Hg
    iexists _; iexists _; iexists _; iexists _; iexists _; iexists _; iexists _; iexists _; iexists _
    isplitr; swap
    · isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      iexact Hs19
    ipureintro; exact fun _ h => absurd (by omega) h
  isplitl [Ho]; · iexact Ho
  isplitl [H0]
  · iexists _; isplitr; swap; · iapply (owns_of_pt (hs0 t)); iexact H0
    ipureintro; exact hg0
  isplitl [H1]
  · iexists _; isplitr; swap; · iapply (owns_of_pt (hs1 t)); iexact H1
    ipureintro; exact hg1
  isplitl [H2]
  · iexists _; isplitr; swap; · iapply (owns_of_pt (hs2 t)); iexact H2
    ipureintro; exact hg2
  isplitl [H3]
  · iexists _; isplitr; swap; · iapply (owns_of_pt (hs3 t)); iexact H3
    ipureintro; exact hg3
  isplitl [H4]
  · iexists _; isplitr; swap; · iapply (owns_of_pt (hs4 t)); iexact H4
    ipureintro; exact hg4
  isplitl [H5]
  · iexists _; isplitr; swap; · iapply (owns_of_pt (hs5 t)); iexact H5
    ipureintro; exact hout
  isplitl [H6]
  · iexists _; isplitr; swap; · iapply (owns_of_pt (hs6 t)); iexact H6
    ipureintro; exact fun _ => hlse
  isplitl [H7]
  · iexists _; isplitr; swap; · iapply (owns_of_pt (hs7 t)); iexact H7
    ipureintro; exact fun _ => hlp
  isplitl [H8]
  · iexists _; isplitr; swap; · iapply (owns_of_pt (hs8 t)); iexact H8
    ipureintro; show I.codes c _; rw [hg8]; exact finds_codes m I c t h0 (hY 8)
  iexists _; isplitr; swap; · iapply (owns_of_pt (hs9 t)); iexact H9
  ipureintro; show I.xs c _; rw [hg9]; exact finds_xs m I c t h0 (hY 9)

/-- The body table's row at the point is the body on the point's buffers. -/
theorem defs₀_row (t : Fin cfg0.N) : defs₀ (F := F) .tc cfg0.body (cfg0.bodyArgs t (cfg0.slots t)) = bodyAt0 t := by
  unfold defs₀; rw [Defs.onTc_tc]

theorem body_obligation (hI : I.Steps m) (c : Dev nD) : (rdat m I c).BodyObligation (defs₀ (F := F)) Variants.none () Set.univ := fun t Y hY => by
  have h : bodyPre m I c t Y ⊢ wp frame (wpE (defs₀ (F := F)) Variants.none c none) Set.univ (bodyAt0 t) (fun _ => bodyPost m I c t Y) := by
    by_cases h0 : t.val = 0
    · obtain rfl : t = t₀ := Fin.ext h0
      exact body_first m I hI c Y hY
    by_cases h45 : t.val = 45
    · exact body_last m I hI c t h45 Y hY
    · exact body_mid m I hI c t h0 h45 Y hY
  rw [bigSep_W0, bigSep_W0, defs₀_row]
  exact triple_restated h rfl .rfl fun _ => .rfl

/-! ## The launch -/

theorem share_eq (c : Dev nD) (w : Fin cfg0.W) : (rdat m I c).share w = fullShare := by
  unfold RDat.share; split <;> rfl

-- the launch theorem's implicit arguments are found by unifying its conclusion with this statement
set_option backward.isDefEq.respectTransparency.types false in
/-- From any memory with zero counters every weakly fair execution of @main ends; the arrays then hold what the invariant allows, and
    every semaphore counter is at zero. -/
theorem run_main (hI : I.Steps m) :
    θ_run defs (onTc (τ := τ) (main (F := F))) (s₀ m ρ)
      (fun r => Pipeline.RDat.FramePost (cfgs 0) (rdat m I) (V m) r ∧ r.2.sem = fun _ => 0) :=
  Pipeline.RDat.θ_run_frame_track (Q' := _) cfgs (0 : Fin 1) launch0 defs₀ Variants.none (rdat m I) m ρ main
    (hbody := body_obligation m I hI) (hshare := share_eq m I) (howed := fun _ _ => rfl) (V := V m) (hmain := hmain m Variants.none)
    (hA := fun _ _ => rfl) (hin := scratch_of_rest m I) (hout := rest_of_scratch m I)

variable {m ρ I}

/-- An input's array ends as the region found it. -/
theorem final_in {r : PUnit × MemSt nD τ sig (Elt F)} (h : Pipeline.RDat.FramePost (cfgs 0) (rdat m I) (V m) r) (c : Dev nD)
    (w : Fin cfg0.W) (hw : (cfg0.win w).isOut = false) :
    r.2.mem ((cfg0.spec w).arr.view.loc (c.tc : Thread nD τ)) = V m c (Pipeline.arrRef spec0 w) := by
  have e := (h c).1 w
  rw [(rdat m I c).ArrAt_in w hw] at e
  exact e

/-- The arguments end as launched. -/
theorem final_args {r : PUnit × MemSt nD τ sig (Elt F)} (h : Pipeline.RDat.FramePost (cfgs 0) (rdat m I) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    (final_in h c 1 rfl).trans (V_main_arg1 m c), (final_in h c 2 rfl).trans (V_main_arg2 m c),
    (final_in h c 3 rfl).trans (V_main_arg3 m c),
    ((h c).2 main_arg4 (Pipeline.mem_restRefs_of main_arg4 (by decide) (by decide))).trans (V_main_arg4 m c)⟩

/-- The invariant that allows everything. -/
def Inv.any : Inv F where
  scr _ _ _ _ _ _ _ _ _ _ := True
  out _ _ _ := True
  lse _ _ := True
  lp _ _ := True
  codes _ _ := True
  xs _ _ := True

theorem Inv.any_steps : (Inv.any (F := F)).Steps m where
  first := by intros; exact ⟨trivial, trivial, trivial, trivial⟩
  mid := by intros; exact ⟨trivial, trivial⟩
  last := by intros; exact ⟨trivial, trivial, trivial⟩

variable (m ρ)

/-- Every execution of @main ends, the arguments unchanged and every semaphore counter at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => final_args h.1 c, h.2⟩) (run_main m ρ Inv.any Inv.any_steps)

end Cert.KernelIdeal.Body

end
-- ==== Proof.KernelIdealBody.Running.lean ====
/-
  The running maximum and the running sum of exponentials, lane by lane, in the kernel's own operations. A step takes them over its eight
  pairs of blocks in turn; the last step then takes the logarithm of the sum over the lanes.
-/
module

public import proofs.«01_k».proof.Proof.KernelIdealBody.Stores

@[expose] public section

noncomputable section

namespace Cert.KernelIdeal.Body

open Cert.KernelIdeal Cert.KernelIdeal.Gen

open Idealize.ShloMosaic
open Idealize.ShloMosaic.TcCoe

variable {F : FTy → Type} [FloatOps F]

/-! ## The recurrence -/

/-- The maximum after two more blocks. -/
def maxStep (M z0 z1 : FVec F S32x128 .f32) : FVec F S32x128 .f32 := maximumf M (maximumf z0 z1)

/-- The sum after two more blocks, at the new maximum. -/
def sumStep (M S z0 z1 : FVec F S32x128 .f32) : FVec F S32x128 .f32 :=
  addf (addf (mulf S (exp (subf M (maxStep M z0 z1)))) (exp (subf z0 (maxStep M z0 z1)))) (exp (subf z1 (maxStep M z0 z1)))

/-- The maximum after `p` pairs of blocks. -/
def maxAfter (M : FVec F S32x128 .f32) (z : Fin 16 → FVec F S32x128 .f32) : ℕ → FVec F S32x128 .f32
  | 0 => M
  | p + 1 => maxStep (maxAfter M z p) (z (Fin.ofNat 16 (2 * p))) (z (Fin.ofNat 16 (2 * p + 1)))

/-- The sum after `p` pairs of blocks. -/
def sumAfter (M S : FVec F S32x128 .f32) (z : Fin 16 → FVec F S32x128 .f32) : ℕ → FVec F S32x128 .f32
  | 0 => S
  | p + 1 => sumStep (maxAfter M z p) (sumAfter M S z p) (z (Fin.ofNat 16 (2 * p))) (z (Fin.ofNat 16 (2 * p + 1)))

/-- A row's maximum over the lanes. -/
def top (M : FVec F S32x128 .f32) : FVec F S32x1 .f32 :=
  shapeCast S32x1 (multiReduction .maximumf [1] S32 M 0xFF800000#32 reduces_S32x128_S32 (.inl rfl) rfl) shapeCasts_S32_S32x1

/-- A row's log-sum-exp, from the lanes' maxima and sums. -/
def lseOf (M S : FVec F S32x128 .f32) : FVec F S32x1 .f32 :=
  addf (top M) (log (shapeCast S32x1 (multiReduction .add [1] S32
    (mulf S (exp (subf M (broadcastTo S32x128 (top M) broadcasts_S32x1_S32x128)))) 0x00000000#32 reduces_S32x128_S32 (.inl rfl) rfl)
    shapeCasts_S32_S32x1))

/-! ## The stores -/

section Step

variable (c : Dev nD) (i : grid0.Coords)
    (M2 : Memref sig .tc .vmem S4096x2048 .fp8e4m3) (M11 : Memref sig .tc .vmem S32x4096 .bf16) (M12 : Memref sig .tc .vmem S32x128 .f32)
    (M13 : Memref sig .tc .vmem S32x2944 .i32) (M14 : Memref sig .tc .vmem S32x768 .f32) (M15 : Memref sig .tc .vmem S2x32x128 .f32)
    (M16 : Memref sig .tc .vmem S32x128 .f32) (M17 : Memref sig .tc .vmem S32x128 .f32)
    (f2 : Bf (F := F) c M2) (f11 : Bf (F := F) c M11) (f12 : Bf (F := F) c M12) (f13 : Bf (F := F) c M13) (f14 : Bf (F := F) c M14)
    (f16 : Bf (F := F) c M16) (f17 : Bf (F := F) c M17)

/-- One block of the logits, at minus infinity where the mask does not allow the column. -/
def maskedBlock (t : Fin 16) : FVec F S32x128 .f32 :=
  select (allowed c i M13 f13 t) (logitsBlock c i M2 M11 M12 M14 M15 f2 f11 f12 f14 (Fin.ofNat 8 (t.val / 2)) (Fin.ofNat 2 t.val))
    (broadcast S32x128 (Scalar.ofBits .f32 0xFF800000#32))

/-- A whole 32 by 128 buffer, as a step loads it. -/
def load128 (M : Memref sig .tc .vmem S32x128 .f32) (f : Bf (F := F) c M) : FVec F S32x128 .f32 :=
  M.view.readAt (Elt F) (Rect.unit (s := S32x128) ![0, 0] S32x128.size inb_S32x128_S32x128_0_0).toLoadRect f

def newMax : FVec F S32x128 .f32 := maxAfter (load128 c M16 f16) (maskedBlock c i M2 M11 M12 M13 M14 M15 f2 f11 f12 f13 f14) 8

def newSum : FVec F S32x128 .f32 :=
  sumAfter (load128 c M16 f16) (load128 c M17 f17) (maskedBlock c i M2 M11 M12 M13 M14 M15 f2 f11 f12 f13 f14) 8

/-- A store of a whole 32 by 128 buffer. -/
def store128 (z : FVec F S32x128 .f32) : View.Piece (Elt F) S32x128 .f32 :=
  ⟨Rect.unit (s := S32x128) ![0, 0] S32x128.size inb_S32x128_S32x128_0_0, shapeCast S32x128 z shapeCasts_S32x128_S32x128⟩

def lseWrites : List (View.Piece (Elt F) S32x1 .f32) :=
  [⟨Rect.unit (s := S32x1) ![0, 0] S32x1.size inb_S32x1_S32x1_0_0,
    lseOf (newMax c i M2 M11 M12 M13 M14 M15 M16 f2 f11 f12 f13 f14 f16) (newSum c i M2 M11 M12 M13 M14 M15 M16 M17 f2 f11 f12 f13 f14 f16 f17)⟩]

/-- What the first step starts the maximum and the sum from. -/
def maxInit : List (View.Piece (Elt F) S32x128 .f32) := [store128 (broadcast S32x128 (Scalar.ofBits .f32 0xFF61B1E6#32))]
def sumInit : List (View.Piece (Elt F) S32x128 .f32) := [store128 (broadcast S32x128 (Scalar.ofBits .f32 0x00000000#32))]

end Step

section Runs

variable (c : Dev nD) (i : grid0.Coords)
    (M1 : Memref sig .tc .vmem S32x4096 .bf16) (h1 : M1.IsWhole)
    (M2 : Memref sig .tc .vmem S4096x2048 .fp8e4m3) (h2 : M2.IsWhole)
    (M3 : Memref sig .tc .vmem S32x723 .f32) (h3 : M3.IsWhole)
    (M4 : Memref sig .tc .vmem S32x2892 .i32) (h4 : M4.IsWhole)
    (M5 : Memref sig .tc .vmem S32x60 .i32) (h5 : M5.IsWhole)
    (M6 : Memref sig .tc .vmem S32x2048 .f32) (h6 : M6.IsWhole)
    (M7 : Memref sig .tc .vmem S32x1 .f32) (h7 : M7.IsWhole)
    (M8 : Memref sig .tc .vmem S32x60 .f32) (h8 : M8.IsWhole)
    (M9 : Memref sig .tc .vmem S32x4096 .fp8e4m3) (h9 : M9.IsWhole)
    (M10 : Memref sig .tc .vmem S32x1 .f32) (h10 : M10.IsWhole)
    (M11 : Memref sig .tc .vmem S32x4096 .bf16) (h11 : M11.IsWhole)
    (M12 : Memref sig .tc .vmem S32x128 .f32) (h12 : M12.IsWhole)
    (M13 : Memref sig .tc .vmem S32x2944 .i32) (h13 : M13.IsWhole)
    (M14 : Memref sig .tc .vmem S32x768 .f32) (h14 : M14.IsWhole)
    (M15 : Memref sig .tc .vmem S2x32x128 .f32) (h15 : M15.IsWhole)
    (M16 : Memref sig .tc .vmem S32x128 .f32) (h16 : M16.IsWhole)
    (M17 : Memref sig .tc .vmem S32x128 .f32) (h17 : M17.IsWhole)
    (M18 : Memref sig .tc .vmem S32x128 .i32) (h18 : M18.IsWhole)
    (M19 : Memref sig .tc .vmem S32x128 .f32) (h19 : M19.IsWhole)

theorem mid_max (hc1 : ¬ k0_cond1 i = 1#1) (hc2 : ¬ k0_cond2 i = 1#1) (f2 : Bf (F := F) c M2) (f11 : Bf (F := F) c M11) (f12 : Bf (F := F) c M12) (f13 : Bf (F := F) c M13) (f14 : Bf (F := F) c M14) (f16 : Bf (F := F) c M16) (f17 : Bf (F := F) c M17) (f18 : Bf (F := F) c M18) (f19 : Bf (F := F) c M19) :
    (midRun c i hc1 hc2 M1 h1 M2 h2 M3 h3 M4 h4 M5 h5 M6 h6 M7 h7 M8 h8 M9 h9 M10 h10 M11 h11 M12 h12 M13 h13 M14 h14 M15 h15 M16 h16 M17 h17 M18 h18 M19 h19 f2 f11 f12 f13 f14 f16 f17 f18 f19).1.2.1
      = M16.view.writes (Elt F) M16.view.junk [store128 (newMax c i M2 M11 M12 M13 M14 M15 M16 f2 f11 f12 f13 f14 f16)] := rfl

theorem mid_sum (hc1 : ¬ k0_cond1 i = 1#1) (hc2 : ¬ k0_cond2 i = 1#1) (f2 : Bf (F := F) c M2) (f11 : Bf (F := F) c M11) (f12 : Bf (F := F) c M12) (f13 : Bf (F := F) c M13) (f14 : Bf (F := F) c M14) (f16 : Bf (F := F) c M16) (f17 : Bf (F := F) c M17) (f18 : Bf (F := F) c M18) (f19 : Bf (F := F) c M19) :
    (midRun c i hc1 hc2 M1 h1 M2 h2 M3 h3 M4 h4 M5 h5 M6 h6 M7 h7 M8 h8 M9 h9 M10 h10 M11 h11 M12 h12 M13 h13 M14 h14 M15 h15 M16 h16 M17 h17 M18 h18 M19 h19 f2 f11 f12 f13 f14 f16 f17 f18 f19).1.2.2.1
      = M17.view.writes (Elt F) M17.view.junk [store128 (newSum c i M2 M11 M12 M13 M14 M15 M16 M17 f2 f11 f12 f13 f14 f16 f17)] := rfl

theorem last_lse (hc1 : ¬ k0_cond1 i = 1#1) (hc2 : k0_cond2 i = 1#1) (f2 : Bf (F := F) c M2) (f11 : Bf (F := F) c M11) (f12 : Bf (F := F) c M12) (f13 : Bf (F := F) c M13) (f14 : Bf (F := F) c M14) (f16 : Bf (F := F) c M16) (f17 : Bf (F := F) c M17) (f18 : Bf (F := F) c M18) (f19 : Bf (F := F) c M19) :
    (lastRun c i hc1 hc2 M1 h1 M2 h2 M3 h3 M4 h4 M5 h5 M6 h6 M7 h7 M8 h8 M9 h9 M10 h10 M11 h11 M12 h12 M13 h13 M14 h14 M15 h15 M16 h16 M17 h17 M18 h18 M19 h19 f2 f11 f12 f13 f14 f16 f17 f18 f19).1.2.1
      = M7.view.writes (Elt F) M7.view.junk (lseWrites c i M2 M11 M12 M13 M14 M15 M16 M17 f2 f11 f12 f13 f14 f16 f17) := rfl

set_option maxHeartbeats 2000000 in
theorem first_max (hc1 : k0_cond1 i0 = 1#1) (hc2 : ¬ k0_cond2 i0 = 1#1) (f1 : Bf (F := F) c M1) (f2 : Bf (F := F) c M2) (f3 : Bf (F := F) c M3) (f4 : Bf (F := F) c M4) (f5 : Bf (F := F) c M5) :
    (firstRun c hc1 hc2 M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5).1.2.2.2.2.2.2.2.1
      = M16.view.writes (Elt F) M16.view.junk (store128 (newMax c i0 M2 M11 M12 M13 M14 M15 M16 f2
          (M11.view.writes (Elt F) M11.view.junk (wideCodesWrites c M1 f1)) (M12.view.writes (Elt F) M12.view.junk (laneScalesWrites c M1 f1))
          (M13.view.writes (Elt F) M13.view.junk (wordsWrites c M4 f4)) (M14.view.writes (Elt F) M14.view.junk (scalePairsWrites c M3 f3))
          (M16.view.writes (Elt F) M16.view.junk maxInit)) :: maxInit) := by
  delta firstRun
  dsimp only
  rfl

set_option maxHeartbeats 2000000 in
theorem first_sum (hc1 : k0_cond1 i0 = 1#1) (hc2 : ¬ k0_cond2 i0 = 1#1) (f1 : Bf (F := F) c M1) (f2 : Bf (F := F) c M2) (f3 : Bf (F := F) c M3) (f4 : Bf (F := F) c M4) (f5 : Bf (F := F) c M5) :
    (firstRun c hc1 hc2 M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5).1.2.2.2.2.2.2.2.2.1
      = M17.view.writes (Elt F) M17.view.junk (store128 (newSum c i0 M2 M11 M12 M13 M14 M15 M16 M17 f2
          (M11.view.writes (Elt F) M11.view.junk (wideCodesWrites c M1 f1)) (M12.view.writes (Elt F) M12.view.junk (laneScalesWrites c M1 f1))
          (M13.view.writes (Elt F) M13.view.junk (wordsWrites c M4 f4)) (M14.view.writes (Elt F) M14.view.junk (scalePairsWrites c M3 f3))
          (M16.view.writes (Elt F) M16.view.junk maxInit) (M17.view.writes (Elt F) M17.view.junk sumInit)) :: sumInit) := by
  delta firstRun
  dsimp only
  rfl

end Runs

end Cert.KernelIdeal.Body

end
-- ==== Proof.LogSumExp.lean ====
/-
  A sum of exponentials below a running maximum, over the extended reals, and the logarithm of the whole sum.
-/
module

public import Idealize.ShloMosaic.Lib.Pointwise

@[expose] public section

noncomputable section

namespace Cert.LogSumExp

open Idealize.ShloMosaic

theorem exp_nonneg (x : EReal) : 0 ≤ Ideal.exp x := by
  induction x with
  | bot => simp
  | top => simp
  | coe r => rw [Ideal.exp_coe]; exact_mod_cast (Real.exp_pos r).le

theorem exp_le_one {x : EReal} (h : x ≤ 0) : Ideal.exp x ≤ 1 := by
  induction x with
  | bot => simp
  | top => simp at h
  | coe r =>
    rw [Ideal.exp_coe]
    have hr : r ≤ 0 := by exact_mod_cast h
    exact_mod_cast Real.exp_le_one_iff.mpr hr

theorem sub_self_top (z : EReal) : z - ⊤ = ⊥ := by
  rw [sub_eq_add_neg, EReal.neg_top, EReal.add_bot]

/-- One term carried from a maximum to a later one. -/
theorem shift {z M M' : EReal} (hM : M ≠ ⊥) (hz : z ≤ M) (hle : M ≤ M') :
    Ideal.exp (z - M) * Ideal.exp (M - M') = Ideal.exp (z - M') := by
  induction M' with
  | bot => exact absurd (le_bot_iff.mp hle) hM
  | top => rw [sub_self_top, sub_self_top, Ideal.exp_bot, mul_zero]
  | coe b =>
    induction M with
    | bot => exact absurd rfl hM
    | top => exact absurd (top_le_iff.mp hle) (EReal.coe_ne_top b)
    | coe a =>
      induction z with
      | bot => rw [EReal.bot_sub, EReal.bot_sub, Ideal.exp_bot, zero_mul]
      | top => exact absurd (top_le_iff.mp hz) (EReal.coe_ne_top a)
      | coe r =>
        rw [← EReal.coe_sub, ← EReal.coe_sub, ← EReal.coe_sub, Ideal.exp_coe, Ideal.exp_coe, Ideal.exp_coe, ← EReal.coe_mul, ← Real.exp_add]
        congr 2; ring

theorem sum_nonneg {ι : Type} (s : Finset ι) (z : ι → EReal) : 0 ≤ ∑ j ∈ s, Ideal.exp (z j) :=
  Finset.sum_nonneg fun j _ => exp_nonneg (z j)

theorem sum_mul_nonneg {ι : Type} (s : Finset ι) (f : ι → EReal) (hf : ∀ j ∈ s, 0 ≤ f j) (b : EReal) :
    (∑ j ∈ s, f j) * b = ∑ j ∈ s, f j * b := by
  classical
  induction s using Finset.induction_on with
  | empty => simp
  | insert j s hj ih =>
    rw [Finset.sum_insert hj, Finset.sum_insert hj, EReal.right_distrib_of_nonneg (hf j (Finset.mem_insert_self _ _))
      (Finset.sum_nonneg fun i hi => hf i (Finset.mem_insert_of_mem hi)), ih fun i hi => hf i (Finset.mem_insert_of_mem hi)]

/-- A sum carried from a maximum to a later one. -/
theorem sum_shift {ι : Type} (s : Finset ι) (z : ι → EReal) {M M' : EReal} (hM : M ≠ ⊥) (hz : ∀ j ∈ s, z j ≤ M) (hle : M ≤ M') :
    (∑ j ∈ s, Ideal.exp (z j - M)) * Ideal.exp (M - M') = ∑ j ∈ s, Ideal.exp (z j - M') := by
  rw [sum_mul_nonneg _ _ fun j _ => exp_nonneg _]
  exact Finset.sum_congr rfl fun j hj => shift hM (hz j hj) hle

/-- A maximum taken from minus infinity. -/
theorem fold_max {ι : Type} (s : Finset ι) (f : ι → EReal) : Finset.fold max ⊥ f s = s.sup f := rfl

theorem neg_inf : Ideal.ofBits .f32 0xFF800000#32 = ⊥ := by simp [Ideal.ofBits, Ideal.ieee]

/-- The number the running maximum starts from is a real number. -/
theorem start_real : ∃ l : ℝ, Ideal.ofBits .f32 0xFF61B1E6#32 = (l : EReal) := by
  simp [Ideal.ofBits, Ideal.ieee]
  exact ⟨_, rfl⟩

/-! ## The running maximum and sum -/

/-- The maximum of the first `n` terms and of the start `L`. -/
def runMax (L : EReal) (z : ℕ → EReal) (n : ℕ) : EReal := L ⊔ (Finset.range n).sup z

/-- The sum of the first `n` exponentials below their maximum. -/
def runSum (L : EReal) (z : ℕ → EReal) (n : ℕ) : EReal := ∑ j ∈ Finset.range n, Ideal.exp (z j - runMax L z n)

theorem runMax_succ (L : EReal) (z : ℕ → EReal) (n : ℕ) : runMax L z (n + 1) = runMax L z n ⊔ z n := by
  unfold runMax
  rw [Finset.range_add_one, Finset.sup_insert, sup_comm (z n), sup_assoc]

theorem runMax_two (L : EReal) (z : ℕ → EReal) (n : ℕ) : runMax L z (n + 2) = runMax L z n ⊔ (z n ⊔ z (n + 1)) := by
  rw [runMax_succ, runMax_succ, sup_assoc]

theorem le_runMax (L : EReal) (z : ℕ → EReal) (n : ℕ) : ∀ j ∈ Finset.range n, z j ≤ runMax L z n := fun _ hj =>
  le_sup_of_le_right (Finset.le_sup hj)

theorem runSum_two {L : EReal} (hL : L ≠ ⊥) (z : ℕ → EReal) (n : ℕ) :
    runSum L z n * Ideal.exp (runMax L z n - runMax L z (n + 2)) + Ideal.exp (z n - runMax L z (n + 2)) + Ideal.exp (z (n + 1) - runMax L z (n + 2))
      = runSum L z (n + 2) := by
  unfold runSum
  rw [sum_shift _ _ (fun h => hL (by unfold runMax at h; exact (sup_eq_bot_iff.mp h).1)) (le_runMax L z n)
    (by rw [runMax_two]; exact le_sup_left), Finset.sum_range_succ, Finset.sum_range_succ]

/-! ## The logarithm of the sum -/

/-- The log-sum-exp below a starting maximum `l` is that below the maximum alone, or below 0 when there is no term. -/
theorem logSumExp {ι : Type} (s : Finset ι) (z : ι → EReal) (l : ℝ) :
    ((l : EReal) ⊔ s.sup z) + Ideal.log (∑ j ∈ s, Ideal.exp (z j - ((l : EReal) ⊔ s.sup z)))
      = Ideal.log (∑ j ∈ s, Ideal.exp (z j - (if s.sup z = ⊥ then 0 else s.sup z))) + (if s.sup z = ⊥ then 0 else s.sup z) := by
  have hzero : ∀ T : EReal, (∀ j ∈ s, z j - T = ⊥) → Ideal.log (∑ j ∈ s, Ideal.exp (z j - T)) = ⊥ := fun T h => by
    rw [Finset.sum_eq_zero fun j hj => by rw [h j hj, Ideal.exp_bot], ← EReal.coe_zero, Ideal.log_coe, if_pos le_rfl]
  generalize ht : s.sup z = t
  have hle : ∀ j ∈ s, z j ≤ t := fun j hj => ht ▸ Finset.le_sup hj
  induction t with
  | bot =>
    have hb : ∀ T : EReal, ∀ j ∈ s, z j - T = ⊥ := fun T j hj => by rw [le_bot_iff.mp (hle j hj), EReal.bot_sub]
    rw [hzero _ (hb _), hzero _ (hb _), EReal.add_bot, EReal.bot_add]
  | top =>
    rw [if_neg (by simp), sup_top_eq, add_comm]
  | coe t =>
    rw [if_neg (EReal.coe_ne_bot t), ← EReal.coe_strictMono.monotone.map_sup l t, ← sum_shift s z (EReal.coe_ne_bot t) hle (M' := ((l ⊔ t : ℝ) : EReal)) (by exact_mod_cast le_sup_right)]
    have hs : s.Nonempty := Finset.nonempty_iff_ne_empty.mpr fun h => by rw [h, Finset.sup_empty] at ht; exact absurd ht.symm (EReal.coe_ne_bot t)
    obtain ⟨j, hj, hzj⟩ := Finset.exists_mem_eq_sup s hs z
    have hzj' : z j = t := hzj.symm.trans ht
    have h1 : 1 ≤ ∑ j ∈ s, Ideal.exp (z j - t) := by
      refine le_trans ?_ (Finset.single_le_sum (f := fun j => Ideal.exp (z j - t)) (fun i _ => exp_nonneg _) hj)
      show 1 ≤ Ideal.exp (z j - t)
      rw [hzj', ← EReal.coe_sub, sub_self, Ideal.exp_coe, Real.exp_zero]
      exact le_rfl
    have h2 : ∑ j ∈ s, Ideal.exp (z j - t) ≤ (s.card : ℝ) := by
      refine (Finset.sum_le_sum (g := fun _ => (1 : EReal)) fun i hi => exp_le_one ?_).trans ?_
      · exact (EReal.sub_nonpos.mpr (hle i hi))
      · rw [Finset.sum_const, nsmul_one]; exact_mod_cast le_rfl
    generalize ∑ j ∈ s, Ideal.exp (z j - t) = A at h1 h2
    induction A with
    | bot => exact absurd (le_bot_iff.mp h1) (EReal.coe_ne_bot 1)
    | top => exact absurd (top_le_iff.mp h2) (EReal.coe_ne_top _)
    | coe a =>
      have ha : 1 ≤ a := by exact_mod_cast h1
      rw [← EReal.coe_sub, Ideal.exp_coe, ← EReal.coe_mul, Ideal.log_coe, Ideal.log_coe, if_neg (not_le.mpr (by positivity)), if_neg (not_le.mpr (by linarith)),
        Real.log_mul (by positivity) (Real.exp_pos _).ne', Real.log_exp, ← EReal.coe_add, ← EReal.coe_add]
      congr 1; ring

end Cert.LogSumExp

end
-- ==== Proof.Lanes.lean ====
/-
  92544 columns dealt out over 128 lanes and 736 blocks: the maximum and the sum over all lanes and blocks are those over the columns.
-/
module

public import proofs.«01_k».proof.Proof.LogSumExp

@[expose] public section

noncomputable section

namespace Cert.LogSumExp

open Idealize.ShloMosaic

/-- The column of lane `l` in block `j`, minus infinity past the last column. -/
def spread (f : Fin 92544 → EReal) (l : Fin 128) (j : ℕ) : EReal := if h : 128 * j + l.val < 92544 then f ⟨128 * j + l.val, h⟩ else ⊥

theorem spread_own (f : Fin 92544 → EReal) (v : Fin 92544) : spread f ⟨v.val % 128, Nat.mod_lt _ (by norm_num)⟩ (v.val / 128) = f v := by
  have e : 128 * (v.val / 128) + v.val % 128 = v.val := Nat.div_add_mod _ _
  have h : 128 * (v.val / 128) + v.val % 128 < 92544 := lt_of_eq_of_lt e v.isLt
  unfold spread
  rw [dif_pos h]
  exact congrArg f (Fin.ext e)

theorem sup_lanes (L : EReal) (f : Fin 92544 → EReal) :
    (Finset.univ.sup fun l : Fin 128 => runMax L (spread f l) 736) = L ⊔ Finset.univ.sup f := by
  refine le_antisymm (Finset.sup_le fun l _ => sup_le_sup_left (Finset.sup_le fun j _ => ?_) L) (sup_le ?_ (Finset.sup_le fun v _ => ?_))
  · unfold spread
    split
    · exact Finset.le_sup (Finset.mem_univ _)
    · exact bot_le
  · exact le_trans le_sup_left (Finset.le_sup (f := fun l : Fin 128 => runMax L (spread f l) 736) (Finset.mem_univ 0))
  · refine le_trans ?_ (Finset.le_sup (f := fun l : Fin 128 => runMax L (spread f l) 736) (Finset.mem_univ ⟨v.val % 128, Nat.mod_lt _ (by norm_num)⟩))
    refine le_trans (le_of_eq (spread_own f v).symm) (le_runMax _ _ _ _ (Finset.mem_range.mpr ?_))
    have := v.isLt
    omega

theorem sum_lanes (f : Fin 92544 → EReal) (T : EReal) :
    (∑ l : Fin 128, ∑ j ∈ Finset.range 736, Ideal.exp (spread f l j - T)) = ∑ v : Fin 92544, Ideal.exp (f v - T) := by
  rw [← Finset.sum_product' (f := fun l j => Ideal.exp (spread f l j - T))]
  symm
  refine Finset.sum_of_injOn (fun v : Fin 92544 => ((⟨v.val % 128, Nat.mod_lt _ (by norm_num)⟩ : Fin 128), v.val / 128)) ?_ ?_ ?_ ?_
  · intro v _ w _ h
    have h1 : v.val % 128 = w.val % 128 := congrArg (fun p : Fin 128 × ℕ => p.1.val) h
    have h2 : v.val / 128 = w.val / 128 := congrArg (fun p : Fin 128 × ℕ => p.2) h
    exact Fin.ext (by omega)
  · intro v _
    have := v.isLt
    simp only [Finset.coe_product, Set.mem_prod, Finset.coe_univ, Set.mem_univ, Finset.coe_range, Set.mem_Iio, true_and]
    omega
  · rintro ⟨l, j⟩ _ hn
    have hl := l.isLt
    have hj : ¬ 128 * j + l.val < 92544 := fun h => hn ⟨⟨128 * j + l.val, h⟩, by simp, Prod.ext (Fin.ext (by
      show (128 * j + l.val) % 128 = l.val; omega)) (by show (128 * j + l.val) / 128 = j; omega)⟩
    show Ideal.exp (spread f l j - T) = 0
    unfold spread
    rw [dif_neg hj, EReal.bot_sub, Ideal.exp_bot]
  · intro v _
    show _ = Ideal.exp (spread f _ _ - T)
    rw [spread_own]

/-- The lanes' maxima and sums put together are the log-sum-exp of all columns. -/
theorem merge (f : Fin 92544 → EReal) (l : ℝ) (M S : Fin 128 → EReal) (hM : ∀ i, M i = runMax l (spread f i) 736)
    (hS : ∀ i, S i = runSum l (spread f i) 736) :
    (Finset.univ.sup M) + Ideal.log (∑ i : Fin 128, S i * Ideal.exp (M i - Finset.univ.sup M))
      = Ideal.log (∑ v, Ideal.exp (f v - (if Finset.univ.sup f = ⊥ then 0 else Finset.univ.sup f)))
        + (if Finset.univ.sup f = ⊥ then 0 else Finset.univ.sup f) := by
  have hT : Finset.univ.sup M = (l : EReal) ⊔ Finset.univ.sup f := by
    rw [← sup_lanes]; exact congrArg _ (funext hM)
  have hs : ∀ i : Fin 128, S i * Ideal.exp (M i - Finset.univ.sup M) = ∑ j ∈ Finset.range 736, Ideal.exp (spread f i j - Finset.univ.sup M) := fun i => by
    have hb : runMax (l : EReal) (spread f i) 736 ≠ ⊥ := fun h => EReal.coe_ne_bot l (sup_eq_bot_iff.mp h).1
    have hle : runMax (l : EReal) (spread f i) 736 ≤ Finset.univ.sup M := by rw [← hM]; exact Finset.le_sup (Finset.mem_univ i)
    rw [hS, hM i]
    exact sum_shift _ _ hb (le_runMax _ _ _) hle
  rw [Finset.sum_congr rfl fun i _ => hs i, sum_lanes, hT]
  exact logSumExp Finset.univ f l

end Cert.LogSumExp

end
-- ==== Proof.KernelIdealBody.RunningValue.lean ====
/-
  The running maximum and sum, and the log-sum-exp out of them, read at an index over the extended reals.
-/
module

public import proofs.«01_k».proof.Proof.KernelIdealBody.Running
public import proofs.«01_k».proof.Proof.Lanes

@[expose] public section

noncomputable section

namespace Cert.KernelIdeal.Body

open Cert.KernelIdeal Cert.KernelIdeal.Gen

open Idealize.ShloMosaic
open Idealize.ShloMosaic.TcCoe
open Cert.LogSumExp

section Lane

variable (M S : FVec Ideal S32x128 .f32) (z : Fin 16 → FVec Ideal S32x128 .f32) (r : Fin 32) (l : Fin 128) (L : EReal) (zz : ℕ → EReal) (J : ℕ)

theorem maxStep_apply (z0 z1 : FVec Ideal S32x128 .f32) : maxStep M z0 z1 (ix2 r l) = M (ix2 r l) ⊔ (z0 (ix2 r l) ⊔ z1 (ix2 r l)) := by
  pointwise [maxStep]

theorem sumStep_apply (z0 z1 : FVec Ideal S32x128 .f32) :
    sumStep M S z0 z1 (ix2 r l) = S (ix2 r l) * Ideal.exp (M (ix2 r l) - maxStep M z0 z1 (ix2 r l))
      + Ideal.exp (z0 (ix2 r l) - maxStep M z0 z1 (ix2 r l)) + Ideal.exp (z1 (ix2 r l) - maxStep M z0 z1 (ix2 r l)) := by
  pointwise [sumStep]

/-- The maximum after `p` pairs of blocks, the first of them block `J`. -/
theorem maxAfter_apply (hM : M (ix2 r l) = runMax L zz J) (hz : ∀ t : Fin 16, z t (ix2 r l) = zz (J + t.val)) :
    ∀ p, p ≤ 8 → maxAfter M z p (ix2 r l) = runMax L zz (J + 2 * p) := by
  intro p
  induction p with
  | zero => exact fun _ => hM
  | succ p ih =>
    intro hp
    have e0 : (Fin.ofNat 16 (2 * p)).val = 2 * p := Nat.mod_eq_of_lt (by omega)
    have e1 : (Fin.ofNat 16 (2 * p + 1)).val = 2 * p + 1 := Nat.mod_eq_of_lt (by omega)
    show maxStep _ _ _ (ix2 r l) = _
    rw [maxStep_apply, ih (by omega), hz, hz, e0, e1]
    exact (runMax_two L zz (J + 2 * p)).symm

/-- The sum after `p` pairs of blocks. -/
theorem sumAfter_apply (hL : L ≠ ⊥) (hM : M (ix2 r l) = runMax L zz J) (hS : S (ix2 r l) = runSum L zz J)
    (hz : ∀ t : Fin 16, z t (ix2 r l) = zz (J + t.val)) :
    ∀ p, p ≤ 8 → sumAfter M S z p (ix2 r l) = runSum L zz (J + 2 * p) := by
  intro p
  induction p with
  | zero => exact fun _ => hS
  | succ p ih =>
    intro hp
    have e0 : (Fin.ofNat 16 (2 * p)).val = 2 * p := Nat.mod_eq_of_lt (by omega)
    have e1 : (Fin.ofNat 16 (2 * p + 1)).val = 2 * p + 1 := Nat.mod_eq_of_lt (by omega)
    have em : maxStep (maxAfter M z p) (z (Fin.ofNat 16 (2 * p))) (z (Fin.ofNat 16 (2 * p + 1))) (ix2 r l) = runMax L zz (J + 2 * p + 2) :=
      maxAfter_apply M z r l L zz J hM hz (p + 1) hp
    show sumStep _ _ _ _ (ix2 r l) = _
    rw [sumStep_apply, em, ih (by omega), maxAfter_apply M z r l L zz J hM hz p (by omega), hz, hz, e0, e1]
    exact runSum_two hL zz (J + 2 * p)

end Lane

theorem top_apply (M : FVec Ideal S32x128 .f32) (r : Fin 32) : top M (ix2 r (0 : Fin 1)) = Finset.univ.sup fun l : Fin 128 => M (ix2 r l) := by
  pointwise [top]
  rw [neg_inf, fold_max]

theorem lseOf_apply (M S : FVec Ideal S32x128 .f32) (r : Fin 32) :
    lseOf M S (ix2 r (0 : Fin 1)) = (Finset.univ.sup fun l : Fin 128 => M (ix2 r l))
      + Ideal.log (∑ l : Fin 128, S (ix2 r l) * Ideal.exp (M (ix2 r l) - Finset.univ.sup fun l : Fin 128 => M (ix2 r l))) := by
  rw [← top_apply]
  pointwise [lseOf]

end Cert.KernelIdeal.Body

end
-- ==== Proof.KernelIdealBody.Candidates.lean ====
/-
  The candidates' logits and log-probabilities, in the kernel's own operations. A step picks a candidate's logit out of its blocks when the
  candidate's column lies in one of them; the last step looks up the candidate's mask word among 23 groups of 128 words.
-/
module

public import proofs.«01_k».proof.Proof.KernelIdealBody.Running

@[expose] public section

noncomputable section

namespace Cert.KernelIdeal.Body

open Cert.KernelIdeal Cert.KernelIdeal.Gen

open Idealize.ShloMosaic
open Idealize.ShloMosaic.TcCoe

variable {F : FTy → Type} [FloatOps F]

/-! ## The recurrence -/

/-- The number of block `t` of a step, over all steps. -/
def blockNo (i : grid0.Coords) (t : Fin 16) : BitVec 32 :=
  Scalar.addi (Scalar.muli (BitVec.ofNat 32 (i 0).val) 16#32) (BitVec.ofNat 32 t.val)

/-- The candidates' logits after `n` blocks. -/
def gotAfter (i : grid0.Coords) (ids : IVec S32x128 32) (G : FVec F S32x128 .f32) (z : Fin 16 → FVec F S32x128 .f32) : ℕ → FVec F S32x128 .f32
  | 0 => G
  | n + 1 => select (cmpi .eq (shrsi ids (broadcast S32x128 7#32)) (broadcast S32x128 (blockNo i (Fin.ofNat 16 n))))
      (dynamicGather 1 (z (Fin.ofNat 16 n)) (laneNo (andi ids (broadcast S32x128 127#32)))) (gotAfter i ids G z n)

theorem inb_words (g : Fin 23) : ∀ a, (![0, 128 * g.val] : Fin 2 → ℕ) a + S32x128.size a ≤ S32x2944.size a := by
  revert g; decide

section Step

variable (c : Dev nD) (i : grid0.Coords)
    (M2 : Memref sig .tc .vmem S4096x2048 .fp8e4m3) (M5 : Memref sig .tc .vmem S32x60 .i32) (M11 : Memref sig .tc .vmem S32x4096 .bf16) (M12 : Memref sig .tc .vmem S32x128 .f32)
    (M13 : Memref sig .tc .vmem S32x2944 .i32) (M14 : Memref sig .tc .vmem S32x768 .f32) (M15 : Memref sig .tc .vmem S2x32x128 .f32)
    (M16 : Memref sig .tc .vmem S32x128 .f32) (M17 : Memref sig .tc .vmem S32x128 .f32) (M18 : Memref sig .tc .vmem S32x128 .i32) (M19 : Memref sig .tc .vmem S32x128 .f32)
    (f2 : Bf (F := F) c M2) (f5 : Bf (F := F) c M5) (f11 : Bf (F := F) c M11) (f12 : Bf (F := F) c M12) (f13 : Bf (F := F) c M13) (f14 : Bf (F := F) c M14)
    (f16 : Bf (F := F) c M16) (f17 : Bf (F := F) c M17) (f18 : Bf (F := F) c M18) (f19 : Bf (F := F) c M19)

/-- The logits of block `t`. -/
def logitsAt (t : Fin 16) : FVec F S32x128 .f32 :=
  logitsBlock c i M2 M11 M12 M14 M15 f2 f11 f12 f14 (Fin.ofNat 8 (t.val / 2)) (Fin.ofNat 2 t.val)

/-- The candidates, as a step loads them. -/
def ids : IVec S32x128 32 :=
  M18.view.readAt (Elt F) (Rect.unit (s := S32x128) ![0, 0] S32x128.size inb_S32x128_S32x128_0_0).toLoadRect f18

def newGot : FVec F S32x128 .f32 :=
  gotAfter i (ids c M18 f18) (load128 c M19 f19) (logitsAt c i M2 M11 M12 M14 M15 f2 f11 f12 f14) 16

/-- The candidates' mask words after `n` groups of 128 words. -/
def wordAfter : ℕ → IVec S32x128 32
  | 0 => broadcast S32x128 0#32
  | n + 1 => select (cmpi .eq (shrsi (shrsi (ids c M18 f18) (broadcast S32x128 5#32)) (broadcast S32x128 7#32)) (broadcast S32x128 (BitVec.ofNat 32 (Fin.ofNat 23 n).val)))
      (dynamicGather 1 (M13.view.readAt (Elt F)
        (Rect.unit (s := S32x2944) ![0, 128 * (Fin.ofNat 23 n).val] S32x128.size (inb_words (Fin.ofNat 23 n))).toLoadRect f13)
        (laneNo (andi (shrsi (ids c M18 f18) (broadcast S32x128 5#32)) (broadcast S32x128 127#32)))) (wordAfter n)

/-- Which candidates the mask allows. -/
def candAllowed : IVec S32x128 1 :=
  cmpi .eq (andi (shrsi (wordAfter c M13 M18 f13 f18 23) (andi (ids c M18 f18) (broadcast S32x128 31#32))) (broadcast S32x128 1#32))
    (broadcast S32x128 1#32)

/-- The candidates' log-probabilities, out of their logits and the rows' log-sum-exps. -/
def lpOf (ok : IVec S32x128 1) (G : FVec F S32x128 .f32) (L : FVec F S32x1 .f32) : FVec F S32x60 .f32 :=
  extractStridedSlice S32x60 ![0, 0] (select ok (subf G (broadcastTo S32x128 L broadcasts_S32x1_S32x128))
    (broadcast S32x128 (Scalar.ofBits .f32 0x00000000#32))) slices_S32x128_o0_0_S32x60

def lpWrites : List (View.Piece (Elt F) S32x60 .f32) :=
  [⟨Rect.unit (s := S32x60) ![0, 0] S32x60.size inb_S32x60_S32x60_0_0,
    lpOf (candAllowed c M13 M18 f13 f18) (newGot c i M2 M11 M12 M14 M15 M18 M19 f2 f11 f12 f14 f18 f19)
      (lseOf (newMax c i M2 M11 M12 M13 M14 M15 M16 f2 f11 f12 f13 f14 f16) (newSum c i M2 M11 M12 M13 M14 M15 M16 M17 f2 f11 f12 f13 f14 f16 f17))⟩]

def candWrites : List (View.Piece (Elt F) S32x128 .i32) :=
  [⟨Rect.unit (s := S32x128) ![0, 0] S32x60.size inb_S32x128_S32x60_0_0,
    shapeCast S32x60 (shapeCast S32x60 (M5.view.readAt (Elt F) (Rect.unit (s := S32x60) ![0, 0] S32x60.size inb_S32x60_S32x60_0_0).toLoadRect f5)
      shapeCasts_S32x60_S32x60) shapeCasts_S32x60_S32x60⟩,
   ⟨Rect.unit (s := S32x128) ![0, 0] S32x128.size inb_S32x128_S32x128_0_0,
    shapeCast S32x128 (broadcast S32x128 0#32) shapeCasts_S32x128_S32x128⟩]

end Step

end Cert.KernelIdeal.Body

end
-- ==== Proof.KernelIdealBody.CandidateRuns.lean ====
/-
  What the first, a middle and the last step leave in the candidates' buffers.
-/
module

public import proofs.«01_k».proof.Proof.KernelIdealBody.Candidates

@[expose] public section

noncomputable section

namespace Cert.KernelIdeal.Body

open Cert.KernelIdeal Cert.KernelIdeal.Gen

open Idealize.ShloMosaic
open Idealize.ShloMosaic.TcCoe

variable {F : FTy → Type} [FloatOps F]

section Runs

variable (c : Dev nD) (i : grid0.Coords)
    (M1 : Memref sig .tc .vmem S32x4096 .bf16) (h1 : M1.IsWhole)
    (M2 : Memref sig .tc .vmem S4096x2048 .fp8e4m3) (h2 : M2.IsWhole)
    (M3 : Memref sig .tc .vmem S32x723 .f32) (h3 : M3.IsWhole)
    (M4 : Memref sig .tc .vmem S32x2892 .i32) (h4 : M4.IsWhole)
    (M5 : Memref sig .tc .vmem S32x60 .i32) (h5 : M5.IsWhole)
    (M6 : Memref sig .tc .vmem S32x2048 .f32) (h6 : M6.IsWhole)
    (M7 : Memref sig .tc .vmem S32x1 .f32) (h7 : M7.IsWhole)
    (M8 : Memref sig .tc .vmem S32x60 .f32) (h8 : M8.IsWhole)
    (M9 : Memref sig .tc .vmem S32x4096 .fp8e4m3) (h9 : M9.IsWhole)
    (M10 : Memref sig .tc .vmem S32x1 .f32) (h10 : M10.IsWhole)
    (M11 : Memref sig .tc .vmem S32x4096 .bf16) (h11 : M11.IsWhole)
    (M12 : Memref sig .tc .vmem S32x128 .f32) (h12 : M12.IsWhole)
    (M13 : Memref sig .tc .vmem S32x2944 .i32) (h13 : M13.IsWhole)
    (M14 : Memref sig .tc .vmem S32x768 .f32) (h14 : M14.IsWhole)
    (M15 : Memref sig .tc .vmem S2x32x128 .f32) (h15 : M15.IsWhole)
    (M16 : Memref sig .tc .vmem S32x128 .f32) (h16 : M16.IsWhole)
    (M17 : Memref sig .tc .vmem S32x128 .f32) (h17 : M17.IsWhole)
    (M18 : Memref sig .tc .vmem S32x128 .i32) (h18 : M18.IsWhole)
    (M19 : Memref sig .tc .vmem S32x128 .f32) (h19 : M19.IsWhole)

theorem mid_got (hc1 : ¬ k0_cond1 i = 1#1) (hc2 : ¬ k0_cond2 i = 1#1) (f2 : Bf (F := F) c M2) (f11 : Bf (F := F) c M11) (f12 : Bf (F := F) c M12) (f13 : Bf (F := F) c M13) (f14 : Bf (F := F) c M14) (f16 : Bf (F := F) c M16) (f17 : Bf (F := F) c M17) (f18 : Bf (F := F) c M18) (f19 : Bf (F := F) c M19) :
    (midRun c i hc1 hc2 M1 h1 M2 h2 M3 h3 M4 h4 M5 h5 M6 h6 M7 h7 M8 h8 M9 h9 M10 h10 M11 h11 M12 h12 M13 h13 M14 h14 M15 h15 M16 h16 M17 h17 M18 h18 M19 h19 f2 f11 f12 f13 f14 f16 f17 f18 f19).1.2.2.2
      = M19.view.writes (Elt F) M19.view.junk [store128 (newGot c i M2 M11 M12 M14 M15 M18 M19 f2 f11 f12 f14 f18 f19)] := rfl

theorem last_lp (hc1 : ¬ k0_cond1 i = 1#1) (hc2 : k0_cond2 i = 1#1) (f2 : Bf (F := F) c M2) (f11 : Bf (F := F) c M11) (f12 : Bf (F := F) c M12) (f13 : Bf (F := F) c M13) (f14 : Bf (F := F) c M14) (f16 : Bf (F := F) c M16) (f17 : Bf (F := F) c M17) (f18 : Bf (F := F) c M18) (f19 : Bf (F := F) c M19) :
    (lastRun c i hc1 hc2 M1 h1 M2 h2 M3 h3 M4 h4 M5 h5 M6 h6 M7 h7 M8 h8 M9 h9 M10 h10 M11 h11 M12 h12 M13 h13 M14 h14 M15 h15 M16 h16 M17 h17 M18 h18 M19 h19 f2 f11 f12 f13 f14 f16 f17 f18 f19).1.2.2
      = M8.view.writes (Elt F) M8.view.junk (lpWrites c i M2 M11 M12 M13 M14 M15 M16 M17 M18 M19 f2 f11 f12 f13 f14 f16 f17 f18 f19) := rfl

set_option maxHeartbeats 2000000 in
theorem first_cand (hc1 : k0_cond1 i0 = 1#1) (hc2 : ¬ k0_cond2 i0 = 1#1) (f1 : Bf (F := F) c M1) (f2 : Bf (F := F) c M2) (f3 : Bf (F := F) c M3) (f4 : Bf (F := F) c M4) (f5 : Bf (F := F) c M5) :
    (firstRun c hc1 hc2 M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5).1.2.2.2.2.2.2.2.2.2.1
      = M18.view.writes (Elt F) M18.view.junk (candWrites c M5 f5) := by
  delta firstRun
  dsimp only
  rfl

set_option maxHeartbeats 2000000 in
theorem first_got (hc1 : k0_cond1 i0 = 1#1) (hc2 : ¬ k0_cond2 i0 = 1#1) (f1 : Bf (F := F) c M1) (f2 : Bf (F := F) c M2) (f3 : Bf (F := F) c M3) (f4 : Bf (F := F) c M4) (f5 : Bf (F := F) c M5) :
    (firstRun c hc1 hc2 M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5).1.2.2.2.2.2.2.2.2.2.2
      = M19.view.writes (Elt F) M19.view.junk (store128 (newGot c i0 M2 M11 M12 M14 M15 M18 M19 f2
          (M11.view.writes (Elt F) M11.view.junk (wideCodesWrites c M1 f1)) (M12.view.writes (Elt F) M12.view.junk (laneScalesWrites c M1 f1))
          (M14.view.writes (Elt F) M14.view.junk (scalePairsWrites c M3 f3))
          (M18.view.writes (Elt F) M18.view.junk (candWrites c M5 f5)) (M19.view.writes (Elt F) M19.view.junk sumInit)) :: sumInit) := by
  delta firstRun
  dsimp only
  rfl

end Runs

end Cert.KernelIdeal.Body

end
-- ==== Proof.KernelIdealBody.CandidateValue.lean ====
/-
  The candidates' logits, mask words and log-probabilities, read at an index over the extended reals.
-/
module

public import proofs.«01_k».proof.Proof.KernelIdealBody.Candidates
public import proofs.«01_k».proof.Proof.KernelIdealBody.BlockValue

@[expose] public section

noncomputable section

namespace Cert.KernelIdeal.Body

open Cert.KernelIdeal Cert.KernelIdeal.Gen

open Idealize.ShloMosaic
open Idealize.ShloMosaic.TcCoe

/-! ## Words as numbers -/

theorem select_eq {α : Type} {x y : BitVec 32} (h : x = y) (a b : α) : Scalar.select (IntOp.cmpi .eq x y) a b = a := by
  subst h
  simp [Scalar.select, IntOp.cmpi]

theorem select_ne {α : Type} {x y : BitVec 32} (h : x ≠ y) (a b : α) : Scalar.select (IntOp.cmpi .eq x y) a b = b := by
  have e : (x == y) = false := by simpa using h
  simp [Scalar.select, IntOp.cmpi, e]

theorem shr_eq (u : ArithUnit) (x : BitVec 32) (k : ℕ) (hk : k < 32) : IntOp.shrsi u x (BitVec.ofNat 32 k) = x.sshiftRight k := by
  have e : (BitVec.ofNat 32 k).toNat = k := by rw [BitVec.toNat_ofNat]; omega
  unfold IntOp.shrsi
  rw [e, if_pos hk, BitVec.sshiftRight', e]

theorem shr_toNat {x : BitVec 32} (hx : x.toNat < 2147483648) (k : ℕ) : (x.sshiftRight k).toNat = x.toNat / 2 ^ k := by
  have hm : x.msb = false := BitVec.msb_eq_false_iff_two_mul_lt.mpr (by omega)
  rw [BitVec.sshiftRight_eq_of_msb_false hm, BitVec.toNat_ushiftRight, Nat.shiftRight_eq_div_pow]

theorem shr_large {x : BitVec 32} (hx : 2147483648 ≤ x.toNat) (k : ℕ) : 2147483648 ≤ (x.sshiftRight k).toNat := by
  have hm : x.msb = true := BitVec.msb_eq_true_iff_two_mul_ge.mpr (by omega)
  have h := BitVec.msb_eq_true_iff_two_mul_ge.mp ((BitVec.msb_sshiftRight (x := x) (n := k)).trans hm)
  omega

theorem low_toNat (x : BitVec 32) (k : ℕ) (hk : k < 32) : (IntOp.andi x (BitVec.ofNat 32 (2 ^ k - 1))).toNat = x.toNat % 2 ^ k := by
  have h1 : 2 ^ k - 1 < 2 ^ 32 := by
    have := Nat.pow_lt_pow_right (a := 2) (by norm_num) hk
    omega
  show (x &&& BitVec.ofNat 32 (2 ^ k - 1)).toNat = _
  rw [BitVec.toNat_and, BitVec.toNat_ofNat, Nat.mod_eq_of_lt h1, Nat.and_two_pow_sub_one_eq_mod]

theorem blockNo_toNat : ∀ (i : grid0.Coords) (t : Fin 16), (blockNo i t).toNat = 16 * (i 0).val + t.val := by decide +kernel

/-! ## The logits -/

/-- A candidate's logit once the block of its column has been passed. -/
theorem gotAfter_apply (i : grid0.Coords) (ids : IVec S32x128 32) (G : FVec Ideal S32x128 .f32) (z : Fin 16 → FVec Ideal S32x128 .f32)
    (r : Fin 32) (l : Fin 128) (y : EReal) (hid : (ids (ix2 r l)).toNat < 92544)
    (hG : (ids (ix2 r l)).toNat / 128 < 16 * (i 0).val → G (ix2 r l) = y)
    (hz : ∀ t : Fin 16, (ids (ix2 r l)).toNat / 128 = 16 * (i 0).val + t.val →
      z t (ix2 r (⟨(ids (ix2 r l)).toNat % 128, Nat.mod_lt _ (by norm_num)⟩ : Fin 128)) = y) :
    ∀ n, n ≤ 16 → (ids (ix2 r l)).toNat / 128 < 16 * (i 0).val + n → gotAfter i ids G z n (ix2 r l) = y := by
  intro n
  induction n with
  | zero => exact fun _ h => hG h
  | succ n ih =>
    intro hn h
    have en : (Fin.ofNat 16 n).val = n := Nat.mod_eq_of_lt (by omega)
    have eb : (IntOp.shrsi .vector (ids (ix2 r l)) 7#32).toNat = (ids (ix2 r l)).toNat / 128 := by
      rw [show (7#32 : BitVec 32) = BitVec.ofNat 32 7 from rfl, shr_eq _ _ 7 (by norm_num), shr_toNat (by omega)]
      norm_num
    show Scalar.select (IntOp.cmpi .eq (IntOp.shrsi .vector (ids (ix2 r l)) 7#32) (blockNo i (Fin.ofNat 16 n))) _ (gotAfter i ids G z n (ix2 r l)) = y
    by_cases e : (ids (ix2 r l)).toNat / 128 = 16 * (i 0).val + n
    · rw [select_eq (BitVec.eq_of_toNat_eq (by rw [eb, blockNo_toNat, en, e]))]
      have el : (IntOp.andi (ids (ix2 r l)) 127#32).toNat = (ids (ix2 r l)).toNat % 128 := low_toNat _ 7 (by norm_num)
      rw [gather_apply _ _ r l ((ids (ix2 r l)).toNat % 128) (Nat.mod_lt _ (by norm_num))
        (by rw [laneNo_apply]
            show (laneVal (IntOp.andi (ids (ix2 r l)) 127#32)).toNat = _
            rw [laneVal_toNat (by rw [el]; exact Nat.mod_lt _ (by norm_num)), el])]
      exact hz _ (by rw [en]; exact e)
    · rw [select_ne (fun h' => e (by rw [← eb, h', blockNo_toNat, en]))]
      exact ih (by omega) (by omega)

/-! ## The mask words -/

section Words

variable (c : Dev nD) (M13 : Memref sig .tc .vmem S32x2944 .i32) (M18 : Memref sig .tc .vmem S32x128 .i32)
    (f13 : Bf (F := Ideal) c M13) (f18 : Bf (F := Ideal) c M18)

/-- Word `k` of a row, 0 past the last word. -/
def wordIn (r : Fin 32) (k : ℕ) : BitVec 32 := if h : k < 2944 then M13.view.read (Elt Ideal) f13 (ix2 r (⟨k, h⟩ : Fin 2944)) else 0#32

theorem wordAfter_apply (r : Fin 32) (l : Fin 128) :
    ∀ n, n ≤ 23 → wordAfter c M13 M18 f13 f18 n (ix2 r l)
      = if (ids c M18 f18 (ix2 r l)).toNat / 4096 < n then wordIn c M13 f13 r ((ids c M18 f18 (ix2 r l)).toNat / 32) else 0#32 := by
  intro n
  induction n with
  | zero => intro _; rw [if_neg (Nat.not_lt_zero _)]; rfl
  | succ n ih =>
    intro hn
    have en : (Fin.ofNat 23 n).val = n := Nat.mod_eq_of_lt (by omega)
    generalize hx : ids c M18 f18 (ix2 r l) = x at ih
    have ew : IntOp.shrsi .vector x 5#32 = x.sshiftRight 5 := shr_eq _ _ 5 (by norm_num)
    have ec : IntOp.shrsi .vector (IntOp.shrsi .vector x 5#32) 7#32 = (x.sshiftRight 5).sshiftRight 7 := by
      rw [ew]; exact shr_eq _ _ 7 (by norm_num)
    have hk : (BitVec.ofNat 32 (Fin.ofNat 23 n).val).toNat = n := by rw [en, BitVec.toNat_ofNat]; omega
    have es : wordAfter c M13 M18 f13 f18 (n + 1) (ix2 r l)
        = Scalar.select (IntOp.cmpi .eq ((x.sshiftRight 5).sshiftRight 7) (BitVec.ofNat 32 (Fin.ofNat 23 n).val))
          (dynamicGather 1 (M13.view.readAt (Elt Ideal)
            (Rect.unit (s := S32x2944) ![0, 128 * (Fin.ofNat 23 n).val] S32x128.size (inb_words (Fin.ofNat 23 n))).toLoadRect f13)
            (laneNo (andi (shrsi (ids c M18 f18) (broadcast S32x128 5#32)) (broadcast S32x128 127#32))) (ix2 r l))
          (wordAfter c M13 M18 f13 f18 n (ix2 r l)) := by
      rw [← ec, ← hx]; rfl
    rw [es]
    by_cases e : x.toNat / 4096 = n
    · have hx31 : x.toNat < 2147483648 := by omega
      have h5 : (x.sshiftRight 5).toNat = x.toNat / 32 := shr_toNat hx31 5
      have h7 : ((x.sshiftRight 5).sshiftRight 7).toNat = x.toNat / 32 / 128 := by
        rw [shr_toNat (by omega), h5]; norm_num
      rw [select_eq (BitVec.eq_of_toNat_eq (by rw [h7, hk]; omega)), if_pos (by omega)]
      have el : (IntOp.andi (IntOp.shrsi .vector x 5#32) 127#32).toNat = x.toNat / 32 % 128 := by
        rw [ew, ← h5]; exact low_toNat _ 7 (by norm_num)
      rw [gather_apply _ _ r l (x.toNat / 32 % 128) (Nat.mod_lt _ (by norm_num))
        (by rw [laneNo_apply]
            show (laneVal (IntOp.andi (IntOp.shrsi .vector (ids c M18 f18 (ix2 r l)) 5#32) 127#32)).toNat = _
            rw [hx, laneVal_toNat (by rw [el]; exact Nat.mod_lt _ (by norm_num)), el]),
        View.readAt_apply]
      unfold wordIn
      rw [dif_pos (by omega : x.toNat / 32 < 2944)]
      congr 1
      funext a
      match a with
      | ⟨0, _⟩ => exact Fin.ext (by show 0 + 1 * r.val = r.val; omega)
      | ⟨1, _⟩ => exact Fin.ext (by show 128 * (Fin.ofNat 23 n).val + 1 * (x.toNat / 32 % 128) = x.toNat / 32; rw [en]; omega)
    · rw [select_ne (fun h => e ?_), ih (by omega)]
      · by_cases h : x.toNat / 4096 < n
        · rw [if_pos h, if_pos (by omega)]
        · rw [if_neg h, if_neg (by omega)]
      · have h' := congrArg BitVec.toNat h
        rw [hk] at h'
        rcases Nat.lt_or_ge x.toNat 2147483648 with hlt | hge
        · have h5 : (x.sshiftRight 5).toNat = x.toNat / 32 := shr_toNat hlt 5
          have h7 : ((x.sshiftRight 5).sshiftRight 7).toNat = x.toNat / 32 / 128 := by
            rw [shr_toNat (by omega), h5]; norm_num
          omega
        · have := shr_large (shr_large hge 5) 7
          omega

theorem candAllowed_apply (r : Fin 32) (l : Fin 128) :
    candAllowed c M13 M18 f13 f18 (ix2 r l)
      = maskBit (wordAfter c M13 M18 f13 f18 23 (ix2 r l)) ⟨(ids c M18 f18 (ix2 r l)).toNat % 128, Nat.mod_lt _ (by norm_num)⟩ := by
  show IntOp.cmpi .eq (IntOp.andi (IntOp.shrsi .vector (wordAfter c M13 M18 f13 f18 23 (ix2 r l)) (IntOp.andi (ids c M18 f18 (ix2 r l)) 31#32)) 1#32) 1#32 = _
  generalize wordAfter c M13 M18 f13 f18 23 (ix2 r l) = w
  generalize ids c M18 f18 (ix2 r l) = x
  have e : IntOp.andi x 31#32 = IntOp.andi (BitVec.ofNat 32 (x.toNat % 128)) 31#32 := by
    apply BitVec.eq_of_toNat_eq
    have h := low_toNat x 5 (by norm_num)
    have h' := low_toNat (BitVec.ofNat 32 (x.toNat % 128)) 5 (by norm_num)
    rw [BitVec.toNat_ofNat] at h'
    exact h.trans ((by omega : x.toNat % 2 ^ 5 = x.toNat % 128 % 2 ^ 32 % 2 ^ 5).trans h'.symm)
  have hlt : (IntOp.andi (BitVec.ofNat 32 (x.toNat % 128)) 31#32).toNat < 32 :=
    lt_of_eq_of_lt (low_toNat _ 5 (by norm_num)) (Nat.mod_lt _ (by norm_num))
  rw [e]
  show _ = IntOp.cmpi .eq (IntOp.andi (IntOp.shrsi .scalar w (IntOp.andi (BitVec.ofNat 32 (x.toNat % 128)) 31#32)) 1#32) 1#32
  unfold IntOp.shrsi
  rw [if_pos hlt, if_pos hlt]

end Words

theorem lpOf_apply (ok : IVec S32x128 1) (G : FVec Ideal S32x128 .f32) (L : FVec Ideal S32x1 .f32) (r : Fin 32) (j : Fin 60) :
    lpOf ok G L (ix2 r j) = Scalar.select (ok (ix2 r (⟨j.val, by omega⟩ : Fin 128)))
      (G (ix2 r (⟨j.val, by omega⟩ : Fin 128)) - L (ix2 r (0 : Fin 1))) (0 : EReal) := by
  have hs : ∀ x : FVec Ideal S32x128 .f32, extractStridedSlice S32x60 ![0, 0] x slices_S32x128_o0_0_S32x60 (ix2 r j) = x (ix2 r (⟨j.val, by omega⟩ : Fin 128)) :=
    fun x => extractStridedSlice_apply (s := S32x128) (t := S32x60) _ _ _ (ix2 r j) (ix2 _ _)
      (by intro a; match a with | ⟨0, _⟩ => (show r.val = 0 + r.val; omega) | ⟨1, _⟩ => (show j.val = 0 + j.val; omega))
  unfold lpOf
  rw [hs]
  pointwise

end Cert.KernelIdeal.Body

end
-- ==== Proof.KernelIdealBody.Value.lean ====
/-
  The kernel's values as functions of its arguments: each logit as one sum over the 4096 columns, a row's log-sum-exp over the columns that
  the mask allows, and the candidates' log-probabilities. And what the body reads: its inputs' blocks, and the buffers that it has stored.
-/
module

public import proofs.«01_k».proof.Proof.KernelIdealBody.BlockValue
public import proofs.«01_k».proof.Proof.KernelIdealBody.Stores
public import proofs.«01_k».proof.Proof.KernelIdealBody.Frame
public import proofs.«01_k».proof.Proof.KernelIdealBody.RunningValue
public import proofs.«01_k».proof.Proof.KernelIdealBody.CandidateRuns
public import proofs.«01_k».proof.Proof.KernelIdealBody.CandidateValue
public import proofs.«01_k».proof.Proof.Lanes

@[expose] public section

noncomputable section

namespace Cert.KernelIdeal.Body

open Cert.KernelIdeal Cert.KernelIdeal.Gen

open Idealize.ShloMosaic Idealize.ShloMosaic.Pipeline
open Idealize.ShloMosaic.TcCoe

variable (m : (ℓ : Loc nD τ sig) → Buf (Elt Ideal) ℓ)

/-! ## The arrays the region finds -/

def inRows (c : Dev nD) : FVec Ideal S32x4096 .bf16 := V m c main_v0
def inWeights (c : Dev nD) : FVec Ideal S4096x92544 .fp8e4m3 := V m c main_arg1
def inScales (c : Dev nD) : FVec Ideal S32x723 .f32 := V m c main_arg2
def inMask (c : Dev nD) : IVec S32x2892 32 := V m c main_arg3

def inCand (c : Dev nD) : IVec S32x60 32 := V m c main_v1

theorem coords_val : ∀ t : Fin cfg0.N, (grid0.coords t 0).val = t.val := by decide
theorem transform1_val : ∀ t : Fin cfg0.N, cc0_transform_1 (grid0.coords t) = ![0, t.val] := by decide
theorem transform5_val : ∀ t : Fin cfg0.N, cc0_transform_5 (grid0.coords t) = ![0, t.val] := by decide
theorem xsize1_val : ∀ t : Fin cfg0.N, (cfg0.win 1).xsize (grid0.coords t) = ![4096, min 2048 (92544 - 2048 * t.val)] := by decide

/-! ## What the body finds in its inputs' buffers -/

theorem found_rows (c : Dev nD) {X : S32x4096.Idx → Elt Ideal .bf16}
    (h : ∃ d, X = (cfg0.win 0).fill (grid0.coords t₀) d (iblk m c 0 t₀)) : X = inRows m c := by
  obtain ⟨d, rfl⟩ := h
  funext j
  show V m c main_v0 _ = V m c main_v0 j
  congr 1
  funext a
  match a with
  | ⟨0, _⟩ => exact Fin.ext (by show 0 * 32 + 1 * (j 0).val = (j 0).val; omega)
  | ⟨1, _⟩ => exact Fin.ext (by show 0 * 4096 + 1 * (j 1).val = (j 1).val; omega)

theorem found_scales (c : Dev nD) {X : S32x723.Idx → Elt Ideal .f32}
    (h : ∃ d, X = (cfg0.win 2).fill (grid0.coords t₀) d (iblk m c 2 t₀)) : X = inScales m c := by
  obtain ⟨d, rfl⟩ := h
  funext j
  show V m c main_arg2 _ = V m c main_arg2 j
  congr 1
  funext a
  match a with
  | ⟨0, _⟩ => exact Fin.ext (by show 0 * 32 + 1 * (j 0).val = (j 0).val; omega)
  | ⟨1, _⟩ => exact Fin.ext (by show 0 * 723 + 1 * (j 1).val = (j 1).val; omega)

theorem found_mask (c : Dev nD) {X : S32x2892.Idx → Elt Ideal .i32}
    (h : ∃ d, X = (cfg0.win 3).fill (grid0.coords t₀) d (iblk m c 3 t₀)) : X = inMask m c := by
  obtain ⟨d, rfl⟩ := h
  funext j
  show V m c main_arg3 _ = V m c main_arg3 j
  congr 1
  funext a
  match a with
  | ⟨0, _⟩ => exact Fin.ext (by show 0 * 32 + 1 * (j 0).val = (j 0).val; omega)
  | ⟨1, _⟩ => exact Fin.ext (by show 0 * 2892 + 1 * (j 1).val = (j 1).val; omega)

theorem found_cand (c : Dev nD) {X : S32x60.Idx → Elt Ideal .i32}
    (h : ∃ d, X = (cfg0.win 4).fill (grid0.coords t₀) d (iblk m c 4 t₀)) : X = inCand m c := by
  obtain ⟨d, rfl⟩ := h
  funext j
  show V m c main_v1 _ = V m c main_v1 j
  congr 1
  funext a
  match a with
  | ⟨0, _⟩ => exact Fin.ext (by show 0 * 32 + 1 * (j 0).val = (j 0).val; omega)
  | ⟨1, _⟩ => exact Fin.ext (by show 0 * 60 + 1 * (j 1).val = (j 1).val; omega)

theorem found_weights (c : Dev nD) (t : Fin cfg0.N) {X : S4096x2048.Idx → Elt Ideal .fp8e4m3}
    (h : ∃ d, X = (cfg0.win 1).fill (grid0.coords t) d (iblk m c 1 t)) (k : Fin 4096) (j : Fin 2048) (hj : 2048 * t.val + j.val < 92544) :
    X (ix2 k j) = inWeights m c (ix2 k (⟨2048 * t.val + j.val, hj⟩ : Fin 92544)) := by
  obtain ⟨d, rfl⟩ := h
  have hm : (cfg0.win 1).moved (grid0.coords t) (ix2 k j) = true := ((cfg0.win 1).moved_iff _ _).mpr fun a => by
    rw [xsize1_val]
    match a with
    | ⟨0, _⟩ => exact k.isLt
    | ⟨1, _⟩ => show j.val < min 2048 (92544 - 2048 * t.val); have := j.isLt; omega
  unfold Window.fill
  rw [dif_pos hm]
  show V m c main_arg1 _ = V m c main_arg1 _
  congr 1
  funext a
  match a with
  | ⟨0, _⟩ => exact Fin.ext (by show cc0_transform_1 (grid0.coords t) 0 * 4096 + 1 * k.val = k.val; rw [transform1_val]; show 0 * 4096 + _ = _; omega)
  | ⟨1, _⟩ => exact Fin.ext (by
      show cc0_transform_1 (grid0.coords t) 1 * 2048 + 1 * j.val = 2048 * t.val + j.val
      rw [transform1_val]; show t.val * 2048 + _ = _; omega)

/-! ## Reading back what was stored -/

/-- A buffer stored last over a leading corner reads the stored value there. -/
theorem read_corner {sp : Space} {n0 n1 m0 m1 : ℕ} {e : EltTy} (v : View sig .tc sp ⟨2, ![n0, n1]⟩ e)
    (inb : ∀ a, (![0, 0] : Fin 2 → ℕ) a + (![m0, m1] : Fin 2 → ℕ) a ≤ (⟨2, ![n0, n1]⟩ : Shape).size a)
    (w : (⟨2, ![m0, m1]⟩ : Shape).Idx → Elt Ideal e) (L : List (View.Piece (Elt Ideal) ⟨2, ![n0, n1]⟩ e)) (r : Fin m0) (l : Fin m1)
    (hr : r.val < n0) (hl : l.val < n1) :
    v.read (Elt Ideal) (v.writes (Elt Ideal) v.junk (⟨Rect.unit (s := ⟨2, ![n0, n1]⟩) ![0, 0] ![m0, m1] inb, w⟩ :: L)) (ix2 ⟨r.val, hr⟩ ⟨l.val, hl⟩)
      = w (ix2 r l) := by
  rw [View.read_writes_junk_apply_eq_canon]
  rw [show (ix2 ⟨r.val, hr⟩ ⟨l.val, hl⟩ : (⟨2, ![n0, n1]⟩ : Shape).Idx) = (Rect.unit (s := ⟨2, ![n0, n1]⟩) ![0, 0] ![m0, m1] inb).emb (ix2 r l) from ?_]
  · exact View.canon_cons_emb _ _ _ _
  · funext a
    match a with
    | ⟨0, _⟩ => exact Fin.ext (by show r.val = 0 + 1 * r.val; omega)
    | ⟨1, _⟩ => exact Fin.ext (by show l.val = 0 + 1 * l.val; omega)

/-- A load of a whole buffer reads its contents. -/
theorem readAt_whole {sp : Space} {n0 n1 : ℕ} {e : EltTy} (v : View sig .tc sp ⟨2, ![n0, n1]⟩ e)
    (inb : ∀ a, (![0, 0] : Fin 2 → ℕ) a + (![n0, n1] : Fin 2 → ℕ) a ≤ (⟨2, ![n0, n1]⟩ : Shape).size a) {c : Dev nD}
    (f : Buf (Elt Ideal) (v.loc (c.tc : Thread nD τ))) :
    v.readAt (Elt Ideal) (Rect.unit (s := ⟨2, ![n0, n1]⟩) ![0, 0] ![n0, n1] inb).toLoadRect f = v.read (Elt Ideal) f := by
  funext j
  rw [View.readAt_apply]
  congr 1
  funext a
  match a with
  | ⟨0, _⟩ => exact Fin.ext (by show 0 + 1 * (j 0).val = (j 0).val; omega)
  | ⟨1, _⟩ => exact Fin.ext (by show 0 + 1 * (j 1).val = (j 1).val; omega)

/-- Past that corner it reads what was stored before. -/
theorem read_past {sp : Space} {n0 n1 m1 : ℕ} {e : EltTy} (v : View sig .tc sp ⟨2, ![n0, n1]⟩ e)
    (inb : ∀ a, (![0, 0] : Fin 2 → ℕ) a + (![n0, m1] : Fin 2 → ℕ) a ≤ (⟨2, ![n0, n1]⟩ : Shape).size a)
    (w : (⟨2, ![n0, m1]⟩ : Shape).Idx → Elt Ideal e)
    (inb' : ∀ a, (![0, 0] : Fin 2 → ℕ) a + (![n0, n1] : Fin 2 → ℕ) a ≤ (⟨2, ![n0, n1]⟩ : Shape).size a)
    (w' : (⟨2, ![n0, n1]⟩ : Shape).Idx → Elt Ideal e) (r : Fin n0) (l : Fin n1) (hl : m1 ≤ l.val) :
    v.read (Elt Ideal) (v.writes (Elt Ideal) v.junk [⟨Rect.unit (s := ⟨2, ![n0, n1]⟩) ![0, 0] ![n0, m1] inb, w⟩,
      ⟨Rect.unit (s := ⟨2, ![n0, n1]⟩) ![0, 0] ![n0, n1] inb', w'⟩]) (ix2 r l) = w' (ix2 r l) := by
  rw [View.read_writes_junk_apply_eq_canon, View.canon_cons_of_not_mem]
  · rw [← View.read_writes_junk_apply_eq_canon (v := v)]
    exact read_corner v inb' w' [] r l r.isLt l.isLt
  · intro hm
    replace hm : ix2 r l ∈ (Rect.unit (s := ⟨2, ![n0, n1]⟩) ![0, 0] ![n0, m1] inb).set := hm
    rw [Rect.mem_set_unit] at hm
    have h1 : l.val < 0 + m1 := (hm (1 : Fin 2)).2
    omega

/-- What a step stored over a whole 32 by 128 buffer. -/
theorem read_store128 (M : Memref sig .tc .vmem S32x128 .f32) (z : FVec Ideal S32x128 .f32) (L : List (View.Piece (Elt Ideal) S32x128 .f32))
    (r : Fin 32) (l : Fin 128) :
    M.view.read (Elt Ideal) (M.view.writes (Elt Ideal) M.view.junk (store128 z :: L)) (ix2 r l) = z (ix2 r l) :=
  (read_corner (n0 := 32) (n1 := 128) (m0 := 32) (m1 := 128) _ _ _ _ r l r.isLt l.isLt).trans
    (congrFun (shapeCast_self (s := S32x128) _ _) _)

theorem load128_eq {c : Dev nD} (M : Memref sig .tc .vmem S32x128 .f32) (f : Bf (F := Ideal) c M) :
    load128 c M f = M.view.read (Elt Ideal) f := readAt_whole _ _ _

theorem ids_eq {c : Dev nD} (M : Memref sig .tc .vmem S32x128 .i32) (f : Bf (F := Ideal) c M) :
    ids c M f = M.view.read (Elt Ideal) f := readAt_whole _ _ _

section Out

variable (c : Dev nD) (i : grid0.Coords)
    (M2 : Memref sig .tc .vmem S4096x2048 .fp8e4m3) (M6 : Memref sig .tc .vmem S32x2048 .f32) (M11 : Memref sig .tc .vmem S32x4096 .bf16) (M12 : Memref sig .tc .vmem S32x128 .f32)
    (M13 : Memref sig .tc .vmem S32x2944 .i32) (M14 : Memref sig .tc .vmem S32x768 .f32) (M15 : Memref sig .tc .vmem S2x32x128 .f32)
    (f2 : Bf (F := Ideal) c M2) (f11 : Bf (F := Ideal) c M11) (f12 : Bf (F := Ideal) c M12) (f13 : Bf (F := Ideal) c M13) (f14 : Bf (F := Ideal) c M14)

/-- The block of masked logits after a step's stores, at row `r`, column `j`. -/
theorem out_read (r : Fin 32) (j : Fin 2048) :
    M6.view.read (Elt Ideal) (M6.view.writes (Elt Ideal) M6.view.junk (outWrites c i M2 M11 M12 M13 M14 M15 f2 f11 f12 f13 f14)) (ix2 r j)
      = outBlock c i M2 M11 M12 M13 M14 M15 f2 f11 f12 f13 f14 ⟨j.val / 128, by omega⟩ (ix2 r (⟨j.val % 128, by omega⟩ : Fin 128)) := by
  refine View.read_writes_apply_of_pieces (Val := Elt Ideal) (s := S32x2048) (e := .f32) _ _
    (fun y : S32x2048.Idx => outBlock c i M2 M11 M12 M13 M14 M15 f2 f11 f12 f13 f14 ⟨(y 1).val / 128, by have : (y 1).val < 2048 := (y 1).isLt; omega⟩
      (ix2 (y 0) (⟨(y 1).val % 128, by omega⟩ : Fin 128))) _ ?_ (ix2 r j) ?_
  · intro p hp x
    obtain ⟨t, -, rfl⟩ := List.mem_map.mp hp
    have hx : (x 1).val < 128 := (x 1).isLt
    have e1 : ((Rect.unit (s := S32x2048) ![0, 128 * t.val] S32x128.size (inb_out t)).emb x 1).val = 128 * t.val + (x 1).val := by
      show 128 * t.val + 1 * (x 1).val = _; omega
    show outBlock c i M2 M11 M12 M13 M14 M15 f2 f11 f12 f13 f14 t x = outBlock c i M2 M11 M12 M13 M14 M15 f2 f11 f12 f13 f14 _ _
    congr 1
    · exact Fin.ext (by show t.val = ((Rect.unit (s := S32x2048) ![0, 128 * t.val] S32x128.size (inb_out t)).emb x 1).val / 128; rw [e1]; omega)
    · funext a
      match a with
      | ⟨0, _⟩ => exact Fin.ext (by show (x 0).val = 0 + 1 * (x 0).val; omega)
      | ⟨1, _⟩ => exact Fin.ext (by show (x 1).val = ((Rect.unit (s := S32x2048) ![0, 128 * t.val] S32x128.size (inb_out t)).emb x 1).val % 128; rw [e1]; omega)
  · have hj := j.isLt
    refine ⟨_, List.mem_map.mpr ⟨⟨j.val / 128, by omega⟩, ?_, rfl⟩, ?_⟩
    · generalize (⟨j.val / 128, by omega⟩ : Fin 16) = t
      revert t; decide
    · show ix2 r j ∈ (Rect.unit (s := S32x2048) ![0, 128 * (j.val / 128)] S32x128.size (inb_out ⟨j.val / 128, by omega⟩)).set
      rw [Rect.mem_set_unit]
      intro a
      match a with
      | ⟨0, _⟩ => exact ⟨Nat.zero_le _, by show r.val < 0 + 32; omega⟩
      | ⟨1, _⟩ => exact ⟨by show 128 * (j.val / 128) ≤ j.val; omega, by show j.val < 128 * (j.val / 128) + 128; omega⟩

end Out

/-! ## The values -/

/-- One logit, before the mask. -/
def logit (c : Dev nD) (r : Fin 32) (v : Fin 92544) : EReal :=
  (∑ k : Fin 4096, codes (inRows m c) (ix2 r k)
      * inScales m c (ix2 (⟨k.val / 128, by omega⟩ : Fin 32) (⟨v.val / 128, by omega⟩ : Fin 723)) * inWeights m c (ix2 k v))
    * scales (inRows m c) (ix2 r (0 : Fin 1))

/-- Whether the mask allows a column. -/
def bit (c : Dev nD) (r : Fin 32) (v : Fin 92544) : BitVec 1 :=
  maskBit (inMask m c (ix2 r (⟨v.val / 32, by omega⟩ : Fin 2892))) ⟨v.val % 128, by omega⟩

/-- One masked logit. -/
def masked (c : Dev nD) (r : Fin 32) (v : Fin 92544) : EReal := Scalar.select (bit m c r v) (logit m c r v) (0 : EReal)

/-- One logit, at minus infinity where the mask does not allow the column. -/
def reach (c : Dev nD) (r : Fin 32) (v : Fin 92544) : EReal := Scalar.select (bit m c r v) (logit m c r v) (⊥ : EReal)

/-- A row's largest allowed logit; 0 when there is none above minus infinity. -/
def peak (c : Dev nD) (r : Fin 32) : EReal := if Finset.univ.sup (reach m c r) = ⊥ then 0 else Finset.univ.sup (reach m c r)

/-- A row's log-sum-exp. -/
def lseValue (c : Dev nD) (r : Fin 32) : EReal := Ideal.log (∑ v, Ideal.exp (reach m c r v - peak m c r)) + peak m c r

/-- A candidate's log-probability; 0 where the mask does not allow it, and where it names no column. -/
def lpValue (c : Dev nD) (r : Fin 32) (j : Fin 60) : EReal :=
  if h : (inCand m c (ix2 r j)).toNat < 92544 then Scalar.select (bit m c r ⟨_, h⟩) (logit m c r ⟨_, h⟩ - lseValue m c r) (0 : EReal) else 0

end Cert.KernelIdeal.Body

end
-- ==== Proof.KernelIdealBody.Steps.lean ====
/-
  The invariant of the kernel's steps over the extended reals, and that every step keeps it. After `n` steps the scratch buffers hold the codes,
  the scales, the mask words and the candidates; for each row and lane the maximum and the sum of exponentials of that lane's first `16 n`
  columns; and the logits of the candidates whose columns have been passed.
-/
module

public import proofs.«01_k».proof.Proof.KernelIdealBody.Value

@[expose] public section

noncomputable section

namespace Cert.KernelIdeal.Body

open Cert.KernelIdeal Cert.KernelIdeal.Gen

open Idealize.ShloMosaic Idealize.ShloMosaic.Pipeline
open Idealize.ShloMosaic.TcCoe
open Cert.LogSumExp

variable (m : (ℓ : Loc nD τ sig) → Buf (Elt Ideal) ℓ)

/-! ## The invariant -/

/-- The number that the running maximum starts from. -/
def start : EReal := Ideal.ofBits .f32 0xFF61B1E6#32

/-- What the first step stores and the others keep. -/
structure Kept (c : Dev nD) (f11 : Bf (F := Ideal) c sc11) (f12 : Bf (F := Ideal) c sc12) (f13 : Bf (F := Ideal) c sc13) (f14 : Bf (F := Ideal) c sc14)
    (f18 : Bf (F := Ideal) c sc18) : Prop where
  codes : ∀ r k, sc11.view.read (Elt Ideal) f11 (ix2 r k) = Body.codes (inRows m c) (ix2 r k)
  laneScales : ∀ (r : Fin 32) (l : Fin 128), sc12.view.read (Elt Ideal) f12 (ix2 r l) = scales (inRows m c) (ix2 r (0 : Fin 1))
  words : ∀ (r : Fin 32) (w : Fin 2892), sc13.view.read (Elt Ideal) f13 (ix2 r (⟨w.val, by omega⟩ : Fin 2944)) = inMask m c (ix2 r w)
  noWords : ∀ (r : Fin 32) (w : Fin 2944), 2892 ≤ w.val → sc13.view.read (Elt Ideal) f13 (ix2 r w) = 0#32
  scalePairs : ∀ (k : Fin 32) (j : Fin 723), sc14.view.read (Elt Ideal) f14 (ix2 k (⟨j.val, by omega⟩ : Fin 768)) = inScales m c (ix2 k j)
  cands : ∀ (r : Fin 32) (j : Fin 60), sc18.view.read (Elt Ideal) f18 (ix2 r (⟨j.val, by omega⟩ : Fin 128)) = inCand m c (ix2 r j)

/-- What the steps update, after `n` of them. -/
structure Updated (c : Dev nD) (n : ℕ) (f16 : Bf (F := Ideal) c sc16) (f17 : Bf (F := Ideal) c sc17) (f18 : Bf (F := Ideal) c sc18)
    (f19 : Bf (F := Ideal) c sc19) : Prop where
  top : ∀ r l, sc16.view.read (Elt Ideal) f16 (ix2 r l) = runMax start (spread (reach m c r) l) (16 * n)
  sum : ∀ r l, sc17.view.read (Elt Ideal) f17 (ix2 r l) = runSum start (spread (reach m c r) l) (16 * n)
  got : ∀ (r : Fin 32) (l : Fin 128) (h : (sc18.view.read (Elt Ideal) f18 (ix2 r l)).toNat < 92544),
    (sc18.view.read (Elt Ideal) f18 (ix2 r l)).toNat / 128 < 16 * n → sc19.view.read (Elt Ideal) f19 (ix2 r l) = logit m c r ⟨_, h⟩

def Inv.value : Inv Ideal where
  scr c n f11 f12 f13 f14 f16 f17 f18 f19 := Kept m c f11 f12 f13 f14 f18 ∧ Updated m c n f16 f17 f18 f19
  out c t X := ∀ (r : Fin 32) (j : Fin 2048) (h : 2048 * t.val + j.val < 92544), X (ix2 r j) = masked m c r ⟨2048 * t.val + j.val, h⟩
  lse c X := ∀ r : Fin 32, X (ix2 r (0 : Fin 1)) = lseValue m c r
  lp c X := ∀ (r : Fin 32) (j : Fin 60), X (ix2 r j) = lpValue m c r j
  codes c X := X = Body.codes (inRows m c)
  xs c X := X = scales (inRows m c)

variable {m}

/-! ## One step -/

theorem maskBit_zero : ∀ l : Fin 128, maskBit 0#32 l = 0#1 := by decide +kernel

section Step

variable (c : Dev nD) (t : Fin cfg0.N) (f2 : Bf (F := Ideal) c (st0_1 t))
    (f11 : Bf (F := Ideal) c sc11) (f12 : Bf (F := Ideal) c sc12) (f13 : Bf (F := Ideal) c sc13) (f14 : Bf (F := Ideal) c sc14)
    (f16 : Bf (F := Ideal) c sc16) (f17 : Bf (F := Ideal) c sc17) (f18 : Bf (F := Ideal) c sc18) (f19 : Bf (F := Ideal) c sc19)

section Blocks

variable (h2 : ∃ d, (st0_1 t).view.read (Elt Ideal) f2 = (cfg0.win 1).fill (grid0.coords t) d (iblk m c 1 t))
  (hk : Kept m c f11 f12 f13 f14 f18)
include h2 hk

/-- A block's logits. -/
theorem step_logit (b : Fin 16) (r : Fin 32) (l : Fin 128) (v : Fin 92544) (hv : v.val = 128 * (16 * t.val + b.val) + l.val) :
    logitsAt c (grid0.coords t) (st0_1 t) sc11 sc12 sc14 sc15 f2 f11 f12 f14 b (ix2 r l) = logit m c r v := by
  have hb := b.isLt
  have hl := l.isLt
  have hlt := v.isLt
  have es : (⟨min (16 * (grid0.coords t 0).val + b.val) 722, by omega⟩ : Fin 768)
      = ⟨(⟨v.val / 128, by omega⟩ : Fin 723).val, by show v.val / 128 < 768; omega⟩ := Fin.ext (by
    show min (16 * (grid0.coords t 0).val + b.val) 722 = v.val / 128
    rw [coords_val]; omega)
  have hj : 2048 * t.val + (⟨128 * b.val + l.val, by omega⟩ : Fin 2048).val < 92544 := by
    show 2048 * t.val + (128 * b.val + l.val) < 92544
    omega
  have ev : (⟨2048 * t.val + (⟨128 * b.val + l.val, by omega⟩ : Fin 2048).val, hj⟩ : Fin 92544) = v := Fin.ext (by
    show 2048 * t.val + (128 * b.val + l.val) = v.val
    omega)
  refine (logits_apply c (grid0.coords t) (st0_1 t) sc11 sc12 sc14 sc15 f2 f11 f12 f14 b r l).trans ?_
  unfold logit
  rw [hk.laneScales]
  refine congrArg (· * _) (Finset.sum_congr rfl fun k _ => ?_)
  refine congrArg₂ (fun a b : EReal => a * b) (congrArg₂ (fun a b : EReal => a * b) (hk.codes r k) ?_) ?_
  · exact (congrArg (fun q => sc14.view.read (Elt Ideal) f14 (ix2 (⟨k.val / 128, by omega⟩ : Fin 32) q)) es).trans (hk.scalePairs _ _)
  · exact (found_weights m c t h2 k ⟨128 * b.val + l.val, by omega⟩ hj).trans (congrArg (fun q => inWeights m c (ix2 k q)) ev)

omit h2 in
/-- A block's mask bits. -/
theorem step_bit (b : Fin 16) (r : Fin 32) (l : Fin 128) (v : Fin 92544) (hv : v.val = 128 * (16 * t.val + b.val) + l.val) :
    allowed c (grid0.coords t) sc13 f13 b (ix2 r l) = bit m c r v := by
  have hb := b.isLt
  have hl := l.isLt
  have hlt := v.isLt
  have ew : wordAt (grid0.coords t) b l = ⟨(⟨v.val / 32, by omega⟩ : Fin 2892).val, by show v.val / 32 < 2944; omega⟩ := Fin.ext (by
    show min (16 * (grid0.coords t 0).val + b.val) 723 * 4 + l.val / 32 = v.val / 32
    rw [coords_val]; omega)
  rw [allowed_apply, ew, hk.words]
  exact congrArg (maskBit _) (Fin.ext (by show l.val = v.val % 128; omega))

omit h2 in
/-- Past the last column no bit is set. -/
theorem step_noBit (b : Fin 16) (r : Fin 32) (l : Fin 128) (hv : 92544 ≤ 128 * (16 * t.val + b.val) + l.val) :
    allowed c (grid0.coords t) sc13 f13 b (ix2 r l) = 0#1 := by
  have hl := l.isLt
  rw [allowed_apply, hk.noWords, maskBit_zero]
  show 2892 ≤ min (16 * (grid0.coords t 0).val + b.val) 723 * 4 + l.val / 32
  rw [coords_val]; omega

/-- A block's logits under the mask, as a lane's own columns. -/
theorem step_masked (b : Fin 16) (r : Fin 32) (l : Fin 128) :
    maskedBlock c (grid0.coords t) (st0_1 t) sc11 sc12 sc13 sc14 sc15 f2 f11 f12 f13 f14 b (ix2 r l) = spread (reach m c r) l (16 * t.val + b.val) := by
  show Scalar.select (allowed c (grid0.coords t) sc13 f13 b (ix2 r l))
    (logitsAt c (grid0.coords t) (st0_1 t) sc11 sc12 sc14 sc15 f2 f11 f12 f14 b (ix2 r l)) (Ideal.ofBits .f32 0xFF800000#32) = _
  rw [neg_inf]
  unfold spread
  by_cases h : 128 * (16 * t.val + b.val) + l.val < 92544
  · rw [dif_pos h, step_bit c t f11 f12 f13 f14 f18 hk b r l ⟨_, h⟩ rfl, step_logit c t f2 f11 f12 f13 f14 f18 h2 hk b r l ⟨_, h⟩ rfl]
    rfl
  · rw [dif_neg h, step_noBit c t f11 f12 f13 f14 f18 hk b r l (by omega)]
    rfl

/-- The masked logits that a step leaves. -/
theorem step_out : (Inv.value m).out c t ((st0_5 t).view.read (Elt Ideal) ((st0_5 t).view.writes (Elt Ideal) (st0_5 t).view.junk
      (outWrites c (grid0.coords t) (st0_1 t) sc11 sc12 sc13 sc14 sc15 f2 f11 f12 f13 f14))) := by
  intro r j hj
  have hjl := j.isLt
  have hv : 2048 * t.val + j.val = 128 * (16 * t.val + j.val / 128) + j.val % 128 := by omega
  rw [out_read]
  show Scalar.select (allowed c (grid0.coords t) sc13 f13 _ (ix2 r _))
    (logitsAt c (grid0.coords t) (st0_1 t) sc11 sc12 sc14 sc15 f2 f11 f12 f14 _ (ix2 r _)) (Ideal.ofBits .f32 0x00000000#32) = _
  rw [step_bit c t f11 f12 f13 f14 f18 hk _ r _ ⟨_, hj⟩ hv, step_logit c t f2 f11 f12 f13 f14 f18 h2 hk _ r _ ⟨_, hj⟩ hv, zero_bits]
  rfl

/-! ## The maximum, the sum and the candidates' logits -/

theorem step_max (hm : ∀ r l, sc16.view.read (Elt Ideal) f16 (ix2 r l) = runMax start (spread (reach m c r) l) (16 * t.val)) (r : Fin 32) (l : Fin 128) :
    newMax c (grid0.coords t) (st0_1 t) sc11 sc12 sc13 sc14 sc15 sc16 f2 f11 f12 f13 f14 f16 (ix2 r l)
      = runMax start (spread (reach m c r) l) (16 * (t.val + 1)) :=
  maxAfter_apply _ _ r l start (spread (reach m c r) l) (16 * t.val) ((congrFun (load128_eq sc16 f16) _).trans (hm r l))
    (fun b => step_masked c t f2 f11 f12 f13 f14 f18 h2 hk b r l) 8 le_rfl

theorem step_sum (hm : ∀ r l, sc16.view.read (Elt Ideal) f16 (ix2 r l) = runMax start (spread (reach m c r) l) (16 * t.val))
    (hs : ∀ r l, sc17.view.read (Elt Ideal) f17 (ix2 r l) = runSum start (spread (reach m c r) l) (16 * t.val)) (r : Fin 32) (l : Fin 128) :
    newSum c (grid0.coords t) (st0_1 t) sc11 sc12 sc13 sc14 sc15 sc16 sc17 f2 f11 f12 f13 f14 f16 f17 (ix2 r l)
      = runSum start (spread (reach m c r) l) (16 * (t.val + 1)) :=
  sumAfter_apply _ _ _ r l start (spread (reach m c r) l) (16 * t.val)
    (by obtain ⟨x, hx⟩ := start_real; rw [start, hx]; exact EReal.coe_ne_bot x)
    ((congrFun (load128_eq sc16 f16) _).trans (hm r l)) ((congrFun (load128_eq sc17 f17) _).trans (hs r l))
    (fun b => step_masked c t f2 f11 f12 f13 f14 f18 h2 hk b r l) 8 le_rfl

theorem step_got (hg : ∀ (r : Fin 32) (l : Fin 128) (h : (sc18.view.read (Elt Ideal) f18 (ix2 r l)).toNat < 92544),
      (sc18.view.read (Elt Ideal) f18 (ix2 r l)).toNat / 128 < 16 * t.val → sc19.view.read (Elt Ideal) f19 (ix2 r l) = logit m c r ⟨_, h⟩)
    (r : Fin 32) (l : Fin 128) (h : (sc18.view.read (Elt Ideal) f18 (ix2 r l)).toNat < 92544)
    (hn : (sc18.view.read (Elt Ideal) f18 (ix2 r l)).toNat / 128 < 16 * (t.val + 1)) :
    newGot c (grid0.coords t) (st0_1 t) sc11 sc12 sc14 sc15 sc18 sc19 f2 f11 f12 f14 f18 f19 (ix2 r l) = logit m c r ⟨_, h⟩ := by
  unfold newGot
  rw [ids_eq, load128_eq]
  refine gotAfter_apply _ _ _ _ r l _ h (fun h' => hg r l h (by rw [coords_val] at h'; exact h')) (fun b hb => ?_) 16 le_rfl
    (by rw [coords_val]; omega)
  refine step_logit c t f2 f11 f12 f13 f14 f18 h2 hk b r _ ⟨_, h⟩ ?_
  show (sc18.view.read (Elt Ideal) f18 (ix2 r l)).toNat = 128 * (16 * t.val + b.val) + (sc18.view.read (Elt Ideal) f18 (ix2 r l)).toNat % 128
  rw [coords_val] at hb
  omega

/-- What a step stores over the maximum, the sum and the candidates' logits. -/
theorem step_updated (hm : ∀ r l, sc16.view.read (Elt Ideal) f16 (ix2 r l) = runMax start (spread (reach m c r) l) (16 * t.val))
    (hs : ∀ r l, sc17.view.read (Elt Ideal) f17 (ix2 r l) = runSum start (spread (reach m c r) l) (16 * t.val))
    (hg : ∀ (r : Fin 32) (l : Fin 128) (h : (sc18.view.read (Elt Ideal) f18 (ix2 r l)).toNat < 92544),
      (sc18.view.read (Elt Ideal) f18 (ix2 r l)).toNat / 128 < 16 * t.val → sc19.view.read (Elt Ideal) f19 (ix2 r l) = logit m c r ⟨_, h⟩)
    (L16 L17 L19 : List (View.Piece (Elt Ideal) S32x128 .f32)) :
    Updated m c (t.val + 1)
      (sc16.view.writes (Elt Ideal) sc16.view.junk (store128 (newMax c (grid0.coords t) (st0_1 t) sc11 sc12 sc13 sc14 sc15 sc16 f2 f11 f12 f13 f14 f16) :: L16))
      (sc17.view.writes (Elt Ideal) sc17.view.junk (store128 (newSum c (grid0.coords t) (st0_1 t) sc11 sc12 sc13 sc14 sc15 sc16 sc17 f2 f11 f12 f13 f14 f16 f17) :: L17))
      f18
      (sc19.view.writes (Elt Ideal) sc19.view.junk (store128 (newGot c (grid0.coords t) (st0_1 t) sc11 sc12 sc14 sc15 sc18 sc19 f2 f11 f12 f14 f18 f19) :: L19)) where
  top r l := (read_store128 sc16 _ _ r l).trans (step_max c t f2 f11 f12 f13 f14 f16 f18 h2 hk hm r l)
  sum r l := (read_store128 sc17 _ _ r l).trans (step_sum c t f2 f11 f12 f13 f14 f16 f17 f18 h2 hk hm hs r l)
  got r l h hn := (read_store128 sc19 _ _ r l).trans (step_got c t f2 f11 f12 f13 f14 f18 f19 h2 hk hg r l h hn)

/-! ## The last step -/

/-- The log-sum-exp of a row, out of its lanes. -/
theorem last_lse_value (ht : t.val = 45) (hu : Updated m c t.val f16 f17 f18 f19) (r : Fin 32) :
    lseOf (newMax c (grid0.coords t) (st0_1 t) sc11 sc12 sc13 sc14 sc15 sc16 f2 f11 f12 f13 f14 f16)
        (newSum c (grid0.coords t) (st0_1 t) sc11 sc12 sc13 sc14 sc15 sc16 sc17 f2 f11 f12 f13 f14 f16 f17) (ix2 r (0 : Fin 1))
      = lseValue m c r := by
  obtain ⟨x, hx⟩ := start_real
  have e : 16 * (t.val + 1) = 736 := by rw [ht]
  rw [lseOf_apply]
  refine merge (reach m c r) x _ _ (fun l => ?_) (fun l => ?_)
  · rw [step_max c t f2 f11 f12 f13 f14 f16 f18 h2 hk hu.top r l, e, start, hx]
  · rw [step_sum c t f2 f11 f12 f13 f14 f16 f17 f18 h2 hk hu.top hu.sum r l, e, start, hx]

omit h2 in
/-- The mask bit of a candidate that names a column. -/
theorem last_bit (r : Fin 32) (j : Fin 60) (h : (inCand m c (ix2 r j)).toNat < 92544) :
    candAllowed c sc13 sc18 f13 f18 (ix2 r (⟨j.val, by omega⟩ : Fin 128)) = bit m c r ⟨_, h⟩ := by
  have hw : wordIn c sc13 f13 r ((inCand m c (ix2 r j)).toNat / 32) = inMask m c (ix2 r (⟨(inCand m c (ix2 r j)).toNat / 32, by omega⟩ : Fin 2892)) := by
    unfold wordIn
    rw [dif_pos (by omega)]
    exact hk.words r ⟨(inCand m c (ix2 r j)).toNat / 32, by omega⟩
  rw [candAllowed_apply, wordAfter_apply c sc13 sc18 f13 f18 r _ 23 le_rfl]
  simp only [ids_eq, hk.cands]
  rw [if_pos (by omega), hw]
  rfl

omit h2 in
/-- The mask bit of a candidate that names no column. -/
theorem last_noBit (r : Fin 32) (j : Fin 60) (h : 92544 ≤ (inCand m c (ix2 r j)).toNat) :
    candAllowed c sc13 sc18 f13 f18 (ix2 r (⟨j.val, by omega⟩ : Fin 128)) = 0#1 := by
  have hw : wordIn c sc13 f13 r ((inCand m c (ix2 r j)).toNat / 32) = 0#32 := by
    unfold wordIn
    split
    · exact hk.noWords r _ (by show 2892 ≤ (inCand m c (ix2 r j)).toNat / 32; omega)
    · rfl
  rw [candAllowed_apply, wordAfter_apply c sc13 sc18 f13 f18 r _ 23 le_rfl]
  simp only [ids_eq, hk.cands]
  rw [hw, ite_self]
  exact maskBit_zero _

/-- A candidate's log-probability. -/
theorem last_lp_value (ht : t.val = 45) (hu : Updated m c t.val f16 f17 f18 f19) (r : Fin 32) (j : Fin 60) :
    lpOf (candAllowed c sc13 sc18 f13 f18) (newGot c (grid0.coords t) (st0_1 t) sc11 sc12 sc14 sc15 sc18 sc19 f2 f11 f12 f14 f18 f19)
        (lseOf (newMax c (grid0.coords t) (st0_1 t) sc11 sc12 sc13 sc14 sc15 sc16 f2 f11 f12 f13 f14 f16)
          (newSum c (grid0.coords t) (st0_1 t) sc11 sc12 sc13 sc14 sc15 sc16 sc17 f2 f11 f12 f13 f14 f16 f17)) (ix2 r j)
      = lpValue m c r j := by
  rw [lpOf_apply, last_lse_value c t f2 f11 f12 f13 f14 f16 f17 f18 f19 h2 hk ht hu r]
  unfold lpValue
  by_cases h : (inCand m c (ix2 r j)).toNat < 92544
  · have hc := hk.cands r j
    have hg : newGot c (grid0.coords t) (st0_1 t) sc11 sc12 sc14 sc15 sc18 sc19 f2 f11 f12 f14 f18 f19 (ix2 r (⟨j.val, by omega⟩ : Fin 128))
        = logit m c r ⟨_, h⟩ := by
      refine (step_got c t f2 f11 f12 f13 f14 f18 f19 h2 hk hu.got r ⟨j.val, by omega⟩ (by rw [hc]; exact h) (by rw [hc, ht]; omega)).trans ?_
      exact congrArg (logit m c r) (Fin.ext (congrArg BitVec.toNat hc))
    rw [dif_pos h, last_bit c f11 f12 f13 f14 f18 hk r j h, hg]
  · rw [dif_neg h, last_noBit c f11 f12 f13 f14 f18 hk r j (by omega)]
    rfl

end Blocks

end Step

/-! ## The steps -/

theorem value_codes (c : Dev nD) {X : S32x4096.Idx → Elt Ideal .fp8e4m3} (h : X = codes (inRows m c)) : (Inv.value m).codes c X := h
theorem value_xs (c : Dev nD) {X : S32x1.Idx → Elt Ideal .f32} (h : X = scales (inRows m c)) : (Inv.value m).xs c X := h

/-- What the first step stores for the others. -/
theorem first_kept (c : Dev nD) {f1 : Bf (F := Ideal) c (st0_0 t₀)} {f3 : Bf (F := Ideal) c (st0_2 t₀)} {f4 : Bf (F := Ideal) c (st0_3 t₀)}
    {f5 : Bf (F := Ideal) c (st0_4 t₀)} (hr : rows c (st0_0 t₀) f1 = inRows m c)
    (g3 : ∃ d, (st0_2 t₀).view.read (Elt Ideal) f3 = (cfg0.win 2).fill (grid0.coords t₀) d (iblk m c 2 t₀))
    (g4 : ∃ d, (st0_3 t₀).view.read (Elt Ideal) f4 = (cfg0.win 3).fill (grid0.coords t₀) d (iblk m c 3 t₀))
    (g5 : ∃ d, (st0_4 t₀).view.read (Elt Ideal) f5 = (cfg0.win 4).fill (grid0.coords t₀) d (iblk m c 4 t₀)) :
    Kept m c (sc11.view.writes (Elt Ideal) sc11.view.junk (wideCodesWrites c (st0_0 t₀) f1))
        (sc12.view.writes (Elt Ideal) sc12.view.junk (laneScalesWrites c (st0_0 t₀) f1))
        (sc13.view.writes (Elt Ideal) sc13.view.junk (wordsWrites c (st0_3 t₀) f4))
        (sc14.view.writes (Elt Ideal) sc14.view.junk (scalePairsWrites c (st0_2 t₀) f3))
        (sc18.view.writes (Elt Ideal) sc18.view.junk (candWrites c (st0_4 t₀) f5)) where
  codes r k := by
    refine (read_corner (n0 := 32) (n1 := 4096) (m0 := 32) (m1 := 4096) _ _ _ _ r k r.isLt k.isLt).trans ?_
    refine (congrFun (shapeCast_self (s := S32x4096) _ _) _).trans ?_
    rw [hr]; rfl
  laneScales r l := by
    refine (read_corner (n0 := 32) (n1 := 128) (m0 := 32) (m1 := 128) _ _ _ _ r l r.isLt l.isLt).trans ?_
    rw [hr]
    pointwise
  words r w := by
    refine (read_corner (n0 := 32) (n1 := 2944) (m0 := 32) (m1 := 2892) _ _ _ _ r w r.isLt (by omega)).trans ?_
    refine (congrFun (shapeCast_self (s := S32x2892) _ _) _).trans ?_
    exact congrFun ((readAt_whole _ _ _).trans (found_mask m c g4)) _
  noWords r w hw := by
    refine (read_past (n0 := 32) (n1 := 2944) (m1 := 2892) _ _ _ _ _ r w hw).trans ?_
    exact congrFun (shapeCast_self (s := S32x2944) _ _) _
  scalePairs k j := by
    refine (read_corner (n0 := 32) (n1 := 768) (m0 := 32) (m1 := 723) _ _ _ _ k j k.isLt (by omega)).trans ?_
    refine (congrFun (shapeCast_self (s := S32x723) _ _) _).trans ?_
    exact congrFun ((readAt_whole _ _ _).trans (found_scales m c g3)) _
  cands r j := by
    refine (read_corner (n0 := 32) (n1 := 128) (m0 := 32) (m1 := 60) _ _ _ _ r j r.isLt (by omega)).trans ?_
    refine (congrFun (shapeCast_self (s := S32x60) _ _) _).trans ((congrFun (shapeCast_self (s := S32x60) _ _) _).trans ?_)
    exact congrFun ((readAt_whole _ _ _).trans (found_cand m c g5)) _

theorem t₀_val : (t₀ : Fin cfg0.N).val = 0 := rfl

theorem init_max (c : Dev nD) (r : Fin 32) (l : Fin 128) :
    sc16.view.read (Elt Ideal) (sc16.view.writes (Elt Ideal) sc16.view.junk maxInit) (ix2 r l) = runMax start (spread (reach m c r) l) (16 * t₀.val) := by
  refine (read_store128 sc16 _ _ r l).trans ?_
  show start = _
  rw [t₀_val]
  simp [runMax]

theorem init_sum (c : Dev nD) (r : Fin 32) (l : Fin 128) :
    sc17.view.read (Elt Ideal) (sc17.view.writes (Elt Ideal) sc17.view.junk sumInit) (ix2 r l) = runSum start (spread (reach m c r) l) (16 * t₀.val) := by
  refine (read_store128 sc17 _ _ r l).trans ?_
  show Ideal.ofBits .f32 0x00000000#32 = _
  rw [zero_bits, t₀_val]
  simp [runSum]

theorem value_steps : (Inv.value m).Steps m where
  first := by
    intro c f1 f2 f3 f4 f5 g1 g2 g3 g4 g5 W hW
    have hr : rows c (st0_0 t₀) f1 = inRows m c := (readAt_whole _ _ _).trans (found_rows m c g1)
    have hk := first_kept c hr g3 g4 g5
    have hu := step_updated c t₀ f2 _ _ _ _ (sc16.view.writes (Elt Ideal) sc16.view.junk maxInit) (sc17.view.writes (Elt Ideal) sc17.view.junk sumInit) _
      (sc19.view.writes (Elt Ideal) sc19.view.junk sumInit) g2 hk (init_max c) (init_sum c)
      (fun r l h h' => by rw [t₀_val] at h'; exact absurd h' (Nat.not_lt_zero _)) maxInit sumInit sumInit
    have e11 : W.2.2.2.1 = _ := (congrArg (fun V => V.2.2.2.1) hW).trans (first_wideCodes _ _ _ _ _ _ _ _ _ _ _ _ _ _ _ _ _ _ _ _ _ _ _ _ _ _ _ _ _ _ _ _ _ _ _ _ _ _ _ _ _ _ _ _ _ _)
    have e12 : W.2.2.2.2.1 = _ := (congrArg (fun V => V.2.2.2.2.1) hW).trans (first_laneScales _ _ _ _ _ _ _ _ _ _ _ _ _ _ _ _ _ _ _ _ _ _ _ _ _ _ _ _ _ _ _ _ _ _ _ _ _ _ _ _ _ _ _ _ _ _)
    have e13 : W.2.2.2.2.2.1 = _ := (congrArg (fun V => V.2.2.2.2.2.1) hW).trans (first_words _ _ _ _ _ _ _ _ _ _ _ _ _ _ _ _ _ _ _ _ _ _ _ _ _ _ _ _ _ _ _ _ _ _ _ _ _ _ _ _ _ _ _ _ _ _)
    have e14 : W.2.2.2.2.2.2.1 = _ := (congrArg (fun V => V.2.2.2.2.2.2.1) hW).trans (first_scalePairs _ _ _ _ _ _ _ _ _ _ _ _ _ _ _ _ _ _ _ _ _ _ _ _ _ _ _ _ _ _ _ _ _ _ _ _ _ _ _ _ _ _ _ _ _ _)
    have e16 : W.2.2.2.2.2.2.2.1 = _ := (congrArg (fun V => V.2.2.2.2.2.2.2.1) hW).trans (first_max _ _ _ _ _ _ _ _ _ _ _ _ _ _ _ _ _ _ _ _ _ _ _ _ _ _ _ _ _ _ _ _ _ _ _ _ _ _ _ _ _ _ _ _ _ _)
    have e17 : W.2.2.2.2.2.2.2.2.1 = _ := (congrArg (fun V => V.2.2.2.2.2.2.2.2.1) hW).trans (first_sum _ _ _ _ _ _ _ _ _ _ _ _ _ _ _ _ _ _ _ _ _ _ _ _ _ _ _ _ _ _ _ _ _ _ _ _ _ _ _ _ _ _ _ _ _ _)
    have e18 : W.2.2.2.2.2.2.2.2.2.1 = _ := (congrArg (fun V => V.2.2.2.2.2.2.2.2.2.1) hW).trans (first_cand _ _ _ _ _ _ _ _ _ _ _ _ _ _ _ _ _ _ _ _ _ _ _ _ _ _ _ _ _ _ _ _ _ _ _ _ _ _ _ _ _ _ _ _ _ _)
    have e19 : W.2.2.2.2.2.2.2.2.2.2 = _ := (congrArg (fun V => V.2.2.2.2.2.2.2.2.2.2) hW).trans (first_got _ _ _ _ _ _ _ _ _ _ _ _ _ _ _ _ _ _ _ _ _ _ _ _ _ _ _ _ _ _ _ _ _ _ _ _ _ _ _ _ _ _ _ _ _ _)
    rw [e11, e12, e13, e14, e16, e17, e18, e19]
    subst hW
    refine ⟨⟨hk, hu⟩, ?_, ?_, ?_⟩
    · unfold firstAt
      rw [first_out]
      exact step_out c t₀ f2 _ _ _ _ _ g2 hk
    · unfold firstAt
      rw [first_codes]
      refine value_codes c (funext fun j => ?_)
      rw [eq_ix2 j]
      refine (read_corner (n0 := 32) (n1 := 4096) (m0 := 32) (m1 := 4096) _ _ _ _ (j 0) (j 1) (j 0).isLt (j 1).isLt).trans ?_
      rw [hr]
    · unfold firstAt
      rw [first_scales]
      refine value_xs c (funext fun j => ?_)
      rw [eq_ix2 j]
      refine (read_corner (n0 := 32) (n1 := 1) (m0 := 32) (m1 := 1) _ _ _ _ (j 0) (j 1) (j 0).isLt (j 1).isLt).trans ?_
      rw [hr]
  mid := by
    intro c t h0 h45 f2 f11 f12 f13 f14 f16 f17 f18 f19 g2 hs W hW
    subst hW
    obtain ⟨hk, hu⟩ := hs
    refine ⟨?_, ?_⟩
    · unfold midAt
      rw [mid_max, mid_sum, mid_got]
      exact ⟨hk, step_updated c t f2 f11 f12 f13 f14 f16 f17 f18 f19 g2 hk hu.top hu.sum hu.got _ _ _⟩
    · unfold midAt
      rw [mid_out]
      exact step_out c t f2 f11 f12 f13 f14 f18 g2 hk
  last := by
    intro c t h45 f2 f11 f12 f13 f14 f16 f17 f18 f19 g2 hs W hW
    subst hW
    obtain ⟨hk, hu⟩ := hs
    refine ⟨?_, fun r => ?_, fun r j => ?_⟩
    · unfold lastAt
      rw [last_out]
      exact step_out c t f2 f11 f12 f13 f14 f18 g2 hk
    · unfold lastAt
      rw [last_lse]
      refine (read_corner (n0 := 32) (n1 := 1) (m0 := 32) (m1 := 1) _ _ _ _ r (0 : Fin 1) r.isLt Nat.one_pos).trans ?_
      exact last_lse_value c t f2 f11 f12 f13 f14 f16 f17 f18 f19 g2 hk h45 hu r
    · unfold lastAt
      rw [last_lp]
      refine (read_corner (n0 := 32) (n1 := 60) (m0 := 32) (m1 := 60) _ _ _ _ r j r.isLt j.isLt).trans ?_
      exact last_lp_value c t f2 f11 f12 f13 f14 f16 f17 f18 f19 g2 hk h45 hu r j

end Cert.KernelIdeal.Body

end
-- ==== Proof.KernelIdealBody.Final.lean ====
/-
  The kernel's arrays after every execution: masked logits, codes and scales, as functions of the arguments.
-/
module

public import proofs.«01_k».proof.Proof.KernelIdealBody.Steps
public import Idealize.ShloMosaic.Lib.Pipeline.ArrRel

@[expose] public section

noncomputable section

namespace Cert.KernelIdeal.Body

open Cert.KernelIdeal Cert.KernelIdeal.Gen

open Idealize.ShloMosaic Idealize.ShloMosaic.Pipeline
open Idealize.ShloMosaic.TcCoe

variable {m : (ℓ : Loc nD τ sig) → Buf (Elt Ideal) ℓ}

theorem xsize5_val : ∀ t : Fin cfg0.N, (cfg0.win 5).xsize (grid0.coords t) = ![32, min 2048 (92544 - 2048 * t.val)] := by decide

theorem final_out {r : PUnit × MemSt nD τ sig (Elt Ideal)} (h : Pipeline.RDat.FramePost (cfgs 0) (rdat m (Inv.value m)) (V m) r) (c : Dev nD) :
    r.2.mem ((c.tc : Thread nD τ).loc main_v2_0) = fun y : S32x92544.Idx => masked m c (y 0) (y 1) := by
  obtain ⟨after, hL, hA⟩ := h.exists_exact c
  funext y
  refine (congrFun (hA 5) y).trans ?_
  refine Dat.arrAt_forall_of_cover ((rdat m (Inv.value m) c).withAfter after) 5 (fun (i : S32x92544.Idx) (v : EReal) => v = masked m c (i 0) (i 1)) ?_ ?_ y
  · intro t hf z
    obtain ⟨Y, -, hX⟩ := hL 5 t hf
    have hz0 : (z 0).val < 32 := lt_of_lt_of_eq (z 0).isLt (congrFun (xsize5_val t) 0)
    have hz1 : (z 1).val < min 2048 (92544 - 2048 * t.val) := lt_of_lt_of_eq (z 1).isLt (congrFun (xsize5_val t) 1)
    have hlt : 2048 * t.val + (z 1).val < 92544 := by omega
    have key : after 5 t (ix2 (⟨(z 0).val, hz0⟩ : Fin 32) (⟨(z 1).val, by omega⟩ : Fin 2048)) = masked m c ⟨(z 0).val, hz0⟩ ⟨2048 * t.val + (z 1).val, hlt⟩ :=
      hX _ _ hlt
    have e0 : (((cfg0.win 5).blk t).view.emb z : S32x92544.Idx) 0 = ⟨(z 0).val, hz0⟩ := Fin.ext (by
      show cc0_transform_5 (grid0.coords t) 0 * 32 + 1 * (z 0).val = (z 0).val
      rw [transform5_val]; show 0 * 32 + _ = _; omega)
    have e1 : (((cfg0.win 5).blk t).view.emb z : S32x92544.Idx) 1 = ⟨2048 * t.val + (z 1).val, hlt⟩ := Fin.ext (by
      show cc0_transform_5 (grid0.coords t) 1 * 2048 + 1 * (z 1).val = 2048 * t.val + (z 1).val
      rw [transform5_val]; show t.val * 2048 + _ = _; omega)
    refine Eq.trans ?_ (key.trans (congrArg₂ (masked m c) e0.symm e1.symm))
    show after 5 t _ = after 5 t _
    congr 1
    funext a
    match a with
    | ⟨0, _⟩ => rfl
    | ⟨1, _⟩ => rfl
  · intro i
    have hi0 : (i 0).val < 32 := (i 0).isLt
    have hi1 : (i 1).val < 92544 := (i 1).isLt
    let t : Fin cfg0.N := ⟨(i 1).val / 2048, by show (i 1).val / 2048 < 46; omega⟩
    refine ⟨t, flush0_5 t, Finset.mem_map.mpr ⟨fun a => ⟨(![(i 0).val, (i 1).val % 2048] : Fin 2 → ℕ) a, ?_⟩, Finset.mem_univ _, ?_⟩⟩
    · refine lt_of_lt_of_eq ?_ (congrFun (xsize5_val t) a).symm
      match a with
      | ⟨0, _⟩ => exact hi0
      | ⟨1, _⟩ => show (i 1).val % 2048 < min 2048 (92544 - 2048 * ((i 1).val / 2048)); omega
    · funext a
      match a with
      | ⟨0, _⟩ => exact Fin.ext (by
          show cc0_transform_5 (grid0.coords t) 0 * 32 + 1 * (i 0).val = (i 0).val
          rw [transform5_val]; show 0 * 32 + _ = _; omega)
      | ⟨1, _⟩ => exact Fin.ext (by
          show cc0_transform_5 (grid0.coords t) 1 * 2048 + 1 * ((i 1).val % 2048) = (i 1).val
          rw [transform5_val]; show (i 1).val / 2048 * 2048 + _ = _; omega)

theorem final_lse {r : PUnit × MemSt nD τ sig (Elt Ideal)} (h : Pipeline.RDat.FramePost (cfgs 0) (rdat m (Inv.value m)) (V m) r) (c : Dev nD) :
    r.2.mem ((c.tc : Thread nD τ).loc main_v2_1) = fun y : S32x1.Idx => lseValue m c (y 0) := by
  obtain ⟨after, hL, hA⟩ := h.exists_exact c
  funext y
  refine (congrFun (hA 6) y).trans ?_
  refine Dat.arrAt_forall_of_cover ((rdat m (Inv.value m) c).withAfter after) 6 (fun (y : S32x1.Idx) (v : EReal) => v = lseValue m c (y 0)) ?_ ?_ y
  · intro t hf z
    obtain ⟨Y, -, hX⟩ := hL 6 t hf
    have ht : t.val = 45 := by
      have h46 : t.val < 46 := t.isLt
      have := (flush0_6 t).mp hf
      omega
    have e : (((cfg0.win 6).blk t).view.emb z : S32x1.Idx) = z := by
      funext a
      match a with
      | ⟨0, _⟩ => exact Fin.ext (by show 0 * 32 + 1 * (z 0).val = (z 0).val; omega)
      | ⟨1, _⟩ => exact Fin.ext (by show 0 * 1 + 1 * (z 1).val = (z 1).val; omega)
    show _ = (fun y : S32x1.Idx => lseValue m c (y 0)) (((cfg0.win 6).blk t).view.emb z : S32x1.Idx)
    rw [e]
    have key : ∀ r : Fin 32, after 6 t (ix2 r (0 : Fin 1)) = lseValue m c r := hX ht
    obtain ⟨r, rfl⟩ : ∃ r : Fin 32, z = (ix2 r (0 : Fin 1) : S32x1.Idx) :=
      ⟨z 0, (eq_ix2 (n0 := 32) (n1 := 1) z).trans (congrArg (ix2 _) (Subsingleton.elim (α := Fin 1) _ _))⟩
    exact key r
  · intro i
    have ht : 45 < cfg0.N := by show 45 < 46; omega
    refine ⟨⟨45, ht⟩, (flush0_6 ⟨45, ht⟩).mpr (by show 45 % 46 = 45; omega), Finset.mem_map.mpr ⟨i, Finset.mem_univ _, ?_⟩⟩
    funext a
    match a with
    | ⟨0, _⟩ => exact Fin.ext (by show 0 * 32 + 1 * (i 0).val = (i 0).val; omega)
    | ⟨1, _⟩ => exact Fin.ext (by show 0 * 1 + 1 * (i 1).val = (i 1).val; omega)

theorem final_lp {r : PUnit × MemSt nD τ sig (Elt Ideal)} (h : Pipeline.RDat.FramePost (cfgs 0) (rdat m (Inv.value m)) (V m) r) (c : Dev nD) :
    r.2.mem ((c.tc : Thread nD τ).loc main_v2_2) = fun y : S32x60.Idx => lpValue m c (y 0) (y 1) := by
  obtain ⟨after, hL, hA⟩ := h.exists_exact c
  funext y
  refine (congrFun (hA 7) y).trans ?_
  refine Dat.arrAt_forall_of_cover ((rdat m (Inv.value m) c).withAfter after) 7 (fun (y : S32x60.Idx) (v : EReal) => v = lpValue m c (y 0) (y 1)) ?_ ?_ y
  · intro t hf z
    obtain ⟨Y, -, hX⟩ := hL 7 t hf
    have ht : t.val = 45 := by
      have h46 : t.val < 46 := t.isLt
      have := (flush0_7 t).mp hf
      omega
    have e : (((cfg0.win 7).blk t).view.emb z : S32x60.Idx) = z := by
      funext a
      match a with
      | ⟨0, _⟩ => exact Fin.ext (by show 0 * 32 + 1 * (z 0).val = (z 0).val; omega)
      | ⟨1, _⟩ => exact Fin.ext (by show 0 * 60 + 1 * (z 1).val = (z 1).val; omega)
    show _ = (fun y : S32x60.Idx => lpValue m c (y 0) (y 1)) (((cfg0.win 7).blk t).view.emb z : S32x60.Idx)
    rw [e]
    have key : ∀ (r : Fin 32) (j : Fin 60), after 7 t (ix2 r j) = lpValue m c r j := hX ht
    obtain ⟨r, j, rfl⟩ : ∃ (r : Fin 32) (j : Fin 60), z = (ix2 r j : S32x60.Idx) := ⟨z 0, z 1, eq_ix2 (n0 := 32) (n1 := 60) z⟩
    exact key r j
  · intro i
    have ht : 45 < cfg0.N := by show 45 < 46; omega
    refine ⟨⟨45, ht⟩, (flush0_7 ⟨45, ht⟩).mpr (by show 45 % 46 = 45; omega), Finset.mem_map.mpr ⟨i, Finset.mem_univ _, ?_⟩⟩
    funext a
    match a with
    | ⟨0, _⟩ => exact Fin.ext (by show 0 * 32 + 1 * (i 0).val = (i 0).val; omega)
    | ⟨1, _⟩ => exact Fin.ext (by show 0 * 60 + 1 * (i 1).val = (i 1).val; omega)

theorem final_codes {r : PUnit × MemSt nD τ sig (Elt Ideal)} (h : Pipeline.RDat.FramePost (cfgs 0) (rdat m (Inv.value m)) (V m) r) (c : Dev nD) :
    r.2.mem ((c.tc : Thread nD τ).loc main_v2_3) = codes (inRows m c) := by
  obtain ⟨after, hL, hA⟩ := h.exists_exact c
  funext y
  refine (congrFun (hA 8) y).trans ?_
  refine Dat.arrAt_forall_of_cover ((rdat m (Inv.value m) c).withAfter after) 8 (fun (i : S32x4096.Idx) (v : EReal) => v = codes (inRows m c) i) ?_ ?_ y
  · intro t hf z
    obtain ⟨Y, -, hX⟩ := hL 8 t hf
    have key : after 8 t = codes (inRows m c) := hX
    have e : (((cfg0.win 8).blk t).view.emb z : S32x4096.Idx) = z := by
      funext a
      match a with
      | ⟨0, _⟩ => exact Fin.ext (by show 0 * 32 + 1 * (z 0).val = (z 0).val; omega)
      | ⟨1, _⟩ => exact Fin.ext (by show 0 * 4096 + 1 * (z 1).val = (z 1).val; omega)
    show _ = codes (inRows m c) (((cfg0.win 8).blk t).view.emb z : S32x4096.Idx)
    rw [e, ← key]
    rfl
  · intro i
    have ht : 45 < cfg0.N := by show 45 < 46; omega
    refine ⟨⟨45, ht⟩, (flush0_8 ⟨45, ht⟩).mpr (by show 45 % 46 = 45; omega), Finset.mem_map.mpr ⟨i, Finset.mem_univ _, ?_⟩⟩
    funext a
    match a with
    | ⟨0, _⟩ => exact Fin.ext (by show 0 * 32 + 1 * (i 0).val = (i 0).val; omega)
    | ⟨1, _⟩ => exact Fin.ext (by show 0 * 4096 + 1 * (i 1).val = (i 1).val; omega)

theorem final_scales {r : PUnit × MemSt nD τ sig (Elt Ideal)} (h : Pipeline.RDat.FramePost (cfgs 0) (rdat m (Inv.value m)) (V m) r) (c : Dev nD) :
    r.2.mem ((c.tc : Thread nD τ).loc main_v2_4) = scales (inRows m c) := by
  obtain ⟨after, hL, hA⟩ := h.exists_exact c
  funext y
  refine (congrFun (hA 9) y).trans ?_
  refine Dat.arrAt_forall_of_cover ((rdat m (Inv.value m) c).withAfter after) 9 (fun (i : S32x1.Idx) (v : EReal) => v = scales (inRows m c) i) ?_ ?_ y
  · intro t hf z
    obtain ⟨Y, -, hX⟩ := hL 9 t hf
    have key : after 9 t = scales (inRows m c) := hX
    have e : (((cfg0.win 9).blk t).view.emb z : S32x1.Idx) = z := by
      funext a
      match a with
      | ⟨0, _⟩ => exact Fin.ext (by show 0 * 32 + 1 * (z 0).val = (z 0).val; omega)
      | ⟨1, _⟩ => exact Fin.ext (by show 0 * 1 + 1 * (z 1).val = (z 1).val; omega)
    show _ = scales (inRows m c) (((cfg0.win 9).blk t).view.emb z : S32x1.Idx)
    rw [e, ← key]
    rfl
  · intro i
    have ht : 45 < cfg0.N := by show 45 < 46; omega
    refine ⟨⟨45, ht⟩, (flush0_9 ⟨45, ht⟩).mpr (by show 45 % 46 = 45; omega), Finset.mem_map.mpr ⟨i, Finset.mem_univ _, ?_⟩⟩
    funext a
    match a with
    | ⟨0, _⟩ => exact Fin.ext (by show 0 * 32 + 1 * (i 0).val = (i 0).val; omega)
    | ⟨1, _⟩ => exact Fin.ext (by show 0 * 1 + 1 * (i 1).val = (i 1).val; omega)

end Cert.KernelIdeal.Body

end
-- ==== Proof.Exponent.lean ====
/-
  The exponent a quantiser takes, as numbers: the kernel counts the powers of two not above the ratio and puts the count in an exponent field,
  the reference takes the floor of a logarithm. Both name the same power of two.
-/
module

public import Idealize.ShloMosaic.Lib.Pointwise

@[expose] public section

noncomputable section

namespace Cert.Quantiser

open Idealize.ShloMosaic

/-- A row's largest magnitude. -/
def rowMax (x : (⟨2, ![32, 4096]⟩ : Shape).Idx → EReal) (r : Fin 32) : EReal :=
  Finset.fold max (Ideal.ofBits .f32 0xFF800000#32) (fun k : Fin 4096 => FloatOps.absf (F := Ideal) (φ := .f32) (x (ix2 r k))) Finset.univ

/-! ## The kernel's side -/

/-- The number whose exponent field is `k` and whose fraction is zero. -/
def power (k : ℕ) : EReal := Ideal.ofBits .f32 (IntOp.shli .vector (BitVec.ofNat 32 k) 23#32)

/-- How many of the 256 powers are not above `z`, minus one. -/
def field (z : EReal) : BitVec 32 :=
  IntOp.subi (Finset.fold IntOp.addi (0#32) (fun k : Fin 256 => if z < power k.val then 0#32 else 1#32) Finset.univ) 1#32

/-- The kernel's exponent of the ratio `y`. -/
def exponent (y : EReal) : BitVec 32 :=
  if y = 0 then 0#32 else
    IntOp.subi (IntOp.subi (field (if y < Ideal.ofBits .f32 0x00800000#32 then y * Ideal.ofBits .f32 0x4B000000#32 else y)) 126#32)
      (if y < Ideal.ofBits .f32 0x00800000#32 then 23#32 else 0#32)

/-- The kernel's power of two with exponent `e`. -/
def pow2 (e : BitVec 32) : EReal :=
  Ideal.ofBits .f32 (IntOp.shli .vector (IntOp.minsi 255#32 (IntOp.maxsi 0#32 (IntOp.addi e 127#32))) 23#32)

theorem fields_power : ∀ k : Fin 256, (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

theorem ofBits_of_fields (b : BitVec 32) (k : ℕ) (h1 : 1 ≤ k) (h2 : k < 255) (hs : b.extractLsb' 31 1 = 0#1)
    (he : (b.extractLsb' 23 8).toNat = k) (hf : (b.extractLsb' 0 23).toNat = 0) :
    Ideal.ofBits .f32 b = (((2 : ℝ) ^ ((k : ℤ) - 127) : ℝ) : EReal) := by
  have hs' : (b.extractLsb' (8 + 23) 1 == 1#1) = false := by
    show (b.extractLsb' 31 1 == 1#1) = false
    rw [hs]; rfl
  show Ideal.ieee 8 23 b = _
  unfold Ideal.ieee
  simp only [he, hf, hs']
  rw [if_neg (by omega), if_neg (by omega)]
  congr 1
  have e : ((k : ℤ) - 127 : ℤ) = 23 + ((k : ℤ) - (2 ^ (8 - 1) - 1) - (23 : ℕ)) := by norm_num
  rw [e, zpow_add₀ (by norm_num)]
  norm_num

theorem power_normal (k : ℕ) (h1 : 1 ≤ k) (h2 : k < 255) : power k = (((2 : ℝ) ^ ((k : ℤ) - 127) : ℝ) : EReal) :=
  ofBits_of_fields _ k h1 h2 (fields_power ⟨k, by omega⟩).1 (fields_power ⟨k, by omega⟩).2.1 (fields_power ⟨k, by omega⟩).2.2

theorem power_zero : power 0 = 0 := by
  have e : IntOp.shli .vector (BitVec.ofNat 32 0) 23#32 = 0x00000000#32 := by decide
  rw [power, e]; simp [Ideal.ofBits, Ideal.ieee]

theorem power_last : power 255 = ⊤ := by
  have e : IntOp.shli .vector (BitVec.ofNat 32 255) 23#32 = 0x7F800000#32 := by decide
  rw [power, e]; simp [Ideal.ofBits, Ideal.ieee]

/-- A number below its power, told from where it lies between two powers. -/
theorem lt_power_iff (r : ℝ) (n : ℤ) (hn : -126 ≤ n) (hn' : n ≤ 127) (h1 : (2 : ℝ) ^ n ≤ r) (h2 : r < (2 : ℝ) ^ (n + 1)) (k : Fin 256) :
    (r : EReal) < power k.val ↔ n + 127 < (k.val : ℤ) := by
  have hk := k.isLt
  have hpos : (0 : ℝ) < r := lt_of_lt_of_le (zpow_pos (by norm_num) n) h1
  by_cases h0 : k.val = 0
  · rw [h0, power_zero]
    constructor
    · intro h; exact absurd (EReal.coe_lt_coe_iff.1 h) (not_lt.2 hpos.le)
    · intro h; exfalso; push_cast at h; omega
  by_cases h255 : k.val = 255
  · rw [h255, power_last]
    exact ⟨fun _ => by push_cast; omega, fun _ => EReal.coe_lt_top r⟩
  rw [power_normal k.val (by omega) (by omega), EReal.coe_lt_coe_iff]
  constructor
  · intro h
    have := (zpow_lt_zpow_iff_right₀ (one_lt_two : (1 : ℝ) < 2)).1 (lt_of_le_of_lt h1 h)
    omega
  · intro h
    exact lt_of_lt_of_le h2 (zpow_le_zpow_right₀ one_le_two (by omega))

theorem count_upto : ∀ N : Fin 256,
    Finset.fold IntOp.addi (0#32) (fun k : Fin 256 => if N.val < k.val then 0#32 else 1#32) Finset.univ = BitVec.ofNat 32 (N.val + 1) := by
  decide +kernel

theorem field_eq (r : ℝ) (n : ℤ) (hn : -126 ≤ n) (hn' : n ≤ 127) (h1 : (2 : ℝ) ^ n ≤ r) (h2 : r < (2 : ℝ) ^ (n + 1)) :
    field (r : EReal) = BitVec.ofInt 32 (n + 127) := by
  obtain ⟨N, hN⟩ : ∃ N : ℕ, (N : ℤ) = n + 127 := ⟨(n + 127).toNat, by omega⟩
  have hf : (fun k : Fin 256 => if (r : EReal) < power k.val then 0#32 else 1#32)
      = fun k : Fin 256 => if N < k.val then 0#32 else 1#32 := by
    funext k
    refine if_congr ?_ rfl rfl
    rw [lt_power_iff r n hn hn' h1 h2 k]
    omega
  have hc : Finset.fold IntOp.addi (0#32) (fun k : Fin 256 => if N < k.val then 0#32 else 1#32) Finset.univ = BitVec.ofNat 32 (N + 1) :=
    count_upto ⟨N, by omega⟩
  unfold field
  rw [hf, hc, ← hN]
  show BitVec.ofNat 32 (N + 1) - 1#32 = BitVec.ofInt 32 (N : ℤ)
  rw [BitVec.ofInt_natCast, BitVec.ofNat_add]
  exact BitVec.add_sub_cancel _ _

theorem smallest_normal : Ideal.ofBits .f32 0x00800000#32 = (((2 : ℝ) ^ (-126 : ℤ) : ℝ) : EReal) := by
  have e : IntOp.shli .vector (BitVec.ofNat 32 1) 23#32 = 0x00800000#32 := by decide
  rw [← e]; exact (power_normal 1 le_rfl (by norm_num)).trans (by norm_num)

theorem mantissa_shift : Ideal.ofBits .f32 0x4B000000#32 = (((2 : ℝ) ^ (23 : ℤ) : ℝ) : EReal) := by
  have e : IntOp.shli .vector (BitVec.ofNat 32 150) 23#32 = 0x4B000000#32 := by decide
  rw [← e]; exact (power_normal 150 (by norm_num) (by norm_num)).trans (by norm_num)

/-- The kernel's exponent of a positive ratio between two powers of two. -/
theorem exponent_eq (r : ℝ) (e : ℤ) (he : -126 ≤ e) (he' : e ≤ 126) (h1 : (2 : ℝ) ^ (e - 1) ≤ r) (h2 : r < (2 : ℝ) ^ e) :
    exponent (r : EReal) = BitVec.ofInt 32 e := by
  have hpos : (0 : ℝ) < r := lt_of_lt_of_le (zpow_pos (by norm_num) _) h1
  have hr0 : (r : EReal) ≠ 0 := by exact_mod_cast hpos.ne'
  unfold exponent
  rw [if_neg hr0, smallest_normal, mantissa_shift]
  by_cases hs : r < (2 : ℝ) ^ (-126 : ℤ)
  · have hlow := (zpow_lt_zpow_iff_right₀ (one_lt_two : (1 : ℝ) < 2)).1 (lt_of_le_of_lt h1 hs)
    rw [if_pos (EReal.coe_lt_coe_iff.2 hs), if_pos (EReal.coe_lt_coe_iff.2 hs), ← EReal.coe_mul,
      field_eq (r * (2 : ℝ) ^ (23 : ℤ)) (e + 22) (by omega) (by omega) ?_ ?_]
    · show BitVec.ofInt 32 (e + 22 + 127) - 126#32 - 23#32 = BitVec.ofInt 32 e
      rw [show e + 22 + 127 = e + 149 from by ring, BitVec.ofInt_add]
      have : BitVec.ofInt 32 149 = 126#32 + 23#32 := by decide
      rw [this]
      generalize BitVec.ofInt 32 e = b
      rw [BitVec.add_comm 126#32, ← BitVec.add_assoc, BitVec.add_sub_cancel, BitVec.add_sub_cancel]
    · rw [show e + 22 = (e - 1) + 23 from by ring, zpow_add₀ (by norm_num)]
      exact mul_le_mul_of_nonneg_right h1 (by positivity)
    · rw [show e + 22 + 1 = e + 23 from by ring, zpow_add₀ (by norm_num)]
      exact mul_lt_mul_of_pos_right h2 (by positivity)
  · have hn : -126 ≤ e - 1 := by
      by_contra hc
      exact hs (lt_of_lt_of_le h2 (zpow_le_zpow_right₀ one_le_two (by omega)))
    rw [if_neg (by rw [EReal.coe_lt_coe_iff]; exact hs), if_neg (by rw [EReal.coe_lt_coe_iff]; exact hs),
      field_eq r (e - 1) hn (by omega) h1 (by rw [sub_add_cancel]; exact h2)]
    show BitVec.ofInt 32 (e - 1 + 127) - 126#32 - 0#32 = BitVec.ofInt 32 e
    rw [show e - 1 + 127 = e + 126 from by ring, BitVec.ofInt_add]
    have : BitVec.ofInt 32 126 = 126#32 := by decide
    rw [this, BitVec.sub_zero, BitVec.add_sub_cancel]

theorem biased : ∀ k : Fin 254,
    IntOp.minsi 255#32 (IntOp.maxsi 0#32 (IntOp.addi (BitVec.ofInt 32 ((k.val : ℤ) - 126)) 127#32)) = BitVec.ofNat 32 (k.val + 1) := by
  decide +kernel

theorem pow2_eq (e : ℤ) (he : -126 ≤ e) (he' : e ≤ 127) : pow2 (BitVec.ofInt 32 e) = (((2 : ℝ) ^ e : ℝ) : EReal) := by
  obtain ⟨k, hk⟩ : ∃ k : ℕ, (k : ℤ) = e + 126 := ⟨(e + 126).toNat, by omega⟩
  have hb : IntOp.minsi 255#32 (IntOp.maxsi 0#32 (IntOp.addi (BitVec.ofInt 32 ((k : ℤ) - 126)) 127#32)) = BitVec.ofNat 32 (k + 1) :=
    biased ⟨k, by omega⟩
  rw [show (k : ℤ) - 126 = e from by omega] at hb
  rw [pow2, hb]
  refine (power_normal (k + 1) (by omega) (by omega)).trans ?_
  rw [show ((k + 1 : ℕ) : ℤ) - 127 = e from by push_cast; omega]

theorem pow2_neg_eq (e : ℤ) (he : -127 ≤ e) (he' : e ≤ 126) :
    pow2 (IntOp.subi 0#32 (BitVec.ofInt 32 e)) = (((2 : ℝ) ^ (-e) : ℝ) : EReal) := by
  have : IntOp.subi 0#32 (BitVec.ofInt 32 e) = BitVec.ofInt 32 (-e) := by
    show 0#32 - BitVec.ofInt 32 e = _
    rw [BitVec.ofInt_neg]; simp
  rw [this, pow2_eq (-e) (by omega) (by omega)]

/-! ## The reference's side -/

/-- The reference's exponent of a ratio: the floor of its logarithm to base two, plus one. -/
def refExponent (y : EReal) : EReal :=
  Ideal.liftRound Int.floor (Ideal.div (Ideal.log y) (Ideal.log (Ideal.ofBits .f32 0x40000000#32))) + Ideal.ofBits .f32 0x3F800000#32

theorem two_eq : Ideal.ofBits .f32 0x40000000#32 = ((2 : ℝ) : EReal) := by
  have e : IntOp.shli .vector (BitVec.ofNat 32 128) 23#32 = 0x40000000#32 := by decide
  rw [← e]; exact (power_normal 128 (by norm_num) (by norm_num)).trans (by norm_num)

theorem one_eq : Ideal.ofBits .f32 0x3F800000#32 = ((1 : ℝ) : EReal) := by
  have e : IntOp.shli .vector (BitVec.ofNat 32 127) 23#32 = 0x3F800000#32 := by decide
  rw [← e]; exact (power_normal 127 (by norm_num) (by norm_num)).trans (by norm_num)

theorem refExponent_eq (r : ℝ) (e : ℤ) (h1 : (2 : ℝ) ^ (e - 1) ≤ r) (h2 : r < (2 : ℝ) ^ e) :
    refExponent (r : EReal) = (((e : ℤ) : ℝ) : EReal) := by
  have hpos : (0 : ℝ) < r := lt_of_lt_of_le (zpow_pos (by norm_num) _) h1
  have hl0 : 0 < Real.log 2 := Real.log_pos one_lt_two
  have hl : Real.log 2 ≠ 0 := hl0.ne'
  have hfl : ⌊Real.log r * (Real.log 2)⁻¹⌋ = e - 1 := by
    rw [← div_eq_mul_inv, Int.floor_eq_iff]
    constructor
    · rw [le_div_iff₀ hl0, ← Real.log_zpow]
      exact Real.log_le_log (zpow_pos (by norm_num) _) h1
    · have : ((e - 1 : ℤ) : ℝ) + 1 = ((e : ℤ) : ℝ) := by push_cast; ring
      rw [this, div_lt_iff₀ hl0, ← Real.log_zpow]
      exact Real.log_lt_log hpos h2
  unfold refExponent
  rw [two_eq, one_eq, Ideal.log_coe, Ideal.log_coe, if_neg (not_le.2 hpos), if_neg (by norm_num), Ideal.div,
    if_neg (by exact_mod_cast hl), ← EReal.coe_inv, ← EReal.coe_mul]
  show ((⌊Real.log r * (Real.log 2)⁻¹⌋ : ℝ) : EReal) + _ = _
  rw [hfl, ← EReal.coe_add]
  congr 1
  push_cast; ring

theorem exp2_int (e : ℤ) : Ideal.exp2 (((e : ℤ) : ℝ) : EReal) = (((2 : ℝ) ^ e : ℝ) : EReal) := by
  rw [Ideal.exp2_coe]
  congr 1
  exact Real.rpow_intCast 2 e

/-! ## Both -/

/-- The binade of a ratio that a scale can hold. -/
theorem exists_binade (r : ℝ) (h1 : (2 : ℝ) ^ (-127 : ℤ) ≤ r) (h2 : r < (2 : ℝ) ^ (126 : ℤ)) :
    ∃ e : ℤ, -126 ≤ e ∧ e ≤ 126 ∧ (2 : ℝ) ^ (e - 1) ≤ r ∧ r < (2 : ℝ) ^ e := by
  have hpos : (0 : ℝ) < r := lt_of_lt_of_le (zpow_pos (by norm_num) _) h1
  obtain ⟨n, hn, hn'⟩ := exists_mem_Ico_zpow hpos (one_lt_two : (1 : ℝ) < 2)
  have a := (zpow_lt_zpow_iff_right₀ (one_lt_two : (1 : ℝ) < 2)).1 (lt_of_le_of_lt h1 hn')
  have b := (zpow_lt_zpow_iff_right₀ (one_lt_two : (1 : ℝ) < 2)).1 (lt_of_le_of_lt hn h2)
  exact ⟨n + 1, by omega, by omega, by rw [add_sub_cancel_right]; exact hn, hn'⟩

/-- The kernel's scale and its inverse are the reference's, at a ratio that a scale can hold. -/
theorem scale_eq (r : ℝ) (h1 : (2 : ℝ) ^ (-127 : ℤ) ≤ r) (h2 : r < (2 : ℝ) ^ (126 : ℤ)) :
    pow2 (exponent (r : EReal)) = Ideal.exp2 (refExponent (r : EReal))
      ∧ pow2 (IntOp.subi 0#32 (exponent (r : EReal))) = Ideal.exp2 (0 - refExponent (r : EReal)) := by
  obtain ⟨e, he, he', b1, b2⟩ := exists_binade r h1 h2
  rw [exponent_eq r e he he' b1 b2, refExponent_eq r e b1 b2, pow2_eq e he (by omega), pow2_neg_eq e (by omega) he', exp2_int]
  refine ⟨rfl, ?_⟩
  rw [zero_sub, ← EReal.coe_neg, ← Int.cast_neg, exp2_int]

/-- The same at the ratio 0. -/
theorem scale_eq_zero :
    pow2 (exponent 0) = Ideal.exp2 0 ∧ pow2 (IntOp.subi 0#32 (exponent 0)) = Ideal.exp2 (0 - 0) := by
  have e0 : exponent 0 = BitVec.ofInt 32 0 := by rw [exponent, if_pos rfl]; decide
  have h : Ideal.exp2 0 = (((2 : ℝ) ^ (0 : ℤ) : ℝ) : EReal) := by
    have := exp2_int 0
    simpa using this
  rw [e0, sub_zero, pow2_eq 0 (by norm_num) (by norm_num), pow2_neg_eq 0 (by norm_num) (by norm_num), h]
  exact ⟨rfl, rfl⟩

end Cert.Quantiser

end
-- ==== Proof.KernelIdealBody.Quantise.lean ====
/-
  The kernel's quantiser element by element: a row's scale and its codes from the row's largest magnitude.
-/
module

public import proofs.«01_k».proof.Proof.KernelIdealBody.Init
public import proofs.«01_k».proof.Proof.Exponent

@[expose] public section

noncomputable section

namespace Cert.KernelIdeal.Body

open Cert.KernelIdeal Cert.KernelIdeal.Gen

open Idealize.ShloMosaic

theorem ratio_apply (x : FVec Ideal S32x4096 .bf16) (r : Fin 32) :
    ratio x (ix2 r (0 : Fin 1)) = Quantiser.rowMax x r * Ideal.ofBits .f32 0x3B124925#32 := by
  pointwise [ratio, wide]
  rfl

theorem field_apply (y : FVec Ideal S32x1 .f32) (r : Fin 32) : field y (ix2 r (0 : Fin 1)) = Quantiser.field (y (ix2 r (0 : Fin 1))) := by
  pointwise [field, powers]
  rfl

theorem expo_apply (y : FVec Ideal S32x1 .f32) (r : Fin 32) : expo y (ix2 r (0 : Fin 1)) = Quantiser.exponent (y (ix2 r (0 : Fin 1))) := by
  pointwise [expo, small]
  rw [field_apply]
  pointwise
  rfl

theorem pow2_apply (e : IVec S32x1 32) (r : Fin 32) : pow2 (F := Ideal) e (ix2 r (0 : Fin 1)) = Quantiser.pow2 (e (ix2 r (0 : Fin 1))) := by
  pointwise [pow2]
  rfl

theorem scales_apply (x : FVec Ideal S32x4096 .bf16) (r : Fin 32) :
    scales x (ix2 r (0 : Fin 1)) = Quantiser.pow2 (Quantiser.exponent (Quantiser.rowMax x r * Ideal.ofBits .f32 0x3B124925#32)) := by
  rw [scales, pow2_apply, expo_apply, ratio_apply]

theorem codes_apply (x : FVec Ideal S32x4096 .bf16) (r : Fin 32) (k : Fin 4096) :
    codes x (ix2 r k) = min (Ideal.ofBits .f32 0x43E00000#32) (max (Ideal.ofBits .f32 0xC3E00000#32)
      (x (ix2 r k) * Quantiser.pow2 (IntOp.subi 0#32 (Quantiser.exponent (Quantiser.rowMax x r * Ideal.ofBits .f32 0x3B124925#32))))) := by
  pointwise [codes, wide]
  rw [pow2_apply]
  pointwise
  rw [expo_apply, ratio_apply]

end Cert.KernelIdeal.Body

end
-- ==== Proof.ReferenceLse.lean ====
/-
  The reference's log-sum-exp of a row of logits, element by element.
-/
module

public import proofs.«01_k».proof.Proof.Gen.ReferenceIdeal.Frame
public import proofs.«01_k».proof.Proof.LogSumExp

@[expose] public section

noncomputable section

namespace Cert.ReferenceIdeal.Body

open Cert.ReferenceIdeal Cert.ReferenceIdeal.Gen

open Idealize.ShloMosaic

/-- A row's largest element. -/
def rowTop (z : FVec Ideal S32x92544 .f32) : FVec Ideal S32x1 .f32 :=
  shapeCast S32x1 (multiReduction .maximumf [1] S32 z 0xFF800000#32 reduces_S32x92544_S32 (.inl rfl) rfl) shapeCasts_S32_S32x1

/-- A row's sum. -/
def rowSum (z : FVec Ideal S32x92544 .f32) : FVec Ideal S32x1 .f32 :=
  shapeCast S32x1 (multiReduction .add [1] S32 z 0x00000000#32 reduces_S32x92544_S32 (.inl rfl) rfl) shapeCasts_S32_S32x1

/-- Zero in place of minus infinity. -/
def guard (M : FVec Ideal S32x1 .f32) : FVec Ideal S32x1 .f32 :=
  select (cmpf .oeq M (broadcast S32x1 (Scalar.ofBits .f32 0xFF800000#32))) (broadcast S32x1 (Scalar.ofBits .f32 0x00000000#32)) M

/-- The exponentials below a row's guarded maximum. -/
def below (z : FVec Ideal S32x92544 .f32) (T : FVec Ideal S32x1 .f32) : FVec Ideal S32x92544 .f32 :=
  exp (subf z (broadcastTo S32x92544 T broadcasts_S32x1_S32x92544))

theorem rowTop_apply (z : FVec Ideal S32x92544 .f32) (r : Fin 32) :
    rowTop z (ix2 r (0 : Fin 1)) = Finset.univ.sup fun v : Fin 92544 => z (ix2 r v) := by
  pointwise [rowTop]
  rw [LogSumExp.neg_inf, LogSumExp.fold_max]

theorem rowSum_apply (z : FVec Ideal S32x92544 .f32) (r : Fin 32) :
    rowSum z (ix2 r (0 : Fin 1)) = ∑ v : Fin 92544, z (ix2 r v) := by
  pointwise [rowSum]

theorem guard_apply (M : FVec Ideal S32x1 .f32) (r : Fin 32) :
    guard M (ix2 r (0 : Fin 1)) = if M (ix2 r (0 : Fin 1)) = ⊥ then 0 else M (ix2 r (0 : Fin 1)) := by
  pointwise [guard]
  rw [LogSumExp.neg_inf]

theorem below_apply (z : FVec Ideal S32x92544 .f32) (T : FVec Ideal S32x1 .f32) (r : Fin 32) (v : Fin 92544) :
    below z T (ix2 r v) = Ideal.exp (z (ix2 r v) - T (ix2 r (0 : Fin 1))) := by
  pointwise [below]

/-- A row's log-sum-exp. -/
def lseOf (z : FVec Ideal S32x92544 .f32) : FVec Ideal S32x1 .f32 :=
  addf (log (rowSum (below z (guard (rowTop z))))) (guard (rowTop z))

theorem addf_log (S T : FVec Ideal S32x1 .f32) (r : Fin 32) :
    addf (log S) T (ix2 r (0 : Fin 1)) = Ideal.log (S (ix2 r (0 : Fin 1))) + T (ix2 r (0 : Fin 1)) := by
  pointwise

theorem lseOf_apply (z : FVec Ideal S32x92544 .f32) (r : Fin 32) :
    lseOf z (ix2 r (0 : Fin 1)) = Ideal.log (∑ v : Fin 92544, Ideal.exp (z (ix2 r v) - guard (rowTop z) (ix2 r (0 : Fin 1))))
      + guard (rowTop z) (ix2 r (0 : Fin 1)) := by
  have e : rowSum (below z (guard (rowTop z))) (ix2 r (0 : Fin 1)) = ∑ v : Fin 92544, Ideal.exp (z (ix2 r v) - guard (rowTop z) (ix2 r (0 : Fin 1))) := by
    rw [rowSum_apply]
    simp only [below_apply]
  rw [← e]
  unfold lseOf
  generalize rowSum (below z (guard (rowTop z))) = S
  generalize guard (rowTop z) = T
  exact addf_log S T r

/-- One logit in place, minus infinity where the mask does not allow its column. -/
def reachAll (a : FVec Ideal S32x92544 .f32) (b : IVec S32x92544 1) : FVec Ideal S32x92544 .f32 :=
  select b a (broadcast S32x92544 (Scalar.ofBits .f32 0xFF800000#32))

theorem reachAll_apply (a : FVec Ideal S32x92544 .f32) (b : IVec S32x92544 1) (r : Fin 32) (v : Fin 92544) :
    reachAll a b (ix2 r v) = Scalar.select (b (ix2 r v)) (a (ix2 r v)) ⊥ := by
  rw [← LogSumExp.neg_inf]
  pointwise [reachAll]

theorem pay11_eq (a : FVec Ideal S32x4096 .fp8e4m3) (s : FVec Ideal S32x1 .f32) (w ws : FVec Ideal S32x128x723x128 .bf16) (bm : IVec S32x2892 32) :
    k0_pay11 (F := Ideal) a s w ws bm = lseOf (reachAll (k0_pay8 (F := Ideal) a s w ws) (k0_pay9 (F := Ideal) bm)) := rfl

end Cert.ReferenceIdeal.Body

end
-- ==== Proof.Reference.lean ====
/-
  The reference's values, element by element.
-/
module

public import proofs.«01_k».proof.Proof.Gen.ReferenceIdeal.Frame
public import proofs.«01_k».proof.Proof.Exponent
public import proofs.«01_k».proof.Proof.ReferenceLse
public import Idealize.ShloMosaic.Lib.MatmulPlain

@[expose] public section

noncomputable section

namespace Cert.ReferenceIdeal.Body

open Cert.ReferenceIdeal Cert.ReferenceIdeal.Gen

open Idealize.ShloMosaic Idealize.ShloMosaic.Pipeline
open Idealize.ShloMosaic.TcCoe

/-! ## The body's values -/

/-- The exponent of a row: 0 for a row of zeros. -/
def expo (x : FVec Ideal S32x4096 .bf16) (r : Fin 32) : EReal :=
  if Quantiser.rowMax x r = 0 then 0 else Quantiser.refExponent (Quantiser.rowMax x r * Ideal.ofBits .f32 0x3B124925#32)

/-- One code. -/
def code (x : FVec Ideal S32x4096 .bf16) (r : Fin 32) (k : Fin 4096) : EReal :=
  min (Ideal.ofBits .f32 0x43E00000#32) (max (Ideal.ofBits .f32 0xC3E00000#32) (x (ix2 r k) * Ideal.exp2 (0 - expo x r)))

/-- One logit. -/
def logit (x : FVec Ideal S32x4096 .bf16) (w : FVec Ideal S4096x92544 .fp8e4m3) (ws : FVec Ideal S32x723 .f32) (r : Fin 32) (v : Fin 92544) : EReal :=
  (∑ k : Fin 4096, code x r k * (w (ix2 k v) * ws (ix2 (⟨k.val / 128, by omega⟩ : Fin 32) (⟨v.val / 128, by omega⟩ : Fin 723))))
    * Ideal.exp2 (expo x r)

/-- Whether the mask allows a column. -/
def allows (bm : IVec S32x2892 32) (r : Fin 32) (v : Fin 92544) : BitVec 1 :=
  IntOp.cmpi .eq (IntOp.andi (IntOp.shrsi .vector (bm (ix2 r (⟨v.val / 32, by omega⟩ : Fin 2892))) (BitVec.ofNat 32 (v.val % 32))) 1#32) 1#32

/-- One logit, at zero where the mask does not allow the column. -/
def masked (x : FVec Ideal S32x4096 .bf16) (w : FVec Ideal S4096x92544 .fp8e4m3) (ws : FVec Ideal S32x723 .f32) (bm : IVec S32x2892 32)
    (r : Fin 32) (v : Fin 92544) : EReal :=
  Scalar.select (allows bm r v) (logit x w ws r v) 0

/-- One logit, at minus infinity where the mask does not allow the column. -/
def reach (x : FVec Ideal S32x4096 .bf16) (w : FVec Ideal S4096x92544 .fp8e4m3) (ws : FVec Ideal S32x723 .f32) (bm : IVec S32x2892 32)
    (r : Fin 32) (v : Fin 92544) : EReal :=
  Scalar.select (allows bm r v) (logit x w ws r v) ⊥

/-- A row's largest logit, or 0 for a row without one. -/
def top (x : FVec Ideal S32x4096 .bf16) (w : FVec Ideal S4096x92544 .fp8e4m3) (ws : FVec Ideal S32x723 .f32) (bm : IVec S32x2892 32) (r : Fin 32) : EReal :=
  if Finset.univ.sup (reach x w ws bm r) = ⊥ then 0 else Finset.univ.sup (reach x w ws bm r)

/-- A row's log-sum-exp. -/
def lse (x : FVec Ideal S32x4096 .bf16) (w : FVec Ideal S4096x92544 .fp8e4m3) (ws : FVec Ideal S32x723 .f32) (bm : IVec S32x2892 32) (r : Fin 32) : EReal :=
  Ideal.log (∑ v : Fin 92544, Ideal.exp (reach x w ws bm r v - top x w ws bm r)) + top x w ws bm r

theorem expo_apply (x : FVec Ideal S32x4096 .bf16) (r : Fin 32) : k0_pay3 (F := Ideal) x (ix2 r (0 : Fin 1)) = expo x r := by
  unfold expo Quantiser.refExponent
  rw [show Ideal.ofBits .f32 0x3F800000#32 = 1 from by rw [Quantiser.one_eq]; rfl]
  pointwise [k0_pay3, k0_pay2]
  rfl

theorem code_apply (x : FVec Ideal S32x4096 .bf16) (r : Fin 32) (k : Fin 4096) : k0_pay4 (F := Ideal) x (ix2 r k) = code x r k := by
  pointwise [k0_pay4, k0_pay2]
  rw [expo_apply]
  rfl

theorem scale_apply (x : FVec Ideal S32x4096 .bf16) (r : Fin 32) : k0_pay5 (F := Ideal) x (ix2 r (0 : Fin 1)) = Ideal.exp2 (expo x r) := by
  pointwise [k0_pay5]
  rw [expo_apply]
  rfl

section Values

variable (x : FVec Ideal S32x4096 .bf16) (w : FVec Ideal S4096x92544 .fp8e4m3) (ws : FVec Ideal S32x723 .f32) (bm : IVec S32x2892 32) (cd : IVec S32x60 32)

theorem logit_apply (r : Fin 32) (v : Fin 92544) :
    k0_pay8 (F := Ideal) (k0_pay4 x) (k0_pay5 x) (k0_pay6 w) (k0_pay7 ws) (ix2 r v) = logit x w ws r v := by
  pointwise [k0_pay8, k0_pay6, k0_pay7]
  rw [scale_apply]
  simp only [code_apply]
  rfl

theorem allows_apply (r : Fin 32) (v : Fin 92544) : k0_pay9 (F := Ideal) bm (ix2 r v) = allows bm r v := by
  pointwise [k0_pay9]
  rfl

theorem masked_apply (r : Fin 32) (v : Fin 92544) :
    k0_pay10 (F := Ideal) (k0_pay4 x) (k0_pay5 x) (k0_pay6 w) (k0_pay7 ws) bm (ix2 r v) = masked x w ws bm r v := by
  unfold masked
  pointwise [k0_pay10]
  rw [logit_apply, allows_apply]

theorem reach_eq (r : Fin 32) (v : Fin 92544) : Scalar.select (allows bm r v) (logit x w ws r v) ⊥ = reach x w ws bm r v := rfl

theorem lse_apply (r : Fin 32) :
    k0_pay11 (F := Ideal) (k0_pay4 x) (k0_pay5 x) (k0_pay6 w) (k0_pay7 ws) bm (ix2 r (0 : Fin 1)) = lse x w ws bm r := by
  have e : ∀ v : Fin 92544, reachAll (k0_pay8 (F := Ideal) (k0_pay4 x) (k0_pay5 x) (k0_pay6 w) (k0_pay7 ws)) (k0_pay9 (F := Ideal) bm) (ix2 r v)
      = reach x w ws bm r v := fun v => by
    rw [reachAll_apply, logit_apply, allows_apply, reach_eq]
  rw [pay11_eq, lseOf_apply, guard_apply, rowTop_apply]
  simp only [e]
  unfold lse top
  by_cases h : Finset.univ.sup (reach x w ws bm r) = ⊥
  · rw [if_pos h]
  · rw [if_neg h]

/-- One candidate's log-probability: the sum over the columns of that of the candidate's own. -/
def lp (r : Fin 32) (j : Fin 60) : EReal :=
  ∑ v : Fin 92544, Scalar.select (IntOp.cmpi .eq (BitVec.ofNat 32 v.val) (cd (ix2 r j)))
    (Scalar.select (allows bm r v) (logit x w ws r v - lse x w ws bm r) 0) (0 : EReal)

theorem lp_apply (r : Fin 32) (j : Fin 60) :
    k0_pay1 (F := Ideal) (k0_pay8 (k0_pay4 x) (k0_pay5 x) (k0_pay6 w) (k0_pay7 ws)) (k0_pay9 (F := Ideal) bm)
        (k0_pay11 (k0_pay4 x) (k0_pay5 x) (k0_pay6 w) (k0_pay7 ws) bm) (iota .tc S32x60x92544 32 [2] iota_S32x60x92544_d2_w32)
        (k0_pay12 (F := Ideal) cd) (ix2 r j)
      = lp x w ws bm cd r j := by
  pointwise [k0_pay1, k0_pay12]
  simp only [logit_apply, allows_apply, lse_apply]
  unfold lp
  with_reducible rfl

end Values

theorem corner : (![0, 0] : Fin 2 → ℕ) = fun _ => 0 := by
  funext a
  match a with
  | ⟨0, _⟩ => rfl
  | ⟨1, _⟩ => rfl

section Outputs

variable (x : FVec Ideal S32x4096 .bf16) (w : FVec Ideal S4096x92544 .fp8e4m3) (ws : FVec Ideal S32x723 .f32) (bm : IVec S32x2892 32) (cd : IVec S32x60 32)

theorem out5_eq (r : Fin 32) (v : Fin 92544) :
    out0_5 (F := Ideal) x w ws bm cd (ix2 r v) = masked x w ws bm r v := by
  unfold_out out0_5
  rw [View.canon_unit_zero corner, View.ld_unit_zero corner, View.ld_unit_zero corner, View.ld_unit_zero corner, View.ld_unit_zero corner]
  exact masked_apply x w ws bm r v

theorem out6_eq (r : Fin 32) : out0_6 (F := Ideal) x w ws bm cd (ix2 r (0 : Fin 1)) = lse x w ws bm r := by
  unfold_out out0_6
  rw [View.canon_unit_zero corner, View.ld_unit_zero corner, View.ld_unit_zero corner, View.ld_unit_zero corner, View.ld_unit_zero corner]
  exact lse_apply x w ws bm r

theorem out7_eq (r : Fin 32) (j : Fin 60) : out0_7 (F := Ideal) x w ws bm cd (ix2 r j) = lp x w ws bm cd r j := by
  unfold_out out0_7
  rw [View.canon_unit_zero corner, View.ld_unit_zero corner, View.ld_unit_zero corner, View.ld_unit_zero corner, View.ld_unit_zero corner,
    View.ld_unit_zero corner]
  exact lp_apply x w ws bm cd r j

theorem out8_eq : out0_8 (F := Ideal) x w ws bm cd = k0_pay4 (F := Ideal) x := by
  unfold out0_8
  rw [View.canon_unit_zero corner, View.ld_unit_zero corner]

theorem out9_eq : out0_9 (F := Ideal) x w ws bm cd = k0_pay5 (F := Ideal) x := by
  unfold out0_9
  rw [View.canon_unit_zero corner, View.ld_unit_zero corner]

end Outputs

end Cert.ReferenceIdeal.Body

end
-- ==== Proof.ReferenceFinal.lean ====
/-
  The reference's arrays after every execution.
-/
module

public import proofs.«01_k».proof.Proof.Reference
public import Idealize.ShloMosaic.Lib.Pipeline.ArrRel

@[expose] public section

noncomputable section

namespace Cert.ReferenceIdeal.Body

open Cert.ReferenceIdeal Cert.ReferenceIdeal.Gen

open Idealize.ShloMosaic Idealize.ShloMosaic.Pipeline
open Idealize.ShloMosaic.TcCoe

/-! ## The arrays -/

section Arrays

variable (m : (ℓ : Loc nD τ sig) → Buf (Elt Ideal) ℓ)

def inRows (c : Dev nD) : FVec Ideal S32x4096 .bf16 := V m c main_v0
def inWeights (c : Dev nD) : FVec Ideal S4096x92544 .fp8e4m3 := V m c main_arg1
def inScales (c : Dev nD) : FVec Ideal S32x723 .f32 := V m c main_arg2
def inMask (c : Dev nD) : IVec S32x2892 32 := V m c main_arg3
def inCand (c : Dev nD) : IVec S32x60 32 := V m c main_v1

theorem block_rows (c : Dev nD) (t : Fin cfg0.N) : (iblk m c 0 t : S32x4096.Idx → EReal) = inRows m c := by
  funext j
  show V m c main_v0 _ = V m c main_v0 j
  congr 1
  funext a
  match a with
  | ⟨0, _⟩ => exact Fin.ext (by show 0 * 32 + 1 * (j 0).val = (j 0).val; omega)
  | ⟨1, _⟩ => exact Fin.ext (by show 0 * 4096 + 1 * (j 1).val = (j 1).val; omega)

theorem block_weights (c : Dev nD) (t : Fin cfg0.N) : (iblk m c 1 t : S4096x92544.Idx → EReal) = inWeights m c := by
  funext j
  show V m c main_arg1 _ = V m c main_arg1 j
  congr 1
  funext a
  match a with
  | ⟨0, _⟩ => exact Fin.ext (by show 0 * 4096 + 1 * (j 0).val = (j 0).val; omega)
  | ⟨1, _⟩ => exact Fin.ext (by show 0 * 92544 + 1 * (j 1).val = (j 1).val; omega)

theorem block_scales (c : Dev nD) (t : Fin cfg0.N) : (iblk m c 2 t : S32x723.Idx → EReal) = inScales m c := by
  funext j
  show V m c main_arg2 _ = V m c main_arg2 j
  congr 1
  funext a
  match a with
  | ⟨0, _⟩ => exact Fin.ext (by show 0 * 32 + 1 * (j 0).val = (j 0).val; omega)
  | ⟨1, _⟩ => exact Fin.ext (by show 0 * 723 + 1 * (j 1).val = (j 1).val; omega)

theorem block_mask (c : Dev nD) (t : Fin cfg0.N) : (iblk m c 3 t : S32x2892.Idx → BitVec 32) = inMask m c := by
  funext j
  show V m c main_arg3 _ = V m c main_arg3 j
  congr 1
  funext a
  match a with
  | ⟨0, _⟩ => exact Fin.ext (by show 0 * 32 + 1 * (j 0).val = (j 0).val; omega)
  | ⟨1, _⟩ => exact Fin.ext (by show 0 * 2892 + 1 * (j 1).val = (j 1).val; omega)

theorem block_cand (c : Dev nD) (t : Fin cfg0.N) : (iblk m c 4 t : S32x60.Idx → BitVec 32) = inCand m c := by
  funext j
  show V m c main_v1 _ = V m c main_v1 j
  congr 1
  funext a
  match a with
  | ⟨0, _⟩ => exact Fin.ext (by show 0 * 32 + 1 * (j 0).val = (j 0).val; omega)
  | ⟨1, _⟩ => exact Fin.ext (by show 0 * 60 + 1 * (j 1).val = (j 1).val; omega)

variable {m}

/-- The one step. -/
def step : Fin cfg0.N := ⟨0, by decide⟩

theorem final_out {r : PUnit × MemSt nD τ sig (Elt Ideal)} (h : Pipeline.FramePost cfgs (dats m) 0 (V m) r) (c : Dev nD) :
    r.2.mem ((c.tc : Thread nD τ).loc main_v2_0) = fun y : S32x92544.Idx =>
      masked (inRows m c) (inWeights m c) (inScales m c) (inMask m c) (y 0) (y 1) := by
  refine ((h c).1 5).trans ((dats m 0 c).arrAt_eq_of_after_last 5 step (by decide +kernel) _ fun y => ?_)
  rw [after0_5, block_rows, block_weights, block_scales, block_mask, block_cand]
  obtain ⟨i, j, rfl⟩ : ∃ (i : Fin 32) (j : Fin 92544), y = ix2 i j := ⟨y 0, y 1, eq_ix2 y⟩
  have ei : ∀ k : S32x92544.Idx, k = ix2 i j → out0_5 (F := Ideal) (inRows m c) (inWeights m c) (inScales m c) (inMask m c) (inCand m c) k
      = masked (inRows m c) (inWeights m c) (inScales m c) (inMask m c) i j :=
    fun k hk => hk ▸ out5_eq (inRows m c) (inWeights m c) (inScales m c) (inMask m c) (inCand m c) i j
  refine (eq_of_heq (cast_heq _ _)).trans ?_
  refine (ei _ ?_).trans ?_
  · funext a
    match a with
    | ⟨0, _⟩ => exact Fin.ext rfl
    | ⟨1, _⟩ => exact Fin.ext rfl
  · exact congrArg₂ (masked (inRows m c) (inWeights m c) (inScales m c) (inMask m c)) (Fin.ext rfl) (Fin.ext rfl)

theorem final_lse {r : PUnit × MemSt nD τ sig (Elt Ideal)} (h : Pipeline.FramePost cfgs (dats m) 0 (V m) r) (c : Dev nD) :
    r.2.mem ((c.tc : Thread nD τ).loc main_v2_1) = fun y : S32x1.Idx => lse (inRows m c) (inWeights m c) (inScales m c) (inMask m c) (y 0) := by
  refine ((h c).1 6).trans ((dats m 0 c).arrAt_eq_of_after_last 6 step (by decide +kernel) _ fun y => ?_)
  rw [after0_6, block_rows, block_weights, block_scales, block_mask, block_cand]
  obtain ⟨i, rfl⟩ : ∃ i : Fin 32, y = ix2 i (0 : Fin 1) :=
    ⟨y 0, (eq_ix2 y).trans (congrArg (ix2 _) (Subsingleton.elim (α := Fin 1) _ _))⟩
  exact out6_eq (inRows m c) (inWeights m c) (inScales m c) (inMask m c) (inCand m c) i

theorem final_lp {r : PUnit × MemSt nD τ sig (Elt Ideal)} (h : Pipeline.FramePost cfgs (dats m) 0 (V m) r) (c : Dev nD) :
    r.2.mem ((c.tc : Thread nD τ).loc main_v2_2) = fun y : S32x60.Idx => lp (inRows m c) (inWeights m c) (inScales m c) (inMask m c) (inCand m c) (y 0) (y 1) := by
  refine ((h c).1 7).trans ((dats m 0 c).arrAt_eq_of_after_last 7 step (by decide +kernel) _ fun y => ?_)
  rw [after0_7, block_rows, block_weights, block_scales, block_mask, block_cand]
  obtain ⟨i, j, rfl⟩ : ∃ (i : Fin 32) (j : Fin 60), y = ix2 i j := ⟨y 0, y 1, eq_ix2 y⟩
  exact out7_eq (inRows m c) (inWeights m c) (inScales m c) (inMask m c) (inCand m c) i j

theorem final_codes {r : PUnit × MemSt nD τ sig (Elt Ideal)} (h : Pipeline.FramePost cfgs (dats m) 0 (V m) r) (c : Dev nD) :
    r.2.mem ((c.tc : Thread nD τ).loc main_v2_3) = k0_pay4 (F := Ideal) (inRows m c) := by
  refine ((h c).1 8).trans ((dats m 0 c).arrAt_eq_of_after_last 8 step (by decide +kernel) _ fun y => ?_)
  rw [after0_8, block_rows, block_weights, block_scales, block_mask, block_cand]
  rw [out8_eq]
  rfl

theorem final_scales {r : PUnit × MemSt nD τ sig (Elt Ideal)} (h : Pipeline.FramePost cfgs (dats m) 0 (V m) r) (c : Dev nD) :
    r.2.mem ((c.tc : Thread nD τ).loc main_v2_4) = k0_pay5 (F := Ideal) (inRows m c) := by
  refine ((h c).1 9).trans ((dats m 0 c).arrAt_eq_of_after_last 9 step (by decide +kernel) _ fun y => ?_)
  rw [after0_9, block_rows, block_weights, block_scales, block_mask, block_cand]
  rw [out9_eq]
  rfl

end Arrays

end Cert.ReferenceIdeal.Body

end
-- ==== Proof.Scale.lean ====
/-
  The two scales of a row agree whenever its largest magnitude is 0 or lies where a scale can hold it.
-/
module

public import proofs.«01_k».proof.Proof.Exponent

@[expose] public section

noncomputable section

namespace Cert.Quantiser

open Idealize.ShloMosaic

/-- The reciprocal of the largest code, as an f32. -/
theorem recip_eq : Ideal.ofBits .f32 0x3B124925#32 = ((9586981 * (2 : ℝ) ^ (-32 : ℤ) : ℝ) : EReal) := by
  simp [Ideal.ofBits, Ideal.ieee, -EReal.coe_mul]

theorem least_eq : Ideal.ofBits .f32 0x04800000#32 = (((2 : ℝ) ^ (-118 : ℤ) : ℝ) : EReal) := by
  have e : IntOp.shli .vector (BitVec.ofNat 32 9) 23#32 = 0x04800000#32 := by decide
  rw [← e]; exact (power_normal 9 (by norm_num) (by norm_num)).trans (by norm_num)

theorem greatest_eq : Ideal.ofBits .f32 0x7F7F0000#32 = ((16711680 * (2 : ℝ) ^ (104 : ℤ) : ℝ) : EReal) := by
  simp [Ideal.ofBits, Ideal.ieee, -EReal.coe_mul]

/-- A row's largest magnitude is 0 or in the range of scales. -/
def Fits (a : EReal) : Prop := a = 0 ∨ Ideal.ofBits .f32 0x04800000#32 ≤ a ∧ a ≤ Ideal.ofBits .f32 0x7F7F0000#32

theorem scales_agree {a : EReal} (h : Fits a) :
    pow2 (exponent (a * Ideal.ofBits .f32 0x3B124925#32)) = Ideal.exp2 (if a = 0 then 0 else refExponent (a * Ideal.ofBits .f32 0x3B124925#32))
      ∧ pow2 (IntOp.subi 0#32 (exponent (a * Ideal.ofBits .f32 0x3B124925#32)))
        = Ideal.exp2 (0 - if a = 0 then 0 else refExponent (a * Ideal.ofBits .f32 0x3B124925#32)) := by
  by_cases h0 : a = 0
  · rw [h0, zero_mul, if_pos rfl]
    exact scale_eq_zero
  obtain ⟨hl, hu⟩ := h.resolve_left h0
  rw [if_neg h0]
  rw [least_eq] at hl
  rw [greatest_eq] at hu
  induction a with
  | bot => exact absurd hl (not_le.2 (EReal.bot_lt_coe _))
  | top => exact absurd hu (not_le.2 (EReal.coe_lt_top _))
  | coe a =>
    have hl' := EReal.coe_le_coe_iff.1 hl
    have hu' := EReal.coe_le_coe_iff.1 hu
    rw [recip_eq, ← EReal.coe_mul]
    refine scale_eq _ ?_ ?_
    · refine le_trans ?_ (mul_le_mul_of_nonneg_right hl' (by positivity))
      norm_num
    · refine lt_of_le_of_lt (mul_le_mul_of_nonneg_right hu' (by positivity)) ?_
      norm_num

end Cert.Quantiser

end
-- ==== Proof.Equation.lean ====
/-
  From the same arguments, under the precondition, the kernel's values are the reference's.
-/
module

public import proofs.«01_k».proof.Proof.KernelIdealBody.Final
public import proofs.«01_k».proof.Proof.KernelIdealBody.Quantise
public import proofs.«01_k».proof.Proof.ReferenceFinal
public import proofs.«01_k».proof.Proof.Scale

@[expose] public section

noncomputable section

namespace Cert.Equation

open Idealize.ShloMosaic

abbrev Rows := FVec Ideal (⟨2, ![32, 4096]⟩ : Shape) .bf16

/-- The shift of the two programs picks the same bit of a mask word: the kernel's amount is the lane number cut to five bits. -/
theorem maskBit_eq (w : BitVec 32) (v : ℕ) :
    KernelIdeal.Body.maskBit w ⟨v % 128, Nat.mod_lt _ (by norm_num)⟩
      = IntOp.cmpi .eq (IntOp.andi (IntOp.shrsi .vector w (BitVec.ofNat 32 (v % 32))) 1#32) 1#32 := by
  have e : BitVec.ofNat 32 (v % 128) &&& 31#32 = BitVec.ofNat 32 (v % 32) := by
    apply BitVec.eq_of_toNat_eq
    have h31 : (31#32 : BitVec 32).toNat = 2 ^ 5 - 1 := rfl
    rw [BitVec.toNat_and, h31, Nat.and_two_pow_sub_one_eq_mod, BitVec.toNat_ofNat, BitVec.toNat_ofNat]
    omega
  have hlt : (BitVec.ofNat 32 (v % 32)).toNat < 32 := by
    rw [BitVec.toNat_ofNat]; omega
  show IntOp.cmpi .eq (IntOp.andi (IntOp.shrsi .scalar w (BitVec.ofNat 32 (v % 128) &&& 31#32)) 1#32) 1#32 = _
  rw [e]
  unfold IntOp.shrsi
  rw [if_pos hlt, if_pos hlt]

theorem scales_eq (x : Rows) (hx : ∀ r, Quantiser.Fits (Quantiser.rowMax x r)) (r : Fin 32) :
    KernelIdeal.Body.scales x (ix2 r (0 : Fin 1)) = Ideal.exp2 (ReferenceIdeal.Body.expo x r) :=
  (KernelIdeal.Body.scales_apply x r).trans (Quantiser.scales_agree (hx r)).1

theorem codes_eq (x : Rows) (hx : ∀ r, Quantiser.Fits (Quantiser.rowMax x r)) (r : Fin 32) (k : Fin 4096) :
    KernelIdeal.Body.codes x (ix2 r k) = ReferenceIdeal.Body.code x r k := by
  rw [KernelIdeal.Body.codes_apply, (Quantiser.scales_agree (hx r)).2]
  rfl

/-- The row scales agree. -/
theorem all_scales (x : Rows) (hx : ∀ r, Quantiser.Fits (Quantiser.rowMax x r)) :
    ReferenceIdeal.Gen.k0_pay5 (F := Ideal) x = KernelIdeal.Body.scales x := by
  funext y
  obtain ⟨r, rfl⟩ : ∃ r : Fin 32, y = ix2 r (0 : Fin 1) :=
    ⟨y 0, (eq_ix2 y).trans (congrArg (ix2 _) (Subsingleton.elim (α := Fin 1) _ _))⟩
  rw [scales_eq x hx, ReferenceIdeal.Body.scale_apply]

/-- The codes agree. -/
theorem all_codes (x : Rows) (hx : ∀ r, Quantiser.Fits (Quantiser.rowMax x r)) :
    ReferenceIdeal.Gen.k0_pay4 (F := Ideal) x = KernelIdeal.Body.codes x := by
  funext y
  obtain ⟨r, k, rfl⟩ : ∃ (r : Fin 32) (k : Fin 4096), y = ix2 r k := ⟨y 0, y 1, eq_ix2 y⟩
  rw [codes_eq x hx, ReferenceIdeal.Body.code_apply]

/-- A sum over the columns that picks one of them out by its number. -/
theorem sum_pick {n : ℕ} (hn : n ≤ 4294967296) (x : BitVec 32) (g : Fin n → EReal) :
    (∑ v : Fin n, Scalar.select (IntOp.cmpi .eq (BitVec.ofNat 32 v.val) x) (g v) (0 : EReal)) = if h : x.toNat < n then g ⟨_, h⟩ else 0 := by
  have ev : ∀ v : Fin n, (BitVec.ofNat 32 v.val).toNat = v.val := fun v => by
    have := v.isLt
    rw [BitVec.toNat_ofNat]; omega
  have hne : ∀ v : Fin n, v.val ≠ x.toNat → Scalar.select (IntOp.cmpi .eq (BitVec.ofNat 32 v.val) x) (g v) (0 : EReal) = 0 := fun v hv =>
    KernelIdeal.Body.select_ne (fun h => hv (by rw [← h, ev])) _ _
  by_cases h : x.toNat < n
  · rw [dif_pos h, Finset.sum_eq_single (⟨x.toNat, h⟩ : Fin n) (fun v _ hv => hne v fun e => hv (Fin.ext e)) (fun hm => absurd (Finset.mem_univ _) hm)]
    exact KernelIdeal.Body.select_eq (BitVec.eq_of_toNat_eq (ev ⟨x.toNat, h⟩)) _ _
  · rw [dif_neg h]
    exact Finset.sum_eq_zero fun v _ => hne v fun e => h (e ▸ v.isLt)

section Values

open Idealize.ShloMosaic.TcCoe

variable (m : (ℓ : Loc KernelIdeal.nD KernelIdeal.τ KernelIdeal.sig) → Buf (Elt Ideal) ℓ) (c : Dev KernelIdeal.nD)

/-- A mask bit agrees. -/
theorem bit_eq (r : Fin 32) (v : Fin 92544) : KernelIdeal.Body.bit m c r v = ReferenceIdeal.Body.allows (KernelIdeal.Body.inMask m c) r v :=
  maskBit_eq _ v.val

variable (hx : ∀ r, Quantiser.Fits (Quantiser.rowMax (KernelIdeal.Body.inRows m c) r))
include hx

/-- A logit agrees. -/
theorem logit_eq (r : Fin 32) (v : Fin 92544) :
    KernelIdeal.Body.logit m c r v
      = ReferenceIdeal.Body.logit (KernelIdeal.Body.inRows m c) (KernelIdeal.Body.inWeights m c) (KernelIdeal.Body.inScales m c) r v := by
  unfold KernelIdeal.Body.logit ReferenceIdeal.Body.logit
  rw [scales_eq _ hx]
  congr 1
  refine Finset.sum_congr rfl fun k _ => ?_
  rw [codes_eq _ hx, mul_assoc]
  exact congrArg (fun z : EReal => ReferenceIdeal.Body.code (KernelIdeal.Body.inRows m c) r k * z) (mul_comm _ _)

theorem masked_eq (r : Fin 32) (v : Fin 92544) :
    KernelIdeal.Body.masked m c r v = ReferenceIdeal.Body.masked (KernelIdeal.Body.inRows m c) (KernelIdeal.Body.inWeights m c)
      (KernelIdeal.Body.inScales m c) (KernelIdeal.Body.inMask m c) r v := by
  unfold KernelIdeal.Body.masked ReferenceIdeal.Body.masked
  rw [bit_eq, logit_eq m c hx]

theorem reach_eq (r : Fin 32) :
    KernelIdeal.Body.reach m c r = ReferenceIdeal.Body.reach (KernelIdeal.Body.inRows m c) (KernelIdeal.Body.inWeights m c)
      (KernelIdeal.Body.inScales m c) (KernelIdeal.Body.inMask m c) r := by
  funext v
  unfold KernelIdeal.Body.reach ReferenceIdeal.Body.reach
  rw [bit_eq, logit_eq m c hx]

/-- A row's log-sum-exp agrees. -/
theorem lse_eq (r : Fin 32) :
    KernelIdeal.Body.lseValue m c r = ReferenceIdeal.Body.lse (KernelIdeal.Body.inRows m c) (KernelIdeal.Body.inWeights m c)
      (KernelIdeal.Body.inScales m c) (KernelIdeal.Body.inMask m c) r := by
  unfold KernelIdeal.Body.lseValue KernelIdeal.Body.peak ReferenceIdeal.Body.lse ReferenceIdeal.Body.top
  rw [reach_eq m c hx]

/-- A candidate's log-probability agrees. -/
theorem lp_eq (r : Fin 32) (j : Fin 60) :
    KernelIdeal.Body.lpValue m c r j = ReferenceIdeal.Body.lp (KernelIdeal.Body.inRows m c) (KernelIdeal.Body.inWeights m c)
      (KernelIdeal.Body.inScales m c) (KernelIdeal.Body.inMask m c) (KernelIdeal.Body.inCand m c) r j := by
  unfold KernelIdeal.Body.lpValue ReferenceIdeal.Body.lp
  rw [sum_pick (by norm_num)]
  simp only [bit_eq, logit_eq m c hx, lse_eq m c hx]

/-- The masked logits agree. -/
theorem all_masked :
    (fun y : KernelIdeal.S32x92544.Idx => ReferenceIdeal.Body.masked (KernelIdeal.Body.inRows m c) (KernelIdeal.Body.inWeights m c)
        (KernelIdeal.Body.inScales m c) (KernelIdeal.Body.inMask m c) (y 0) (y 1))
      = fun y : KernelIdeal.S32x92544.Idx => KernelIdeal.Body.masked m c (y 0) (y 1) :=
  funext fun y => (masked_eq m c hx (y 0) (y 1)).symm

/-- The rows' log-sum-exps agree. -/
theorem all_lse :
    (fun y : KernelIdeal.S32x1.Idx => ReferenceIdeal.Body.lse (KernelIdeal.Body.inRows m c) (KernelIdeal.Body.inWeights m c)
        (KernelIdeal.Body.inScales m c) (KernelIdeal.Body.inMask m c) (y 0))
      = fun y : KernelIdeal.S32x1.Idx => KernelIdeal.Body.lseValue m c (y 0) :=
  funext fun y => (lse_eq m c hx (y 0)).symm

/-- The candidates' log-probabilities agree. -/
theorem all_lp :
    (fun y : KernelIdeal.S32x60.Idx => ReferenceIdeal.Body.lp (KernelIdeal.Body.inRows m c) (KernelIdeal.Body.inWeights m c)
        (KernelIdeal.Body.inScales m c) (KernelIdeal.Body.inMask m c) (KernelIdeal.Body.inCand m c) (y 0) (y 1))
      = fun y : KernelIdeal.S32x60.Idx => KernelIdeal.Body.lpValue m c (y 0) (y 1) :=
  funext fun y => (lp_eq m c hx (y 0) (y 1)).symm

end Values

end Cert.Equation

end
-- ==== Proof.Precondition.lean ====
/-
  What the precondition says of the rows: the largest magnitude of each is 0 or in the range of scales.
-/
module

public import proofs.«01_k».proof.Pre_scales_fit
public import proofs.«01_k».proof.Proof.Scale
public import Idealize.ShloMosaic.Lib.ReduceAll

@[expose] public section

noncomputable section

namespace Cert.Pre_scales_fit.Body

open Idealize.ShloMosaic
open Cert.Pre_scales_fit

theorem facts : Facts where
  bitsLt_bf16_f32 := by decide
  reducesTo_S32x1x4096_S32x1_d2 := by decide
  h_S_ := by decide
  bcast_S_S32x1 := by decide
  reducesTo_S32x1_S_d0_1 := by decide

instance : Facts := facts

theorem or_and_eq_one : ∀ p q r : Bool,
    IntOp.ori (BitVec.ofBool p) (IntOp.andi (BitVec.ofBool q) (BitVec.ofBool r)) = 1#1 → p = true ∨ q = true ∧ r = true := by
  decide

theorem rows_fit (x : FVec Ideal S32x1x4096 .bf16) (a1 : FVec Ideal S4096x92544 .fp8e4m3) (a2 : FVec Ideal S32x723 .f32)
    (a3 : IVec S32x2892 32) (a4 : IVec S32x1x60 32) (h : fn (F := Ideal) x a1 a2 a3 a4 = fun _ => 1#1) (r : Fin 32) :
    Quantiser.Fits (Quantiser.rowMax (fun i => x (ix3 (i 0) (0 : Fin 1) (i 1))) r) := by
  have e := congrFun h (Shape.Idx.first Facts.h_S_)
  have hs : Subsingleton S_.Idx := ⟨fun a b => funext fun i => i.elim0⟩
  have k := Host.reduce_andi_all _ _ _ _ _ e (ix2 r (0 : Fin 1))
  clear e h
  revert k
  pointwise
  intro k
  have d := or_and_eq_one _ _ _ k
  simp only [decide_eq_true_eq] at d
  exact d

end Cert.Pre_scales_fit.Body

end
-- ==== Proof.Entry.lean ====
/-
  What the host hands the two calls: the rows and the candidates with their middle axis dropped.
-/
module

public import proofs.«01_k».proof.Proof.Gen.KernelIdeal.Frame
public import proofs.«01_k».proof.Proof.Gen.ReferenceIdeal.Frame
public import Idealize.ShloMosaic.Lib.Pointwise

@[expose] public section

noncomputable section

open Idealize.ShloMosaic
open Idealize.ShloMosaic.TcCoe

namespace Cert.KernelIdeal.Body

open Cert.KernelIdeal Cert.KernelIdeal.Gen

theorem V_main_v0 (m : (ℓ : Loc nD τ sig) → Buf (Elt Ideal) ℓ) (c : Dev nD) :
    V m c main_v0 = shapeCast S32x4096 (m ((c : Thread nD τ).loc main_arg0) : S32x1x4096.Idx → EReal) shapeCasts_S32x1x4096_S32x4096 := by
  show StableHlo.after hostOps0 _ (Proc.devRef .tc main_v0) = _
  after_results
  rfl

theorem V_main_v1 (m : (ℓ : Loc nD τ sig) → Buf (Elt Ideal) ℓ) (c : Dev nD) :
    V m c main_v1 = shapeCast S32x60 (m ((c : Thread nD τ).loc main_arg4) : S32x1x60.Idx → BitVec 32) shapeCasts_S32x1x60_S32x60 := by
  show StableHlo.after hostOps0 _ (Proc.devRef .tc main_v1) = _
  after_results
  rfl

/-- Dropping the middle axis, element by element. -/
theorem rows_eq (x : S32x1x4096.Idx → EReal) :
    (fun i : S32x4096.Idx => x (ix3 (i 0) (0 : Fin 1) (i 1))) = shapeCast S32x4096 x shapeCasts_S32x1x4096_S32x4096 := by
  funext i
  obtain ⟨r, k, rfl⟩ : ∃ (r : Fin 32) (k : Fin 4096), i = ix2 r k := ⟨i 0, i 1, eq_ix2 i⟩
  pointwise

end Cert.KernelIdeal.Body

namespace Cert.ReferenceIdeal.Body

open Cert.ReferenceIdeal Cert.ReferenceIdeal.Gen

theorem V_main_v0 (m : (ℓ : Loc nD τ sig) → Buf (Elt Ideal) ℓ) (c : Dev nD) :
    V m c main_v0 = shapeCast S32x4096 (m ((c : Thread nD τ).loc main_arg0) : S32x1x4096.Idx → EReal) shapeCasts_S32x1x4096_S32x4096 := by
  show StableHlo.after hostOps0 _ (Proc.devRef .tc main_v0) = _
  after_results
  rfl

theorem V_main_v1 (m : (ℓ : Loc nD τ sig) → Buf (Elt Ideal) ℓ) (c : Dev nD) :
    V m c main_v1 = shapeCast S32x60 (m ((c : Thread nD τ).loc main_arg4) : S32x1x60.Idx → BitVec 32) shapeCasts_S32x1x60_S32x60 := by
  show StableHlo.after hostOps0 _ (Proc.devRef .tc main_v1) = _
  after_results
  rfl

end Cert.ReferenceIdeal.Body

end
-- ==== Proof.lean ====
/-
  The certificate's claims: the frames of the kernel at the machine's floats and of the ideal kernel and the reference over the
  extended reals, that the ideal kernel is the kernel's own text, and that all five results of the ideal kernel are the reference's.
-/
module

public import proofs.«01_k».proof.Defs
public import proofs.«01_k».proof.Proof.KernelBody.Frame
public import proofs.«01_k».proof.Proof.Equation
public import proofs.«01_k».proof.Proof.Precondition
public import proofs.«01_k».proof.Proof.Entry

@[expose] public section

noncomputable section

namespace Cert.Proof

open Idealize.ShloMosaic Idealize.SL.Sem

/-- The rows that the kernel is handed satisfy the precondition's bounds. -/
theorem rows_fit {m : (ℓ : Loc Cert.KernelIdeal.nD Cert.KernelIdeal.τ Cert.KernelIdeal.sig) → Buf (Elt Ideal) ℓ}
    (h : Cert.Pre_KernelIdeal_scales_fit (hPre_scales_fit := Cert.Pre_scales_fit.Body.facts) m) (c : Dev Cert.KernelIdeal.nD) (r : Fin 32) :
    Quantiser.Fits (Quantiser.rowMax (KernelIdeal.Body.inRows m c) r) := by
  have e := Pre_scales_fit.Body.rows_fit _ _ _ _ _ (h c) r
  refine Eq.mp (congrArg (fun X => Quantiser.Fits (Quantiser.rowMax X r)) ?_) e
  exact (KernelIdeal.Body.rows_eq _).trans (KernelIdeal.Body.V_main_v0 m c).symm

theorem algebraic : Cert.algebraic_KernelIdeal_ReferenceIdeal_pre_scales_fit (hKernelIdeal := Cert.KernelIdeal.Gen.facts)
    (hReferenceIdeal := Cert.ReferenceIdeal.Gen.facts) (hPre_scales_fit := Cert.Pre_scales_fit.Body.facts) := by
  intro m g m' g' hpre hargs
  have hx := fun c => rows_fit hpre c
  have e0 : ∀ c, ReferenceIdeal.Body.inRows m' c = KernelIdeal.Body.inRows m c := fun c => by
    unfold ReferenceIdeal.Body.inRows KernelIdeal.Body.inRows
    rw [KernelIdeal.Body.V_main_v0, ReferenceIdeal.Body.V_main_v0, (hargs c).1]
  have e1 : ∀ c, ReferenceIdeal.Body.inWeights m' c = KernelIdeal.Body.inWeights m c := fun c =>
    (ReferenceIdeal.Gen.V_main_arg1 m' c).trans ((hargs c).2.1.trans (KernelIdeal.Gen.V_main_arg1 m c).symm)
  have e2 : ∀ c, ReferenceIdeal.Body.inScales m' c = KernelIdeal.Body.inScales m c := fun c =>
    (ReferenceIdeal.Gen.V_main_arg2 m' c).trans ((hargs c).2.2.1.trans (KernelIdeal.Gen.V_main_arg2 m c).symm)
  have e3 : ∀ c, ReferenceIdeal.Body.inMask m' c = KernelIdeal.Body.inMask m c := fun c =>
    (ReferenceIdeal.Gen.V_main_arg3 m' c).trans ((hargs c).2.2.2.1.trans (KernelIdeal.Gen.V_main_arg3 m c).symm)
  have e4 : ∀ c, ReferenceIdeal.Body.inCand m' c = KernelIdeal.Body.inCand m c := fun c => by
    unfold ReferenceIdeal.Body.inCand KernelIdeal.Body.inCand
    rw [KernelIdeal.Body.V_main_v1, ReferenceIdeal.Body.V_main_v1, (hargs c).2.2.2.2]
  refine ⟨fun c => fun y : KernelIdeal.S32x92544.Idx => KernelIdeal.Body.masked m c (y 0) (y 1),
    fun c => fun y : KernelIdeal.S32x1.Idx => KernelIdeal.Body.lseValue m c (y 0),
    fun c => fun y : KernelIdeal.S32x60.Idx => KernelIdeal.Body.lpValue m c (y 0) (y 1), fun c => KernelIdeal.Body.codes (KernelIdeal.Body.inRows m c),
    fun c => KernelIdeal.Body.scales (KernelIdeal.Body.inRows m c), ?_, ?_⟩
  · refine (θ_run _ _ _).mono (fun r h c => ?_) (KernelIdeal.Body.run_main m g (KernelIdeal.Body.Inv.value m) KernelIdeal.Body.value_steps)
    exact ⟨KernelIdeal.Body.final_out h.1 c, KernelIdeal.Body.final_lse h.1 c, KernelIdeal.Body.final_lp h.1 c, KernelIdeal.Body.final_codes h.1 c, KernelIdeal.Body.final_scales h.1 c,
      KernelIdeal.Body.final_args h.1 c⟩
  · refine (θ_run _ _ _).mono (fun r hr c => ?_) (θ_run_and (ReferenceIdeal.Gen.run_main m' g') (ReferenceIdeal.Gen.unchanged m' g'))
    obtain ⟨h, hk⟩ := hr
    refine ⟨?_, ?_, ?_, ?_, ?_, hk c⟩
    · refine (ReferenceIdeal.Body.final_out h c).trans ?_
      rw [e0, e1, e2, e3]
      exact Equation.all_masked m c (hx c)
    · refine (ReferenceIdeal.Body.final_lse h c).trans ?_
      rw [e0, e1, e2, e3]
      exact Equation.all_lse m c (hx c)
    · refine (ReferenceIdeal.Body.final_lp h c).trans ?_
      rw [e0, e1, e2, e3, e4]
      exact Equation.all_lp m c (hx c)
    · refine (ReferenceIdeal.Body.final_codes h c).trans ?_
      rw [e0]
      exact Equation.all_codes _ (hx c)
    · refine (ReferenceIdeal.Body.final_scales h c).trans ?_
      rw [e0]
      exact Equation.all_scales _ (hx c)

theorem claim : Cert.Claim := ⟨Cert.Kernel.Gen.facts, Cert.KernelIdeal.Gen.facts, Cert.ReferenceIdeal.Gen.facts, Cert.Pre_scales_fit.Body.facts,
  fun m ρ _ => Cert.Kernel.Body.frame m ρ, fun m ρ _ => Cert.KernelIdeal.Body.frame m ρ, fun m ρ _ => Cert.KernelIdeal.Body.frame m ρ,
  fun m ρ _ => Cert.ReferenceIdeal.Gen.frame m ρ, fun m ρ _ => Cert.ReferenceIdeal.Gen.frame m ρ, trivial, algebraic⟩

end Cert.Proof

end
